-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v121) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v10_1)) (v5 : (c : Dev Cert.Kernel2Ideal.nD) → Buf (Elt Ideal) ((c.tc : Thread Cert.Kernel2Ideal.nD Cert.Kernel2Ideal.τ).loc Cert.Kernel2Ideal.main_v9_2)) (v6 : (c : Dev Cert.Kernel2Ideal.nD) → Buf (Elt Ideal) ((c.tc : Thread Cert.Kernel2Ideal.nD Cert.Kernel2Ideal.τ).loc Cert.Kernel2Ideal.main_v9_3)) (v7 : (c : Dev Cert.Kernel2Ideal.nD) → Buf (Elt Ideal) ((c.tc : Thread Cert.Kernel2Ideal.nD Cert.Kernel2Ideal.τ).loc Cert.Kernel2Ideal.main_v9_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v10_1) = v4 c
          ∧ r.2.mem ((c.tc : Thread Cert.Kernel2Ideal.nD Cert.Kernel2Ideal.τ).loc Cert.Kernel2Ideal.main_v9_2) = v5 c
          ∧ r.2.mem ((c.tc : Thread Cert.Kernel2Ideal.nD Cert.Kernel2Ideal.τ).loc Cert.Kernel2Ideal.main_v9_3) = v6 c
          ∧ r.2.mem ((c.tc : Thread Cert.Kernel2Ideal.nD Cert.Kernel2Ideal.τ).loc Cert.Kernel2Ideal.main_v9_4) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v151) = v0 c
          ∧ r.2.mem ((c.tc : Thread Cert.Reference2Ideal.nD Cert.Reference2Ideal.τ).loc Cert.Reference2Ideal.main_v152) = v1 c
          ∧ r.2.mem ((c.tc : Thread Cert.Reference2Ideal.nD Cert.Reference2Ideal.τ).loc Cert.Reference2Ideal.main_v153) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_v155) = v4 c
          ∧ r.2.mem ((c.tc : Thread Cert.Reference2Ideal.nD Cert.Reference2Ideal.τ).loc Cert.Reference2Ideal.main_v156) = v5 c
          ∧ r.2.mem ((c.tc : Thread Cert.Reference2Ideal.nD Cert.Reference2Ideal.τ).loc Cert.Reference2Ideal.main_v157) = v6 c
          ∧ r.2.mem ((c.tc : Thread Cert.Reference2Ideal.nD Cert.Reference2Ideal.τ).loc Cert.Reference2Ideal.main_v158) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v8)) (v2 : (c : Dev Cert.Kernel5Ideal.nD) → Buf (Elt Ideal) ((c.tc : Thread Cert.Kernel5Ideal.nD Cert.Kernel5Ideal.τ).loc Cert.Kernel5Ideal.main_v9)) (v3 : (c : Dev Cert.Kernel5Ideal.nD) → Buf (Elt Ideal) ((c.tc : Thread Cert.Kernel5Ideal.nD Cert.Kernel5Ideal.τ).loc Cert.Kernel5Ideal.main_v10)) (v4 : (c : Dev Cert.Kernel5Ideal.nD) → Buf (Elt Ideal) ((c.tc : Thread Cert.Kernel5Ideal.nD Cert.Kernel5Ideal.τ).loc Cert.Kernel5Ideal.main_v7_3)) (v5 : (c : Dev Cert.Kernel5Ideal.nD) → Buf (Elt Ideal) ((c.tc : Thread Cert.Kernel5Ideal.nD Cert.Kernel5Ideal.τ).loc Cert.Kernel5Ideal.main_v7_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v8) = v1 c
          ∧ r.2.mem ((c.tc : Thread Cert.Kernel5Ideal.nD Cert.Kernel5Ideal.τ).loc Cert.Kernel5Ideal.main_v9) = v2 c
          ∧ r.2.mem ((c.tc : Thread Cert.Kernel5Ideal.nD Cert.Kernel5Ideal.τ).loc Cert.Kernel5Ideal.main_v10) = v3 c
          ∧ r.2.mem ((c.tc : Thread Cert.Kernel5Ideal.nD Cert.Kernel5Ideal.τ).loc Cert.Kernel5Ideal.main_v7_3) = v4 c
          ∧ r.2.mem ((c.tc : Thread Cert.Kernel5Ideal.nD Cert.Kernel5Ideal.τ).loc Cert.Kernel5Ideal.main_v7_4) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v49) = v2 c
          ∧ r.2.mem ((c.tc : Thread Cert.Reference5Ideal.nD Cert.Reference5Ideal.τ).loc Cert.Reference5Ideal.main_v50) = v3 c
          ∧ r.2.mem ((c.tc : Thread Cert.Reference5Ideal.nD Cert.Reference5Ideal.τ).loc Cert.Reference5Ideal.main_v51) = v4 c
          ∧ r.2.mem ((c.tc : Thread Cert.Reference5Ideal.nD Cert.Reference5Ideal.τ).loc Cert.Reference5Ideal.main_v52) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)) (v3 : (c : Dev Cert.Kernel11Ideal.nD) → Buf (Elt Ideal) ((c.tc : Thread Cert.Kernel11Ideal.nD Cert.Kernel11Ideal.τ).loc Cert.Kernel11Ideal.main_v8_3)) (v4 : (c : Dev Cert.Kernel11Ideal.nD) → Buf (Elt Ideal) ((c.tc : Thread Cert.Kernel11Ideal.nD Cert.Kernel11Ideal.τ).loc Cert.Kernel11Ideal.main_v8_4)) (v5 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_v8_3) = v3 c
          ∧ r.2.mem ((c.tc : Thread Cert.Kernel11Ideal.nD Cert.Kernel11Ideal.τ).loc Cert.Kernel11Ideal.main_v8_4) = v4 c
          ∧ r.2.mem ((c.tc : Thread Cert.Kernel11Ideal.nD Cert.Kernel11Ideal.τ).loc Cert.Kernel11Ideal.main_v9) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_v19) = v2 c
          ∧ r.2.mem ((c.tc : Thread Cert.Reference11Ideal.nD Cert.Reference11Ideal.τ).loc Cert.Reference11Ideal.main_v20) = v3 c
          ∧ r.2.mem ((c.tc : Thread Cert.Reference11Ideal.nD Cert.Reference11Ideal.τ).loc Cert.Reference11Ideal.main_v21) = v4 c
          ∧ r.2.mem ((c.tc : Thread Cert.Reference11Ideal.nD Cert.Reference11Ideal.τ).loc Cert.Reference11Ideal.main_v23) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v3_0)) (v3 : (c : Dev Cert.Kernel12Ideal.nD) → Buf (Elt Ideal) ((c.tc : Thread Cert.Kernel12Ideal.nD Cert.Kernel12Ideal.τ).loc Cert.Kernel12Ideal.main_v3_1)) (v4 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v3_0) = v2 c
          ∧ r.2.mem ((c.tc : Thread Cert.Kernel12Ideal.nD Cert.Kernel12Ideal.τ).loc Cert.Kernel12Ideal.main_v3_1) = v3 c
          ∧ r.2.mem ((c.tc : Thread Cert.Kernel12Ideal.nD Cert.Kernel12Ideal.τ).loc Cert.Kernel12Ideal.main_v3_2) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_v57) = v1 c
          ∧ r.2.mem ((c.tc : Thread Cert.Reference12Ideal.nD Cert.Reference12Ideal.τ).loc Cert.Reference12Ideal.main_v56) = v2 c
          ∧ r.2.mem ((c.tc : Thread Cert.Reference12Ideal.nD Cert.Reference12Ideal.τ).loc Cert.Reference12Ideal.main_v58) = v3 c
          ∧ r.2.mem ((c.tc : Thread Cert.Reference12Ideal.nD Cert.Reference12Ideal.τ).loc Cert.Reference12Ideal.main_v59) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v48) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v14) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg0) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S16384x512 : Shape := ⟨2, ![16384, 512]⟩
abbrev S1x512 : Shape := ⟨2, ![1, 512]⟩
abbrev S512x128 : Shape := ⟨2, ![512, 128]⟩
abbrev S128x4 : Shape := ⟨2, ![128, 4]⟩
abbrev S512x1024 : Shape := ⟨2, ![512, 1024]⟩
abbrev S512x512 : Shape := ⟨2, ![512, 512]⟩
abbrev S512x1 : Shape := ⟨2, ![512, 1]⟩
abbrev S128x128 : Shape := ⟨2, ![128, 128]⟩
abbrev S128x1 : Shape := ⟨2, ![128, 1]⟩
abbrev S128x512 : Shape := ⟨2, ![128, 512]⟩
abbrev S128 : Shape := ⟨1, ![128]⟩
abbrev S128x3 : Shape := ⟨2, ![128, 3]⟩
abbrev S384x128 : Shape := ⟨2, ![384, 128]⟩
abbrev S512x384 : Shape := ⟨2, ![512, 384]⟩
abbrev S128x2 : Shape := ⟨2, ![128, 2]⟩
abbrev S512x256 : Shape := ⟨2, ![512, 256]⟩
abbrev S256x128 : Shape := ⟨2, ![256, 128]⟩

abbrev nBuf : Space → Nat
  | .hbm => 15
  | .vmem => 14
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S16384x1024, .bf16⟩
  | .hbm, ⟨5, _⟩ => ⟨S16384x512, .bf16⟩
  | .hbm, ⟨6, _⟩ => ⟨S1x512, .f32⟩
  | .hbm, ⟨7, _⟩ => ⟨S1x512, .f32⟩
  | .hbm, ⟨8, _⟩ => ⟨S512x128, .f32⟩
  | .hbm, ⟨9, _⟩ => ⟨S128x4, .f32⟩
  | .hbm, ⟨10, _⟩ => ⟨S16384x1024, .bf16⟩
  | .hbm, ⟨11, _⟩ => ⟨S1x512, .f32⟩
  | .hbm, ⟨12, _⟩ => ⟨S1x512, .f32⟩
  | .hbm, ⟨13, _⟩ => ⟨S512x128, .f32⟩
  | .hbm, ⟨14, _⟩ => ⟨S128x4, .f32⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S512x128, .f32⟩
  | .local _ .vmem, ⟨5, _⟩ => ⟨S128x4, .f32⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1x512, .f32⟩
  | .local _ .vmem, ⟨11, _⟩ => ⟨S1x512, .f32⟩
  | .local _ .vmem, ⟨12, _⟩ => ⟨S512x128, .f32⟩
  | .local _ .vmem, ⟨13, _⟩ => ⟨S128x4, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S512x128 : Shape := ⟨2, ![512, 128]⟩

abbrev nBuf : Space → Nat
  | .hbm => 170
  | .vmem => 0
  | .smem => 0
  | _ => 0

abbrev hbmTy0_0 (i : Nat) : BufTy := match i % 128 with
  | 0 => ⟨S512, .f32⟩
  | 1 => ⟨S512, .f32⟩
  | 2 => ⟨S4x128x128, .f32⟩
  | 3 => ⟨S4x128, .f32⟩
  | 4 => ⟨S16384x1024, .bf16⟩
  | 5 => ⟨S16384x512, .bf16⟩
  | 6 => ⟨S16384x1024, .f32⟩
  | 7 => ⟨S16384x1024, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | 35 => ⟨S16384x512, .f32⟩
  | 36 => ⟨S16384x512, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S16384x512, .f32⟩
  | 44 => ⟨S16384x512, .f32⟩
  | 45 => ⟨S16384x512, .f32⟩
  | 46 => ⟨S_, .f32⟩
  | 47 => ⟨S16384x512, .f32⟩
  | 48 => ⟨S16384x512, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x512, .f32⟩
  | 64 => ⟨S16384x512, .f32⟩
  | 65 => ⟨S1x512, .f32⟩
  | 66 => ⟨S16384x512, .f32⟩
  | 67 => ⟨S16384x512, .f32⟩
  | 68 => ⟨S1x512, .f32⟩
  | 69 => ⟨S16384x512, .f32⟩
  | 70 => ⟨S16384x512, .f32⟩
  | 71 => ⟨S128x128x4x128, .f32⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S4x128x128, .i1⟩
  | 79 => ⟨S_, .f32⟩
  | 80 => ⟨S4x128x128, .f32⟩
  | 81 => ⟨S4x128x128, .f32⟩
  | 82 => ⟨S_, .f32⟩
  | 83 => ⟨S4x128x128, .f32⟩
  | 84 => ⟨S4x128x128x128, .f32⟩
  | 85 => ⟨S128x128x4x128, .f32⟩
  | 86 => ⟨S128x4, .f32⟩
  | 87 => ⟨S1x128x4x1, .f32⟩
  | 88 => ⟨S128x128x4x128, .f32⟩
  | 89 => ⟨S128x128x4x128, .f32⟩
  | 90 => ⟨S16384x512, .f32⟩
  | 91 => ⟨S16384x512, .f32⟩
  | 92 => ⟨S16384x512, .f32⟩
  | 93 => ⟨S16384x512, .f32⟩
  | 94 => ⟨S16384x512, .f32⟩
  | 95 => ⟨S128x128x4x128, .f32⟩
  | 96 => ⟨S_, .f32⟩
  | 97 => ⟨S128x4, .f32⟩
  | 98 => ⟨S1x128x4x1, .f32⟩
  | 99 => ⟨S_, .f32⟩
  | 100 => ⟨S128x4, .f32⟩
  | 101 => ⟨S4x128, .f32⟩
  | 102 => ⟨S4x128x128x128, .f32⟩
  | 103 => ⟨S4x128x128, .f32⟩
  | 104 => ⟨S4x128x128x128, .f32⟩
  | 105 => ⟨S128x128x4x128, .f32⟩
  | 106 => ⟨S_, .f32⟩
  | 107 => ⟨S4x128x128, .f32⟩
  | 108 => ⟨S4x128x128, .f32⟩
  | 109 => ⟨S16384x512, .f32⟩
  | 110 => ⟨S_, .f32⟩
  | 111 => ⟨S512, .f32⟩
  | 112 => ⟨S1x512, .f32⟩
  | 113 => ⟨S_, .f32⟩
  | 114 => ⟨S512, .f32⟩
  | 115 => ⟨S16384x512, .f32⟩
  | 116 => ⟨S_, .f32⟩
  | 117 => ⟨S512, .f32⟩
  | 118 => ⟨S1x512, .f32⟩
  | 119 => ⟨S16384x512, .f32⟩
  | 120 => ⟨S16384x512, .f32⟩
  | 121 => ⟨S_, .f32⟩
  | 122 => ⟨S512, .f32⟩
  | 123 => ⟨S16384x512, .f32⟩
  | 124 => ⟨S_, .f32⟩
  | 125 => ⟨S16384, .f32⟩
  | 126 => ⟨S16384x1, .f32⟩
  | 127 => ⟨S16384x512, .f32⟩
  | _ => ⟨S512, .f32⟩

abbrev hbmTy0_1 (i : Nat) : BufTy := match i % 128 with
  | 0 => ⟨S16384x512, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x512, .f32⟩
  | 8 => ⟨S16384x512, .f32⟩
  | 9 => ⟨S16384x512, .f32⟩
  | 10 => ⟨S16384x512, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384, .f32⟩
  | 19 => ⟨S16384x512, .f32⟩
  | 20 => ⟨S16384x512, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S16384x1024, .f32⟩
  | 36 => ⟨S16384x1024, .f32⟩
  | 37 => ⟨S16384x1024, .bf16⟩
  | 38 => ⟨S1x512, .f32⟩
  | 39 => ⟨S1x512, .f32⟩
  | 40 => ⟨S512x128, .f32⟩
  | 41 => ⟨S128x4, .f32⟩
  | _ => ⟨S512, .f32⟩

abbrev hbmTy (i : Nat) : BufTy := match i / 128 with
  | 0 => hbmTy0_0 i
  | 1 => hbmTy0_1 i
  | _ => ⟨S512, .f32⟩

abbrev bufTy : (tb : Table) → Fin (tcTables nBuf tb) → BufTy
  | .hbm, ⟨i, _⟩ => hbmTy i
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v52_1 : Ref sig .tc := ⟨.hbm, 78, rfl⟩
abbrev main_call0_cst : Ref sig .tc := ⟨.hbm, 79, rfl⟩
abbrev main_call0_v6 : Ref sig .tc := ⟨.hbm, 80, rfl⟩
abbrev main_v52_0 : Ref sig .tc := ⟨.hbm, 81, rfl⟩
abbrev main_call0_cst_0 : Ref sig .tc := ⟨.hbm, 82, rfl⟩
abbrev main_v52_2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call1_cst : Ref sig .tc := ⟨.hbm, 106, rfl⟩
abbrev main_call1_v0 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_20 : Ref sig .tc := ⟨.hbm, 130, rfl⟩
abbrev main_v90 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_cst_24 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_25 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_26 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_27 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩

abbrev nD : Nat := 1
abbrev τ : Topo := Topo.v7x

variable {F : FTy → Type} [FloatOps F]
-- ==== Kernel2.lean ====
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S16384x1024 : Shape := ⟨2, ![16384, 1024]⟩
abbrev S1x1024 : Shape := ⟨2, ![1, 1024]⟩
abbrev S1x4096 : Shape := ⟨2, ![1, 4096]⟩
abbrev S512x1024 : Shape := ⟨2, ![512, 1024]⟩
abbrev S512 : Shape := ⟨1, ![512]⟩
abbrev S512x1 : Shape := ⟨2, ![512, 1]⟩
abbrev S16384x4096 : Shape := ⟨2, ![16384, 4096]⟩
abbrev S1024x2048 : Shape := ⟨2, ![1024, 2048]⟩
abbrev S1x2048 : Shape := ⟨2, ![1, 2048]⟩
abbrev S512x2048 : Shape := ⟨2, ![512, 2048]⟩
abbrev S512x4096 : Shape := ⟨2, ![512, 4096]⟩
abbrev S2048x1024 : Shape := ⟨2, ![2048, 1024]⟩
abbrev S2048 : Shape := ⟨1, ![2048]⟩

abbrev nBuf : Space → Nat
  | .hbm => 34
  | .vmem => 72
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024x4096, .bf16⟩
  | .hbm, ⟨3, _⟩ => ⟨S4096, .f32⟩
  | .hbm, ⟨4, _⟩ => ⟨S4096x1024, .bf16⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1x1024, .f32⟩
  | .hbm, ⟨13, _⟩ => ⟨S1x4096, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16384x4096, .bf16⟩
  | .hbm, ⟨20, _⟩ => ⟨S16384x4096, .bf16⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x4096, .bf16⟩
  | .hbm, ⟨28, _⟩ => ⟨S1x4096, .f32⟩
  | .hbm, ⟨29, _⟩ => ⟨S16384x1024, .f32⟩
  | .hbm, ⟨30, _⟩ => ⟨S16384x1024, .f32⟩
  | .hbm, ⟨31, _⟩ => ⟨S16384x1024, .bf16⟩
  | .hbm, ⟨32, _⟩ => ⟨S1x1024, .f32⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x4096, .bf16⟩
  | .local _ .vmem, ⟨21, _⟩ => ⟨S512x4096, .bf16⟩
  | .local _ .vmem, ⟨22, _⟩ => ⟨S4096x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .bf16⟩
  | .local _ .vmem, ⟨37, _⟩ => ⟨S512x1024, .bf16⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S512x1024, .bf16⟩
  | .local _ .vmem, ⟨42, _⟩ => ⟨S512x1024, .bf16⟩
  | .local _ .vmem, ⟨43, _⟩ => ⟨S2048x1024, .bf16⟩
  | .local _ .vmem, ⟨44, _⟩ => ⟨S2048x1024, .bf16⟩
  | .local _ .vmem, ⟨45, _⟩ => ⟨S512x2048, .bf16⟩
  | .local _ .vmem, ⟨46, _⟩ => ⟨S512x2048, .bf16⟩
  | .local _ .vmem, ⟨47, _⟩ => ⟨S512x2048, .bf16⟩
  | .local _ .vmem, ⟨48, _⟩ => ⟨S512x2048, .bf16⟩
  | .local _ .vmem, ⟨49, _⟩ => ⟨S1x2048, .f32⟩
  | .local _ .vmem, ⟨50, _⟩ => ⟨S1x2048, .f32⟩
  | .local _ .vmem, ⟨51, _⟩ => ⟨S512x4096, .bf16⟩
  | .local _ .vmem, ⟨52, _⟩ => ⟨S512x4096, .bf16⟩
  | .local _ .vmem, ⟨53, _⟩ => ⟨S1024x4096, .bf16⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S1x1024, .f32⟩
  | .local _ .vmem, ⟨61, _⟩ => ⟨S1x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .bf16⟩
  | .local _ .vmem, ⟨69, _⟩ => ⟨S512x1024, .bf16⟩
  | .local _ .vmem, ⟨70, _⟩ => ⟨S1x1024, .f32⟩
  | .local _ .vmem, ⟨71, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v10_0 : Ref sig .tc := ⟨.hbm, 27, rfl⟩
abbrev main_v10_1 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg10_0 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg3_1 : Ref sig .tc := ⟨.vmem, 48, rfl⟩
abbrev cc4_stg4_0 : Ref sig .tc := ⟨.vmem, 49, rfl⟩
abbrev cc4_stg4_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg2_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg4_1 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg6_1 : Ref sig .tc := ⟨.vmem, 67, rfl⟩
abbrev cc6_stg7_0 : Ref sig .tc := ⟨.vmem, 68, rfl⟩
abbrev cc6_stg7_1 : Ref sig .tc := ⟨.vmem, 69, rfl⟩
abbrev cc6_stg8_0 : Ref sig .tc := ⟨.vmem, 70, rfl⟩
abbrev cc6_stg9_0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem9_0 : DmaSem sig := 39
abbrev cc3_sem10_0 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem3_1 : DmaSem sig := 48
abbrev cc4_sem4_0 : DmaSem sig := 49
abbrev cc4_sem4_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem2_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem4_1 : DmaSem sig := 63
abbrev cc6_sem5_0 : DmaSem sig := 64
abbrev cc6_sem5_1 : DmaSem sig := 65
abbrev cc6_sem6_0 : DmaSem sig := 66
abbrev cc6_sem6_1 : DmaSem sig := 67
abbrev cc6_sem7_0 : DmaSem sig := 68
abbrev cc6_sem7_1 : DmaSem sig := 69
abbrev cc6_sem8_0 : DmaSem sig := 70
abbrev cc6_sem9_0 : DmaSem sig := 71

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![1, 32, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨3, ![2, 32, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S512x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S1x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false, false]

abbrev grid5 : Pipeline.Grid := ⟨3, ![1, 32, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S1x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]
-- ==== Reference2Ideal.lean ====
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1x4096 : Shape := ⟨2, ![1, 4096]⟩

abbrev nBuf : Space → Nat
  | .hbm => 218
  | .vmem => 0
  | .smem => 0
  | _ => 0

abbrev hbmTy0_0 (i : Nat) : BufTy := match i % 128 with
  | 0 => ⟨S1024, .f32⟩
  | 1 => ⟨S1024, .f32⟩
  | 2 => ⟨S1024x4096, .bf16⟩
  | 3 => ⟨S4096, .f32⟩
  | 4 => ⟨S4096x1024, .bf16⟩
  | 5 => ⟨S1024, .f32⟩
  | 6 => ⟨S1024, .f32⟩
  | 7 => ⟨S1024, .f32⟩
  | 8 => ⟨S16384x1024, .f32⟩
  | 9 => ⟨S16384x1024, .f32⟩
  | 10 => ⟨S16384x1024, .f32⟩
  | 11 => ⟨S1024x4096, .f32⟩
  | 12 => ⟨S4096x1024, .f32⟩
  | 13 => ⟨S_, .f32⟩
  | 14 => ⟨S16384x1024, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S1x1024, .f32⟩
  | 49 => ⟨S16384x1024, .f32⟩
  | 50 => ⟨S16384x1024, .f32⟩
  | 51 => ⟨S16384x4096, .f32⟩
  | 52 => ⟨S1x4096, .f32⟩
  | 53 => ⟨S16384x4096, .f32⟩
  | 54 => ⟨S16384x4096, .f32⟩
  | 55 => ⟨S_, .f32⟩
  | 56 => ⟨S16384x4096, .f32⟩
  | 57 => ⟨S16384x4096, .f32⟩
  | 58 => ⟨S_, .f32⟩
  | 59 => ⟨S16384x4096, .f32⟩
  | 60 => ⟨S16384x4096, .i1⟩
  | 61 => ⟨S_, .f32⟩
  | 62 => ⟨S16384x4096, .f32⟩
  | 63 => ⟨S16384x4096, .f32⟩
  | 64 => ⟨S_, .f32⟩
  | 65 => ⟨S16384x4096, .f32⟩
  | 66 => ⟨S16384x4096, .f32⟩
  | 67 => ⟨S_, .f32⟩
  | 68 => ⟨S16384x1024, .f32⟩
  | 69 => ⟨S16384x1024, .f32⟩
  | 70 => ⟨S16384x1024, .f32⟩
  | 71 => ⟨S1x1024, .f32⟩
  | 72 => ⟨S16384x1024, .f32⟩
  | 73 => ⟨S16384x1024, .f32⟩
  | 74 => ⟨S16384x1024, .f32⟩
  | 75 => ⟨S_, .f32⟩
  | 76 => ⟨S16384, .f32⟩
  | 77 => ⟨S16384x1, .f32⟩
  | 78 => ⟨S_, .f32⟩
  | 79 => ⟨S16384x1, .f32⟩
  | 80 => ⟨S16384x1, .f32⟩
  | 81 => ⟨S16384x1024, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x1, .f32⟩
  | 97 => ⟨S16384x1, .f32⟩
  | 98 => ⟨S_, .f32⟩
  | 99 => ⟨S16384x1, .f32⟩
  | 100 => ⟨S16384x1, .f32⟩
  | 101 => ⟨S16384x1024, .f32⟩
  | 102 => ⟨S16384x1024, .f32⟩
  | 103 => ⟨S1x1024, .f32⟩
  | 104 => ⟨S16384x1024, .f32⟩
  | 105 => ⟨S16384x1024, .f32⟩
  | 106 => ⟨S1x1024, .f32⟩
  | 107 => ⟨S16384x1024, .f32⟩
  | 108 => ⟨S16384x1024, .f32⟩
  | 109 => ⟨S16384x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S16384x1024, .f32⟩
  | 116 => ⟨S_, .f32⟩
  | 117 => ⟨S1024, .f32⟩
  | 118 => ⟨S1x1024, .f32⟩
  | 119 => ⟨S16384x1024, .f32⟩
  | 120 => ⟨S16384x1024, .f32⟩
  | 121 => ⟨S_, .f32⟩
  | 122 => ⟨S1024, .f32⟩
  | 123 => ⟨S16384x1024, .f32⟩
  | 124 => ⟨S_, .f32⟩
  | 125 => ⟨S16384, .f32⟩
  | 126 => ⟨S16384x1, .f32⟩
  | 127 => ⟨S16384x1024, .f32⟩
  | _ => ⟨S1024, .f32⟩

abbrev hbmTy0_1 (i : Nat) : BufTy := match i % 128 with
  | 0 => ⟨S16384x1024, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x1024, .f32⟩
  | 8 => ⟨S16384x1024, .f32⟩
  | 9 => ⟨S16384x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384, .f32⟩
  | 19 => ⟨S16384x1024, .f32⟩
  | 20 => ⟨S16384x1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S16384x4096, .f32⟩
  | 27 => ⟨S_, .f32⟩
  | 28 => ⟨S16384x1024, .f32⟩
  | 29 => ⟨S16384x1024, .f32⟩
  | 30 => ⟨S16384x4096, .f32⟩
  | 31 => ⟨S_, .f32⟩
  | 32 => ⟨S16384x4096, .f32⟩
  | 33 => ⟨S16384x4096, .f32⟩
  | 34 => ⟨S_, .f32⟩
  | 35 => ⟨S4096, .f32⟩
  | 36 => ⟨S1x4096, .f32⟩
  | 37 => ⟨S_, .f32⟩
  | 38 => ⟨S4096, .f32⟩
  | 39 => ⟨S16384x1024, .f32⟩
  | 40 => ⟨S16384x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S16384x1024, .f32⟩
  | 47 => ⟨S_, .f32⟩
  | 48 => ⟨S1024, .f32⟩
  | 49 => ⟨S1x1024, .f32⟩
  | 50 => ⟨S16384x1024, .f32⟩
  | 51 => ⟨S16384x1024, .f32⟩
  | 52 => ⟨S_, .f32⟩
  | 53 => ⟨S1024, .f32⟩
  | 54 => ⟨S16384x1024, .f32⟩
  | 55 => ⟨S_, .f32⟩
  | 56 => ⟨S16384, .f32⟩
  | 57 => ⟨S16384x1, .f32⟩
  | 58 => ⟨S16384x1024, .f32⟩
  | 59 => ⟨S16384x1024, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384, .f32⟩
  | 66 => ⟨S16384x1024, .f32⟩
  | 67 => ⟨S16384x1024, .f32⟩
  | 68 => ⟨S16384x1024, .f32⟩
  | 69 => ⟨S16384x1024, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S_, .f32⟩
  | 77 => ⟨S16384, .f32⟩
  | 78 => ⟨S16384x1024, .f32⟩
  | 79 => ⟨S16384x1024, .f32⟩
  | 80 => ⟨S_, .f32⟩
  | 81 => ⟨S16384x1024, .f32⟩
  | 82 => ⟨S16384x1024, .f32⟩
  | 83 => ⟨S16384x1024, .bf16⟩
  | 84 => ⟨S1x1024, .f32⟩
  | 85 => ⟨S1x1024, .f32⟩
  | 86 => ⟨S1x4096, .f32⟩
  | 87 => ⟨S1x1024, .f32⟩
  | 88 => ⟨S1x1024, .f32⟩
  | 89 => ⟨S1x1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_cst_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_17 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_cst_22 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_23 : Ref sig .tc := ⟨.hbm, 130, rfl⟩
abbrev main_v93 : Ref sig .tc := ⟨.hbm, 131, rfl⟩
abbrev main_v94 : Ref sig .tc := ⟨.hbm, 132, rfl⟩
abbrev main_cst_24 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_25 : Ref sig .tc := ⟨.hbm, 139, rfl⟩
abbrev main_v100 : Ref sig .tc := ⟨.hbm, 140, rfl⟩
abbrev main_v101 : Ref sig .tc := ⟨.hbm, 141, rfl⟩
abbrev main_cst_26 : Ref sig .tc := ⟨.hbm, 142, rfl⟩
abbrev main_v102 : Ref sig .tc := ⟨.hbm, 143, rfl⟩
abbrev main_v103 : Ref sig .tc := ⟨.hbm, 144, rfl⟩
abbrev main_cst_27 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_28 : Ref sig .tc := ⟨.hbm, 149, rfl⟩
abbrev main_v107 : Ref sig .tc := ⟨.hbm, 150, rfl⟩
abbrev main_v108 : Ref sig .tc := ⟨.hbm, 151, rfl⟩
abbrev main_cst_29 : Ref sig .tc := ⟨.hbm, 152, rfl⟩
abbrev main_v109 : Ref sig .tc := ⟨.hbm, 153, rfl⟩
abbrev main_v110 : Ref sig .tc := ⟨.hbm, 154, rfl⟩
abbrev main_cst_30 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_31 : Ref sig .tc := ⟨.hbm, 159, rfl⟩
abbrev main_v114 : Ref sig .tc := ⟨.hbm, 160, rfl⟩
abbrev main_v115 : Ref sig .tc := ⟨.hbm, 161, rfl⟩
abbrev main_cst_32 : Ref sig .tc := ⟨.hbm, 162, rfl⟩
abbrev main_v116 : Ref sig .tc := ⟨.hbm, 163, rfl⟩
abbrev main_v117 : Ref sig .tc := ⟨.hbm, 164, rfl⟩
abbrev main_cst_33 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_34 : Ref sig .tc := ⟨.hbm, 169, rfl⟩
abbrev main_v121 : Ref sig .tc := ⟨.hbm, 170, rfl⟩
abbrev main_v122 : Ref sig .tc := ⟨.hbm, 171, rfl⟩
abbrev main_cst_35 : Ref sig .tc := ⟨.hbm, 172, rfl⟩
abbrev main_v123 : Ref sig .tc := ⟨.hbm, 173, rfl⟩
abbrev main_v124 : Ref sig .tc := ⟨.hbm, 174, rfl⟩
abbrev main_cst_36 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_37 : Ref sig .tc := ⟨.hbm, 180, rfl⟩
abbrev main_v129 : Ref sig .tc := ⟨.hbm, 181, rfl⟩
abbrev main_v130 : Ref sig .tc := ⟨.hbm, 182, rfl⟩
abbrev main_cst_38 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_39 : Ref sig .tc := ⟨.hbm, 189, rfl⟩
abbrev main_v136 : Ref sig .tc := ⟨.hbm, 190, rfl⟩
abbrev main_v137 : Ref sig .tc := ⟨.hbm, 191, rfl⟩
abbrev main_cst_40 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_41 : Ref sig .tc := ⟨.hbm, 198, rfl⟩
abbrev main_v143 : Ref sig .tc := ⟨.hbm, 199, rfl⟩
abbrev main_v144 : Ref sig .tc := ⟨.hbm, 200, rfl⟩
abbrev main_cst_42 : Ref sig .tc := ⟨.hbm, 201, rfl⟩
abbrev main_v145 : Ref sig .tc := ⟨.hbm, 202, rfl⟩
abbrev main_v146 : Ref sig .tc := ⟨.hbm, 203, rfl⟩
abbrev main_cst_43 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_44 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩

abbrev nD : Nat := 1
abbrev τ : Topo := Topo.v7x

variable {F : FTy → Type} [FloatOps F]
-- ==== Kernel3.lean ====
abbrev S16384x4096 : Shape := ⟨2, ![16384, 4096]⟩
abbrev S16384x1024 : Shape := ⟨2, ![16384, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S4096x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S1024x4096, .f32⟩
  | .hbm, ⟨8, _⟩ => ⟨S4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S16384x4096 : Shape := ⟨2, ![16384, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S512x1024 : Shape := ⟨2, ![512, 1024]⟩
abbrev S1024x1024 : Shape := ⟨2, ![1024, 1024]⟩
abbrev S3072 : Shape := ⟨1, ![3072]⟩
abbrev S16384x512 : Shape := ⟨2, ![16384, 512]⟩
abbrev S16384x3072 : Shape := ⟨2, ![16384, 3072]⟩
abbrev S16384x1024 : Shape := ⟨2, ![16384, 1024]⟩
abbrev S1x3072 : Shape := ⟨2, ![1, 3072]⟩
abbrev S512x512 : Shape := ⟨2, ![512, 512]⟩
abbrev S512x3072 : Shape := ⟨2, ![512, 3072]⟩
abbrev S512x2048 : Shape := ⟨2, ![512, 2048]⟩

abbrev nBuf : Space → Nat
  | .hbm => 25
  | .vmem => 71
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .bf16⟩
  | .hbm, ⟨3, _⟩ => ⟨S1024x1024, .bf16⟩
  | .hbm, ⟨4, _⟩ => ⟨S3072, .f32⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x3072, .bf16⟩
  | .hbm, ⟨9, _⟩ => ⟨S16384x1024, .bf16⟩
  | .hbm, ⟨10, _⟩ => ⟨S1x3072, .f32⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .f32⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .hbm, ⟨20, _⟩ => ⟨S16384x3072, .bf16⟩
  | .hbm, ⟨21, _⟩ => ⟨S1x3072, .f32⟩
  | .hbm, ⟨22, _⟩ => ⟨S16384x512, .bf16⟩
  | .hbm, ⟨23, _⟩ => ⟨S16384x512, .bf16⟩
  | .hbm, ⟨24, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S1x3072, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S1024x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x3072, .bf16⟩
  | .local _ .vmem, ⟨43, _⟩ => ⟨S512x3072, .bf16⟩
  | .local _ .vmem, ⟨44, _⟩ => ⟨S1x3072, .f32⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x3072, .bf16⟩
  | .local _ .vmem, ⟨54, _⟩ => ⟨S512x3072, .bf16⟩
  | .local _ .vmem, ⟨55, _⟩ => ⟨S1x3072, .f32⟩
  | .local _ .vmem, ⟨56, _⟩ => ⟨S512x1024, .bf16⟩
  | .local _ .vmem, ⟨57, _⟩ => ⟨S512x1024, .bf16⟩
  | .local _ .vmem, ⟨58, _⟩ => ⟨S512x1024, .bf16⟩
  | .local _ .vmem, ⟨59, _⟩ => ⟨S512x512, .bf16⟩
  | .local _ .vmem, ⟨60, _⟩ => ⟨S512x512, .bf16⟩
  | .local _ .vmem, ⟨61, _⟩ => ⟨S512x1024, .bf16⟩
  | .local _ .vmem, ⟨62, _⟩ => ⟨S512x1024, .bf16⟩
  | .local _ .vmem, ⟨63, _⟩ => ⟨S512x1024, .bf16⟩
  | .local _ .vmem, ⟨64, _⟩ => ⟨S512x512, .bf16⟩
  | .local _ .vmem, ⟨65, _⟩ => ⟨S512x512, .bf16⟩
  | .local _ .vmem, ⟨66, _⟩ => ⟨S512x1024, .bf16⟩
  | .local _ .vmem, ⟨67, _⟩ => ⟨S512x1024, .bf16⟩
  | .local _ .vmem, ⟨68, _⟩ => ⟨S512x1024, .bf16⟩
  | .local _ .vmem, ⟨69, _⟩ => ⟨S512x512, .bf16⟩
  | .local _ .vmem, ⟨70, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg5_1 : Ref sig .tc := ⟨.vmem, 46, rfl⟩
abbrev cc6_stg6_0 : Ref sig .tc := ⟨.vmem, 47, rfl⟩
abbrev cc6_stg6_1 : Ref sig .tc := ⟨.vmem, 48, rfl⟩
abbrev cc6_stg7_0 : Ref sig .tc := ⟨.vmem, 49, rfl⟩
abbrev cc6_stg7_1 : Ref sig .tc := ⟨.vmem, 50, rfl⟩
abbrev cc6_stg8_0 : Ref sig .tc := ⟨.vmem, 51, rfl⟩
abbrev cc6_stg8_1 : Ref sig .tc := ⟨.vmem, 52, rfl⟩
abbrev cc6_stg9_0 : Ref sig .tc := ⟨.vmem, 53, rfl⟩
abbrev cc6_stg9_1 : Ref sig .tc := ⟨.vmem, 54, rfl⟩
abbrev cc6_stg10_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg2_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg2_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43
abbrev cc6_sem4_0 : DmaSem sig := 44
abbrev cc6_sem5_0 : DmaSem sig := 45
abbrev cc6_sem5_1 : DmaSem sig := 46
abbrev cc6_sem6_0 : DmaSem sig := 47
abbrev cc6_sem6_1 : DmaSem sig := 48
abbrev cc6_sem7_0 : DmaSem sig := 49
abbrev cc6_sem7_1 : DmaSem sig := 50
abbrev cc6_sem8_0 : DmaSem sig := 51
abbrev cc6_sem8_1 : DmaSem sig := 52
abbrev cc6_sem9_0 : DmaSem sig := 53
abbrev cc6_sem9_1 : DmaSem sig := 54
abbrev cc6_sem10_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem2_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem2_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem2_1 : DmaSem sig := 70

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 32, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x3072 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x3072 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨3, ![1, 32, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 32, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x3072 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x3072 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S512x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S512x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S512x3072 .bf16 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 1 → Memref sig .tc .vmem S1x3072 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev grid7 : Pipeline.Grid := ⟨3, ![1, 32, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 1 → Memref sig .tc .vmem S512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false, true]

abbrev stage7_2 : Fin 2 → Memref sig .tc .vmem S512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 32, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true, true]

abbrev stage8_1 : Fin 1 → Memref sig .tc .vmem S512x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false, true]

abbrev stage8_2 : Fin 2 → Memref sig .tc .vmem S512x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 32, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true, true]

abbrev stage9_1 : Fin 1 → Memref sig .tc .vmem S512x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false, true]

abbrev stage9_2 : Fin 2 → Memref sig .tc .vmem S512x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== Reference5Ideal.lean ====
abbrev S512x1024 : Shape := ⟨2, ![512, 1024]⟩
abbrev S1024x1024 : Shape := ⟨2, ![1024, 1024]⟩
abbrev S3072 : Shape := ⟨1, ![3072]⟩
abbrev S16384x512 : Shape := ⟨2, ![16384, 512]⟩
abbrev S16384x3072 : Shape := ⟨2, ![16384, 3072]⟩
abbrev S16384x1024 : Shape := ⟨2, ![16384, 1024]⟩
abbrev S1x3072 : Shape := ⟨2, ![1, 3072]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .bf16⟩
  | .hbm, ⟨3, _⟩ => ⟨S1024x1024, .bf16⟩
  | .hbm, ⟨4, _⟩ => ⟨S3072, .f32⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x3072, .bf16⟩
  | .hbm, ⟨9, _⟩ => ⟨S16384x1024, .bf16⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x3072, .f32⟩
  | .hbm, ⟨18, _⟩ => ⟨S1x3072, .f32⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S_, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S_, .f32⟩
  | .hbm, ⟨30, _⟩ => ⟨S16384x3072, .f32⟩
  | .hbm, ⟨31, _⟩ => ⟨S16384x3072, .f32⟩
  | .hbm, ⟨32, _⟩ => ⟨S16384x3072, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x512, .f32⟩
  | .hbm, ⟨50, _⟩ => ⟨S16384x1024, .f32⟩
  | .hbm, ⟨51, _⟩ => ⟨S16384x1024, .f32⟩
  | .hbm, ⟨52, _⟩ => ⟨S16384x512, .f32⟩
  | .hbm, ⟨53, _⟩ => ⟨S16384x1024, .f32⟩
  | .hbm, ⟨54, _⟩ => ⟨S16384x1024, .f32⟩
  | .hbm, ⟨55, _⟩ => ⟨S16384x512, .f32⟩
  | .hbm, ⟨56, _⟩ => ⟨S16384x3072, .f32⟩
  | .hbm, ⟨57, _⟩ => ⟨S16384x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S_, .f32⟩
  | .hbm, ⟨62, _⟩ => ⟨S3072, .f32⟩
  | .hbm, ⟨63, _⟩ => ⟨S16384x512, .bf16⟩
  | .hbm, ⟨64, _⟩ => ⟨S16384x512, .bf16⟩
  | .hbm, ⟨65, _⟩ => ⟨S16384x512, .bf16⟩
  | .hbm, ⟨66, _⟩ => ⟨S16384x3072, .bf16⟩
  | .hbm, ⟨67, _⟩ => ⟨S1x3072, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S16384x3072 : Shape := ⟨2, ![16384, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16384x1024 : Shape := ⟨2, ![16384, 1024]⟩
abbrev S16384x1664 : Shape := ⟨2, ![16384, 1664]⟩
abbrev S1024x1664 : Shape := ⟨2, ![1024, 1664]⟩
abbrev S2048x1024 : Shape := ⟨2, ![2048, 1024]⟩
abbrev S2048x1664 : Shape := ⟨2, ![2048, 1664]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1664, .bf16⟩
  | .hbm, ⟨2, _⟩ => ⟨S1024x1664, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S16384x1664 : Shape := ⟨2, ![16384, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1664, .bf16⟩
  | .hbm, ⟨2, _⟩ => ⟨S_, .f32⟩
  | .hbm, ⟨3, _⟩ => ⟨S1024x1664, .f32⟩
  | .hbm, ⟨4, _⟩ => ⟨S16384x1024, .f32⟩
  | .hbm, ⟨5, _⟩ => ⟨S16384x1664, .f32⟩
  | .hbm, ⟨6, _⟩ => ⟨S16384x1664, .f32⟩
  | .hbm, ⟨7, _⟩ => ⟨S1664x1024, .f32⟩
  | .hbm, ⟨8, _⟩ => ⟨S1024x1664, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S16384x1024 : Shape := ⟨2, ![16384, 1024]⟩
abbrev S16384x512 : Shape := ⟨2, ![16384, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S16384x512 : Shape := ⟨2, ![16384, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S1024x512, .f32⟩
  | .hbm, ⟨4, _⟩ => ⟨S16384x1024, .f32⟩
  | .hbm, ⟨5, _⟩ => ⟨S16384x512, .f32⟩
  | .hbm, ⟨6, _⟩ => ⟨S16384x512, .f32⟩
  | .hbm, ⟨7, _⟩ => ⟨S512x1024, .f32⟩
  | .hbm, ⟨8, _⟩ => ⟨S1024x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S16384x1024 : Shape := ⟨2, ![16384, 1024]⟩
abbrev S1024x7176 : Shape := ⟨2, ![1024, 7176]⟩
abbrev S16384x3072 : Shape := ⟨2, ![16384, 3072]⟩
abbrev S16384x1664 : Shape := ⟨2, ![16384, 1664]⟩
abbrev S16384x512 : Shape := ⟨2, ![16384, 512]⟩
abbrev S_ : Shape := ⟨0, ![]⟩
abbrev S1024x120 : Shape := ⟨2, ![1024, 120]⟩
abbrev S1024x1024 : Shape := ⟨2, ![1024, 1024]⟩
abbrev S1024x1536 : Shape := ⟨2, ![1024, 1536]⟩
abbrev S1024x8 : Shape := ⟨2, ![1024, 8]⟩
abbrev S1024x1664 : Shape := ⟨2, ![1024, 1664]⟩
abbrev S1024x512 : Shape := ⟨2, ![1024, 512]⟩
abbrev S1024x3072 : Shape := ⟨2, ![1024, 3072]⟩
abbrev S512x1024 : Shape := ⟨2, ![512, 1024]⟩
abbrev S512x3072 : Shape := ⟨2, ![512, 3072]⟩
abbrev S512x1664 : Shape := ⟨2, ![512, 1664]⟩
abbrev S512x512 : Shape := ⟨2, ![512, 512]⟩

abbrev nBuf : Space → Nat
  | .hbm => 22
  | .vmem => 34
  | .smem => 0
  | _ => 0

abbrev bufTy : (tb : Table) → Fin (tcTables nBuf tb) → BufTy
  | .hbm, ⟨0, _⟩ => ⟨S16384x1024, .bf16⟩
  | .hbm, ⟨1, _⟩ => ⟨S1024x7176, .bf16⟩
  | .hbm, ⟨2, _⟩ => ⟨S16384x3072, .bf16⟩
  | .hbm, ⟨3, _⟩ => ⟨S16384x1024, .bf16⟩
  | .hbm, ⟨4, _⟩ => ⟨S16384x1024, .bf16⟩
  | .hbm, ⟨5, _⟩ => ⟨S16384x1664, .bf16⟩
  | .hbm, ⟨6, _⟩ => ⟨S16384x512, .bf16⟩
  | .hbm, ⟨7, _⟩ => ⟨S_, .bf16⟩
  | .hbm, ⟨8, _⟩ => ⟨S1024x120, .bf16⟩
  | .hbm, ⟨9, _⟩ => ⟨S1024x1024, .bf16⟩
  | .hbm, ⟨10, _⟩ => ⟨S1024x1536, .bf16⟩
  | .hbm, ⟨11, _⟩ => ⟨S1024x8, .bf16⟩
  | .hbm, ⟨12, _⟩ => ⟨S1024x1664, .bf16⟩
  | .hbm, ⟨13, _⟩ => ⟨S1024x512, .bf16⟩
  | .hbm, ⟨14, _⟩ => ⟨S1024x1024, .bf16⟩
  | .hbm, ⟨15, _⟩ => ⟨S1024x3072, .bf16⟩
  | .hbm, ⟨16, _⟩ => ⟨S16384x3072, .bf16⟩
  | .hbm, ⟨17, _⟩ => ⟨S16384x1024, .bf16⟩
  | .hbm, ⟨18, _⟩ => ⟨S16384x1024, .bf16⟩
  | .hbm, ⟨19, _⟩ => ⟨S16384x1664, .bf16⟩
  | .hbm, ⟨20, _⟩ => ⟨S16384x512, .bf16⟩
  | .hbm, ⟨21, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1664, .bf16⟩
  | .local _ .vmem, ⟨6, _⟩ => ⟨S1024x512, .bf16⟩
  | .local _ .vmem, ⟨7, _⟩ => ⟨S512x3072, .bf16⟩
  | .local _ .vmem, ⟨8, _⟩ => ⟨S512x3072, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1664, .bf16⟩
  | .local _ .vmem, ⟨14, _⟩ => ⟨S512x1664, .bf16⟩
  | .local _ .vmem, ⟨15, _⟩ => ⟨S512x512, .bf16⟩
  | .local _ .vmem, ⟨16, _⟩ => ⟨S512x512, .bf16⟩
  | .local _ .vmem, ⟨17, _⟩ => ⟨S512x3072, .bf16⟩
  | .local _ .vmem, ⟨18, _⟩ => ⟨S512x3072, .bf16⟩
  | .local _ .vmem, ⟨19, _⟩ => ⟨S1024x3072, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1664, .bf16⟩
  | .local _ .vmem, ⟨27, _⟩ => ⟨S512x1664, .bf16⟩
  | .local _ .vmem, ⟨28, _⟩ => ⟨S1024x1664, .bf16⟩
  | .local _ .vmem, ⟨29, _⟩ => ⟨S512x512, .bf16⟩
  | .local _ .vmem, ⟨30, _⟩ => ⟨S512x512, .bf16⟩
  | .local _ .vmem, ⟨31, _⟩ => ⟨S1024x512, .bf16⟩
  | .local _ .vmem, ⟨32, _⟩ => ⟨S512x1024, .f32⟩
  | .local _ .vmem, ⟨33, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem6_1 : DmaSem sig := 27
abbrev cc1_sem7_0 : DmaSem sig := 28
abbrev cc1_sem8_0 : DmaSem sig := 29
abbrev cc1_sem8_1 : DmaSem sig := 30
abbrev cc1_sem9_0 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1664 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1664 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x1664 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1024x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference11Ideal.lean ====
abbrev S16384x1024 : Shape := ⟨2, ![16384, 1024]⟩
abbrev S1024x7176 : Shape := ⟨2, ![1024, 7176]⟩
abbrev S16384x3072 : Shape := ⟨2, ![16384, 3072]⟩
abbrev S16384x1664 : Shape := ⟨2, ![16384, 1664]⟩
abbrev S16384x512 : Shape := ⟨2, ![16384, 512]⟩
abbrev S16384x1536 : Shape := ⟨2, ![16384, 1536]⟩
abbrev S16384x8 : Shape := ⟨2, ![16384, 8]⟩
abbrev S16384x7176 : Shape := ⟨2, ![16384, 7176]⟩
abbrev S16384x4 : Shape := ⟨2, ![16384, 4]⟩
abbrev S_ : Shape := ⟨0, ![]⟩
abbrev S16384x120 : Shape := ⟨2, ![16384, 120]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x7176, .bf16⟩
  | .hbm, ⟨2, _⟩ => ⟨S16384x3072, .bf16⟩
  | .hbm, ⟨3, _⟩ => ⟨S16384x1024, .bf16⟩
  | .hbm, ⟨4, _⟩ => ⟨S16384x1024, .bf16⟩
  | .hbm, ⟨5, _⟩ => ⟨S16384x1664, .bf16⟩
  | .hbm, ⟨6, _⟩ => ⟨S16384x512, .bf16⟩
  | .hbm, ⟨7, _⟩ => ⟨S16384x1536, .bf16⟩
  | .hbm, ⟨8, _⟩ => ⟨S16384x8, .bf16⟩
  | .hbm, ⟨9, _⟩ => ⟨S16384x7176, .bf16⟩
  | .hbm, ⟨10, _⟩ => ⟨S1024x7176, .f32⟩
  | .hbm, ⟨11, _⟩ => ⟨S16384x1024, .f32⟩
  | .hbm, ⟨12, _⟩ => ⟨S16384x7176, .f32⟩
  | .hbm, ⟨13, _⟩ => ⟨S16384x1024, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x4, .f32⟩
  | .hbm, ⟨19, _⟩ => ⟨S16384x4, .f32⟩
  | .hbm, ⟨20, _⟩ => ⟨S16384x1024, .f32⟩
  | .hbm, ⟨21, _⟩ => ⟨S16384x3072, .f32⟩
  | .hbm, ⟨22, _⟩ => ⟨S_, .f32⟩
  | .hbm, ⟨23, _⟩ => ⟨S16384x120, .f32⟩
  | .hbm, ⟨24, _⟩ => ⟨S16384x1664, .f32⟩
  | .hbm, ⟨25, _⟩ => ⟨S16384x3072, .bf16⟩
  | .hbm, ⟨26, _⟩ => ⟨S16384x1024, .bf16⟩
  | .hbm, ⟨27, _⟩ => ⟨S16384x1024, .bf16⟩
  | .hbm, ⟨28, _⟩ => ⟨S16384x1664, .bf16⟩
  | .hbm, ⟨29, _⟩ => ⟨S16384x512, .bf16⟩
  | .hbm, ⟨30, _⟩ => ⟨S16384x7176, .f32⟩
  | .hbm, ⟨31, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel12.lean ====
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference12Ideal.lean ====
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384, .f32⟩
  | .hbm, ⟨76, _⟩ => ⟨S16384x1024, .f32⟩
  | .hbm, ⟨77, _⟩ => ⟨S16384x1024, .f32⟩
  | .hbm, ⟨78, _⟩ => ⟨S16384x1024, .bf16⟩
  | .hbm, ⟨79, _⟩ => ⟨S1x1024, .f32⟩
  | .hbm, ⟨80, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel13.lean ====
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S1x512 : Shape := ⟨2, ![1, 512]⟩
abbrev S512x128 : Shape := ⟨2, ![512, 128]⟩
abbrev S128x4 : Shape := ⟨2, ![128, 4]⟩
abbrev S16384x512 : Shape := ⟨2, ![16384, 512]⟩
abbrev S512x1024 : Shape := ⟨2, ![512, 1024]⟩
abbrev S512x512 : Shape := ⟨2, ![512, 512]⟩
abbrev S512x1 : Shape := ⟨2, ![512, 1]⟩
abbrev S128x128 : Shape := ⟨2, ![128, 128]⟩
abbrev S128x1 : Shape := ⟨2, ![128, 1]⟩
abbrev S128x512 : Shape := ⟨2, ![128, 512]⟩

abbrev nBuf : Space → Nat
  | .hbm => 10
  | .vmem => 8
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S16384x1024, .bf16⟩
  | .hbm, ⟨5, _⟩ => ⟨S1x512, .f32⟩
  | .hbm, ⟨6, _⟩ => ⟨S1x512, .f32⟩
  | .hbm, ⟨7, _⟩ => ⟨S512x128, .f32⟩
  | .hbm, ⟨8, _⟩ => ⟨S128x4, .f32⟩
  | .hbm, ⟨9, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S512x128, .f32⟩
  | .local _ .vmem, ⟨5, _⟩ => ⟨S128x4, .f32⟩
  | .local _ .vmem, ⟨6, _⟩ => ⟨S512x512, .bf16⟩
  | .local _ .vmem, ⟨7, _⟩ => ⟨S512x512, .bf16⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S512 : Shape := ⟨1, ![512]⟩
abbrev S4x128x128 : Shape := ⟨3, ![4, 128, 128]⟩
abbrev S4x128 : Shape := ⟨2, ![4, 128]⟩
abbrev S16384x1024 : Shape := ⟨2, ![16384, 1024]⟩
abbrev S_ : Shape := ⟨0, ![]⟩
abbrev S16384x512 : Shape := ⟨2, ![16384, 512]⟩
abbrev S16384 : Shape := ⟨1, ![16384]⟩
abbrev S16384x1 : Shape := ⟨2, ![16384, 1]⟩
abbrev S1x512 : Shape := ⟨2, ![1, 512]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩

abbrev nBuf : Space → Nat
  | .hbm => 72
  | .vmem => 0
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S16384x1024, .bf16⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x512, .f32⟩
  | .hbm, ⟨45, _⟩ => ⟨S16384x512, .f32⟩
  | .hbm, ⟨46, _⟩ => ⟨S1x512, .f32⟩
  | .hbm, ⟨47, _⟩ => ⟨S16384x512, .f32⟩
  | .hbm, ⟨48, _⟩ => ⟨S16384x512, .f32⟩
  | .hbm, ⟨49, _⟩ => ⟨S1x512, .f32⟩
  | .hbm, ⟨50, _⟩ => ⟨S16384x512, .f32⟩
  | .hbm, ⟨51, _⟩ => ⟨S16384x512, .f32⟩
  | .hbm, ⟨52, _⟩ => ⟨S128x128x4x128, .f32⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S4x128x128, .i1⟩
  | .hbm, ⟨60, _⟩ => ⟨S_, .f32⟩
  | .hbm, ⟨61, _⟩ => ⟨S4x128x128, .f32⟩
  | .hbm, ⟨62, _⟩ => ⟨S4x128x128, .f32⟩
  | .hbm, ⟨63, _⟩ => ⟨S4x128x128x128, .f32⟩
  | .hbm, ⟨64, _⟩ => ⟨S128x128x4x128, .f32⟩
  | .hbm, ⟨65, _⟩ => ⟨S128x4, .f32⟩
  | .hbm, ⟨66, _⟩ => ⟨S1x128x4x1, .f32⟩
  | .hbm, ⟨67, _⟩ => ⟨S128x128x4x128, .f32⟩
  | .hbm, ⟨68, _⟩ => ⟨S128x128x4x128, .f32⟩
  | .hbm, ⟨69, _⟩ => ⟨S16384x512, .f32⟩
  | .hbm, ⟨70, _⟩ => ⟨S16384x512, .f32⟩
  | .hbm, ⟨71, _⟩ => ⟨S16384x512, .bf16⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_cst : Ref sig .tc := ⟨.hbm, 60, rfl⟩
abbrev main_call0_v6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Kernel14.lean ====
abbrev S16384x1024 : Shape := ⟨2, ![16384, 1024]⟩
abbrev S8x128 : Shape := ⟨2, ![8, 128]⟩
abbrev S512x1024 : Shape := ⟨2, ![512, 1024]⟩
abbrev S512x128 : Shape := ⟨2, ![512, 128]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128, .f32⟩
  | .hbm, ⟨3, _⟩ => ⟨S16384x1024, .f32⟩
  | .hbm, ⟨4, _⟩ => ⟨S_, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel15.lean ====
abbrev S2048x1024 : Shape := ⟨2, ![2048, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S1376x128 : Shape := ⟨2, ![1376, 128]⟩

abbrev nBuf : Space → Nat
  | .hbm => 8
  | .vmem => 8
  | .smem => 0
  | _ => 0

abbrev bufTy : (tb : Table) → Fin (tcTables nBuf tb) → BufTy
  | .hbm, ⟨0, _⟩ => ⟨S1376x128, .f32⟩
  | .hbm, ⟨1, _⟩ => ⟨S1376x128, .f32⟩
  | .hbm, ⟨2, _⟩ => ⟨S1376x128, .f32⟩
  | .hbm, ⟨3, _⟩ => ⟨S1376x128, .f32⟩
  | .hbm, ⟨4, _⟩ => ⟨S1376x128, .f32⟩
  | .hbm, ⟨5, _⟩ => ⟨S1376x128, .f32⟩
  | .hbm, ⟨6, _⟩ => ⟨S1376x128, .f32⟩
  | .hbm, ⟨7, _⟩ => ⟨S1376x128, .f32⟩
  | .local _ .vmem, ⟨0, _⟩ => ⟨S1376x128, .f32⟩
  | .local _ .vmem, ⟨1, _⟩ => ⟨S1376x128, .f32⟩
  | .local _ .vmem, ⟨2, _⟩ => ⟨S1376x128, .f32⟩
  | .local _ .vmem, ⟨3, _⟩ => ⟨S1376x128, .f32⟩
  | .local _ .vmem, ⟨4, _⟩ => ⟨S1376x128, .f32⟩
  | .local _ .vmem, ⟨5, _⟩ => ⟨S1376x128, .f32⟩
  | .local _ .vmem, ⟨6, _⟩ => ⟨S1376x128, .f32⟩
  | .local _ .vmem, ⟨7, _⟩ => ⟨S1376x128, .f32⟩
  | _, _ => ⟨S1376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1376x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1376x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1376x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1376x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1376x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S1376x128 : Shape := ⟨2, ![1376, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1376x128, .f32⟩
  | .hbm, ⟨1, _⟩ => ⟨S1376x128, .f32⟩
  | .hbm, ⟨2, _⟩ => ⟨S1376x128, .f32⟩
  | .hbm, ⟨3, _⟩ => ⟨S1376x128, .f32⟩
  | .hbm, ⟨4, _⟩ => ⟨S_, .f32⟩
  | .hbm, ⟨5, _⟩ => ⟨S1376x128, .f32⟩
  | .hbm, ⟨6, _⟩ => ⟨S1376x128, .f32⟩
  | .hbm, ⟨7, _⟩ => ⟨S_, .f32⟩
  | .hbm, ⟨8, _⟩ => ⟨S1376x128, .f32⟩
  | .hbm, ⟨9, _⟩ => ⟨S1376x128, .f32⟩
  | .hbm, ⟨10, _⟩ => ⟨S1376x128, .f32⟩
  | .hbm, ⟨11, _⟩ => ⟨S_, .f32⟩
  | .hbm, ⟨12, _⟩ => ⟨S1376x128, .f32⟩
  | .hbm, ⟨13, _⟩ => ⟨S1376x128, .f32⟩
  | .hbm, ⟨14, _⟩ => ⟨S1376x128, .f32⟩
  | .hbm, ⟨15, _⟩ => ⟨S_, .f32⟩
  | .hbm, ⟨16, _⟩ => ⟨S1376x128, .f32⟩
  | .hbm, ⟨17, _⟩ => ⟨S1376x128, .f32⟩
  | .hbm, ⟨18, _⟩ => ⟨S1376x128, .f32⟩
  | .hbm, ⟨19, _⟩ => ⟨S_, .f32⟩
  | .hbm, ⟨20, _⟩ => ⟨S1376x128, .f32⟩
  | .hbm, ⟨21, _⟩ => ⟨S1376x128, .f32⟩
  | .hbm, ⟨22, _⟩ => ⟨S_, .f32⟩
  | .hbm, ⟨23, _⟩ => ⟨S1376x128, .f32⟩
  | .hbm, ⟨24, _⟩ => ⟨S1376x128, .f32⟩
  | .hbm, ⟨25, _⟩ => ⟨S1376x128, .f32⟩
  | .hbm, ⟨26, _⟩ => ⟨S_, .f32⟩
  | .hbm, ⟨27, _⟩ => ⟨S1376x128, .f32⟩
  | .hbm, ⟨28, _⟩ => ⟨S1376x128, .f32⟩
  | .hbm, ⟨29, _⟩ => ⟨S1376x128, .f32⟩
  | .hbm, ⟨30, _⟩ => ⟨S_, .f32⟩
  | .hbm, ⟨31, _⟩ => ⟨S1376x128, .f32⟩
  | .hbm, ⟨32, _⟩ => ⟨S1376x128, .f32⟩
  | .hbm, ⟨33, _⟩ => ⟨S1376x128, .f32⟩
  | .hbm, ⟨34, _⟩ => ⟨S_, .f32⟩
  | .hbm, ⟨35, _⟩ => ⟨S1376x128, .f32⟩
  | .hbm, ⟨36, _⟩ => ⟨S1376x128, .f32⟩
  | _, _ => ⟨S1376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x256 : Shape := ⟨2, ![1024, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S512x1024 : Shape := ⟨2, ![512, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S2048x1794 : Shape := ⟨2, ![2048, 1794]⟩
abbrev S128x1794 : Shape := ⟨2, ![128, 1794]⟩

abbrev nBuf : Space → Nat
  | .hbm => 9
  | .vmem => 18
  | .smem => 0
  | _ => 0

abbrev bufTy : (tb : Table) → Fin (tcTables nBuf tb) → BufTy
  | .hbm, ⟨0, _⟩ => ⟨S2048x1794, .f32⟩
  | .hbm, ⟨1, _⟩ => ⟨S2048x1794, .f32⟩
  | .hbm, ⟨2, _⟩ => ⟨S2048x1794, .f32⟩
  | .hbm, ⟨3, _⟩ => ⟨S2048x1794, .f32⟩
  | .hbm, ⟨4, _⟩ => ⟨S2048x1794, .f32⟩
  | .hbm, ⟨5, _⟩ => ⟨S2048x1794, .f32⟩
  | .hbm, ⟨6, _⟩ => ⟨S2048x1794, .f32⟩
  | .hbm, ⟨7, _⟩ => ⟨S2048x1794, .f32⟩
  | .hbm, ⟨8, _⟩ => ⟨S2048x1794, .f32⟩
  | .local _ .vmem, ⟨0, _⟩ => ⟨S128x1794, .f32⟩
  | .local _ .vmem, ⟨1, _⟩ => ⟨S128x1794, .f32⟩
  | .local _ .vmem, ⟨2, _⟩ => ⟨S128x1794, .f32⟩
  | .local _ .vmem, ⟨3, _⟩ => ⟨S128x1794, .f32⟩
  | .local _ .vmem, ⟨4, _⟩ => ⟨S128x1794, .f32⟩
  | .local _ .vmem, ⟨5, _⟩ => ⟨S128x1794, .f32⟩
  | .local _ .vmem, ⟨6, _⟩ => ⟨S128x1794, .f32⟩
  | .local _ .vmem, ⟨7, _⟩ => ⟨S128x1794, .f32⟩
  | .local _ .vmem, ⟨8, _⟩ => ⟨S128x1794, .f32⟩
  | .local _ .vmem, ⟨9, _⟩ => ⟨S128x1794, .f32⟩
  | .local _ .vmem, ⟨10, _⟩ => ⟨S128x1794, .f32⟩
  | .local _ .vmem, ⟨11, _⟩ => ⟨S128x1794, .f32⟩
  | .local _ .vmem, ⟨12, _⟩ => ⟨S128x1794, .f32⟩
  | .local _ .vmem, ⟨13, _⟩ => ⟨S128x1794, .f32⟩
  | .local _ .vmem, ⟨14, _⟩ => ⟨S128x1794, .f32⟩
  | .local _ .vmem, ⟨15, _⟩ => ⟨S128x1794, .f32⟩
  | .local _ .vmem, ⟨16, _⟩ => ⟨S128x1794, .f32⟩
  | .local _ .vmem, ⟨17, _⟩ => ⟨S128x1794, .f32⟩
  | _, _ => ⟨S2048x1794, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1794 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1794 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1794 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1794 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1794 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1794 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1794 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1794 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1794 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x1794 : Shape := ⟨2, ![2048, 1794]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1794, .f32⟩
  | .hbm, ⟨1, _⟩ => ⟨S2048x1794, .f32⟩
  | .hbm, ⟨2, _⟩ => ⟨S2048x1794, .f32⟩
  | .hbm, ⟨3, _⟩ => ⟨S2048x1794, .f32⟩
  | .hbm, ⟨4, _⟩ => ⟨S2048x1794, .f32⟩
  | .hbm, ⟨5, _⟩ => ⟨S2048x1794, .f32⟩
  | .hbm, ⟨6, _⟩ => ⟨S_, .f32⟩
  | .hbm, ⟨7, _⟩ => ⟨S2048x1794, .f32⟩
  | .hbm, ⟨8, _⟩ => ⟨S2048x1794, .f32⟩
  | .hbm, ⟨9, _⟩ => ⟨S_, .f32⟩
  | .hbm, ⟨10, _⟩ => ⟨S2048x1794, .f32⟩
  | .hbm, ⟨11, _⟩ => ⟨S2048x1794, .f32⟩
  | .hbm, ⟨12, _⟩ => ⟨S2048x1794, .f32⟩
  | .hbm, ⟨13, _⟩ => ⟨S_, .f32⟩
  | .hbm, ⟨14, _⟩ => ⟨S2048x1794, .f32⟩
  | .hbm, ⟨15, _⟩ => ⟨S2048x1794, .f32⟩
  | .hbm, ⟨16, _⟩ => ⟨S2048x1794, .f32⟩
  | .hbm, ⟨17, _⟩ => ⟨S_, .f32⟩
  | .hbm, ⟨18, _⟩ => ⟨S2048x1794, .f32⟩
  | .hbm, ⟨19, _⟩ => ⟨S2048x1794, .f32⟩
  | .hbm, ⟨20, _⟩ => ⟨S2048x1794, .f32⟩
  | .hbm, ⟨21, _⟩ => ⟨S_, .f32⟩
  | .hbm, ⟨22, _⟩ => ⟨S2048x1794, .f32⟩
  | .hbm, ⟨23, _⟩ => ⟨S2048x1794, .f32⟩
  | .hbm, ⟨24, _⟩ => ⟨S_, .f32⟩
  | .hbm, ⟨25, _⟩ => ⟨S2048x1794, .f32⟩
  | .hbm, ⟨26, _⟩ => ⟨S2048x1794, .f32⟩
  | .hbm, ⟨27, _⟩ => ⟨S2048x1794, .f32⟩
  | .hbm, ⟨28, _⟩ => ⟨S_, .f32⟩
  | .hbm, ⟨29, _⟩ => ⟨S2048x1794, .f32⟩
  | .hbm, ⟨30, _⟩ => ⟨S2048x1794, .f32⟩
  | .hbm, ⟨31, _⟩ => ⟨S2048x1794, .f32⟩
  | .hbm, ⟨32, _⟩ => ⟨S_, .f32⟩
  | .hbm, ⟨33, _⟩ => ⟨S2048x1794, .f32⟩
  | .hbm, ⟨34, _⟩ => ⟨S2048x1794, .f32⟩
  | .hbm, ⟨35, _⟩ => ⟨S2048x1794, .f32⟩
  | .hbm, ⟨36, _⟩ => ⟨S_, .f32⟩
  | .hbm, ⟨37, _⟩ => ⟨S2048x1794, .f32⟩
  | .hbm, ⟨38, _⟩ => ⟨S2048x1794, .f32⟩
  | _, _ => ⟨S2048x1794, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Blocks.lean ====
/- The vector pieces of which one tile of the gating unit's gradient is made.

   The kernel's tile is 512 rows: four chunks of 128. Each of the four chunks meets each of the four groups of 128
   lanes in products of 128 by 128 matrices, and the sixteen results are padded with zeros to whole tiles and added.
   This module names each kind of piece once and says what it holds at an index. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.Sgu

open Cert.KernelIdeal Cert.KernelIdeal.Gen Idealize.ShloMosaic

/-- A matrix of the pieces' size over the extended reals. -/
abbrev Mat := FVec Ideal S128x128 .f32

/-- The zero block of a shape. -/
abbrev zero (s : Shape) : FVec Ideal s .f32 := broadcast s (Scalar.ofBits .f32 0x00000000#32)

/-! ## Padding a block of rows to 512 rows -/

def rowPad0 (M : Mat) : FVec Ideal S512x128 .f32 :=
  concatenate S512x128 0 [⟨S128x128, M⟩, ⟨S384x128, zero S384x128⟩] concatenates_S128x128_S384x128_S512x128_d0

def rowPad1 (M : Mat) : FVec Ideal S512x128 .f32 :=
  concatenate S512x128 0 [⟨S256x128, (concatenate S256x128 0 [⟨S128x128, zero S128x128⟩, ⟨S128x128, M⟩]
    concatenates_S128x128_S128x128_S256x128_d0 : FVec Ideal S256x128 .f32)⟩, ⟨S256x128, zero S256x128⟩] concatenates_S256x128_S256x128_S512x128_d0

def rowPad2 (M : Mat) : FVec Ideal S512x128 .f32 :=
  concatenate S512x128 0 [⟨S384x128, (concatenate S384x128 0 [⟨S256x128, zero S256x128⟩, ⟨S128x128, M⟩]
    concatenates_S256x128_S128x128_S384x128_d0 : FVec Ideal S384x128 .f32)⟩, ⟨S128x128, zero S128x128⟩] concatenates_S384x128_S128x128_S512x128_d0

def rowPad3 (M : Mat) : FVec Ideal S512x128 .f32 :=
  concatenate S512x128 0 [⟨S384x128, zero S384x128⟩, ⟨S128x128, M⟩] concatenates_S384x128_S128x128_S512x128_d0

/-! ## Padding a block of lanes to 512 lanes -/

def colPad0 (M : FVec Ideal S512x128 .f32) : FVec Ideal S512x512 .f32 :=
  concatenate S512x512 1 [⟨S512x128, M⟩, ⟨S512x384, zero S512x384⟩] concatenates_S512x128_S512x384_S512x512_d1

def colPad1 (M : FVec Ideal S512x128 .f32) : FVec Ideal S512x512 .f32 :=
  concatenate S512x512 1 [⟨S512x256, (concatenate S512x256 1 [⟨S512x128, zero S512x128⟩, ⟨S512x128, M⟩]
    concatenates_S512x128_S512x128_S512x256_d1 : FVec Ideal S512x256 .f32)⟩, ⟨S512x256, zero S512x256⟩] concatenates_S512x256_S512x256_S512x512_d1

def colPad2 (M : FVec Ideal S512x128 .f32) : FVec Ideal S512x512 .f32 :=
  concatenate S512x512 1 [⟨S512x384, (concatenate S512x384 1 [⟨S512x256, zero S512x256⟩, ⟨S512x128, M⟩]
    concatenates_S512x256_S512x128_S512x384_d1 : FVec Ideal S512x384 .f32)⟩, ⟨S512x128, zero S512x128⟩] concatenates_S512x384_S512x128_S512x512_d1

def colPad3 (M : FVec Ideal S512x128 .f32) : FVec Ideal S512x512 .f32 :=
  concatenate S512x512 1 [⟨S512x384, zero S512x384⟩, ⟨S512x128, M⟩] concatenates_S512x384_S512x128_S512x512_d1

/-! ## Padding one lane to four -/

def lanePad0 (b : FVec Ideal S128x1 .f32) : FVec Ideal S128x4 .f32 :=
  concatenate S128x4 1 [⟨S128x1, b⟩, ⟨S128x3, zero S128x3⟩] concatenates_S128x1_S128x3_S128x4_d1

def lanePad1 (b : FVec Ideal S128x1 .f32) : FVec Ideal S128x4 .f32 :=
  concatenate S128x4 1 [⟨S128x2, (concatenate S128x2 1 [⟨S128x1, zero S128x1⟩, ⟨S128x1, b⟩]
    concatenates_S128x1_S128x1_S128x2_d1 : FVec Ideal S128x2 .f32)⟩, ⟨S128x2, zero S128x2⟩] concatenates_S128x2_S128x2_S128x4_d1

def lanePad2 (b : FVec Ideal S128x1 .f32) : FVec Ideal S128x4 .f32 :=
  concatenate S128x4 1 [⟨S128x3, (concatenate S128x3 1 [⟨S128x2, zero S128x2⟩, ⟨S128x1, b⟩]
    concatenates_S128x2_S128x1_S128x3_d1 : FVec Ideal S128x3 .f32)⟩, ⟨S128x1, zero S128x1⟩] concatenates_S128x3_S128x1_S128x4_d1

def lanePad3 (b : FVec Ideal S128x1 .f32) : FVec Ideal S128x4 .f32 :=
  concatenate S128x4 1 [⟨S128x3, zero S128x3⟩, ⟨S128x1, b⟩] concatenates_S128x3_S128x1_S128x4_d1

/-! ## The products -/

/-- A mixing matrix with its entries above the diagonal zeroed. -/
def lower (w : Mat) : Mat := select k0_pay27 w (zero S128x128)

/-- A chunk mixed: the lower triangle times the chunk, plus one offset for each row. -/
def mixBlk (w v : Mat) (b : FVec Ideal S128x1 .f32) : Mat :=
  addf (matmul dot_S128x128_S128x128_S128x128_1_0_0_1_n_n none (truncf .bf16 (lower w) bitsLt_bf16_f32)
    (truncf .bf16 v bitsLt_bf16_f32) (constant S128x128 .f32 0x00000000#32)) (broadcastTo S128x128 b broadcasts_S128x1_S128x128)

/-- A chunk's gradient of the mixing matrix. -/
def dwBlk (dm v : Mat) : Mat :=
  select k0_pay27 (matmul dot_S128x128_S128x128_S128x128_1_1_0_0_n_n none (truncf .bf16 dm bitsLt_bf16_f32)
    (truncf .bf16 v bitsLt_bf16_f32) (constant S128x128 .f32 0x00000000#32)) (zero S128x128)

/-- A chunk's gradient of what was mixed. -/
def dvBlk (w dm : Mat) : Mat :=
  matmul dot_S128x128_S128x128_S128x128_0_0_1_1_n_n none (truncf .bf16 (lower w) bitsLt_bf16_f32)
    (truncf .bf16 dm bitsLt_bf16_f32) (constant S128x128 .f32 0x00000000#32)

/-- A chunk's gradient of the offsets. -/
def dbBlk (dm : Mat) : FVec Ideal S128x1 .f32 :=
  shapeCast S128x1 (multiReduction .add [1] S128 dm 0x00000000#32 reduces_S128x128_S128 (.inl rfl) rfl) shapeCasts_S128_S128x1

/-! ## What they hold -/

/-- The kernel's comparison of a row number with a lane number, read as one of numbers. -/
theorem select_row_ge (p q : Fin 128) (x y : EReal) :
    Scalar.select (IntOp.cmpi CmpIPredicate.sge (BitVec.ofNat 32 p.val) (BitVec.ofNat 32 q.val)) x y
      = if q.val ≤ p.val then x else y := by
  rw [WordCmp.cmpi_sge_ofNat (by omega) (by omega)]
  by_cases hqp : q.val ≤ p.val
  · simp [hqp, Scalar.select]
  · simp [hqp, Scalar.select]

/-- A factor that is zeroed zeroes the product. -/
theorem ite_zero_mul_eq (c : Prop) [Decidable c] (a b : EReal) :
    (if c then a else 0) * b = if c then a * b else 0 := by
  by_cases hc : c
  · rw [if_pos hc, if_pos hc]
  · rw [if_neg hc, if_neg hc, zero_mul]

theorem at_row {n k : Nat} (M : FVec Ideal ⟨2, ![n, k]⟩ .f32) {r r' : Fin n} (l : Fin k) (h : r.val = r'.val) :
    M (ix2 r l) = M (ix2 r' l) := by rw [Fin.ext h]

theorem at_lane {n k : Nat} (M : FVec Ideal ⟨2, ![n, k]⟩ .f32) (r : Fin n) {l l' : Fin k} (h : l.val = l'.val) :
    M (ix2 r l) = M (ix2 r l') := by rw [Fin.ext h]

theorem rowPad0_apply (M : Mat) (r : Fin 512) (l : Fin 128) :
    rowPad0 M (ix2 r l) = if r.val / 128 = 0 then M (ix2 ⟨r.val % 128, by omega⟩ l) else 0 := by
  pointwise [rowPad0]
  repeat' split
  all_goals first | rfl | omega | (refine at_row M l ?_; dsimp only; omega)

theorem rowPad1_apply (M : Mat) (r : Fin 512) (l : Fin 128) :
    rowPad1 M (ix2 r l) = if r.val / 128 = 1 then M (ix2 ⟨r.val % 128, by omega⟩ l) else 0 := by
  pointwise [rowPad1]
  repeat' split
  all_goals first | rfl | omega | (refine at_row M l ?_; dsimp only; omega)

theorem rowPad2_apply (M : Mat) (r : Fin 512) (l : Fin 128) :
    rowPad2 M (ix2 r l) = if r.val / 128 = 2 then M (ix2 ⟨r.val % 128, by omega⟩ l) else 0 := by
  pointwise [rowPad2]
  repeat' split
  all_goals first | rfl | omega | (refine at_row M l ?_; dsimp only; omega)

theorem rowPad3_apply (M : Mat) (r : Fin 512) (l : Fin 128) :
    rowPad3 M (ix2 r l) = if r.val / 128 = 3 then M (ix2 ⟨r.val % 128, by omega⟩ l) else 0 := by
  pointwise [rowPad3]
  repeat' split
  all_goals first | rfl | omega | (refine at_row M l ?_; dsimp only; omega)

theorem colPad0_apply (M : FVec Ideal S512x128 .f32) (r : Fin 512) (l : Fin 512) :
    colPad0 M (ix2 r l) = if l.val / 128 = 0 then M (ix2 r ⟨l.val % 128, by omega⟩) else 0 := by
  pointwise [colPad0]
  repeat' split
  all_goals first | rfl | omega | (refine at_lane M r ?_; dsimp only; omega)

theorem colPad1_apply (M : FVec Ideal S512x128 .f32) (r : Fin 512) (l : Fin 512) :
    colPad1 M (ix2 r l) = if l.val / 128 = 1 then M (ix2 r ⟨l.val % 128, by omega⟩) else 0 := by
  pointwise [colPad1]
  repeat' split
  all_goals first | rfl | omega | (refine at_lane M r ?_; dsimp only; omega)

theorem colPad2_apply (M : FVec Ideal S512x128 .f32) (r : Fin 512) (l : Fin 512) :
    colPad2 M (ix2 r l) = if l.val / 128 = 2 then M (ix2 r ⟨l.val % 128, by omega⟩) else 0 := by
  pointwise [colPad2]
  repeat' split
  all_goals first | rfl | omega | (refine at_lane M r ?_; dsimp only; omega)

theorem colPad3_apply (M : FVec Ideal S512x128 .f32) (r : Fin 512) (l : Fin 512) :
    colPad3 M (ix2 r l) = if l.val / 128 = 3 then M (ix2 r ⟨l.val % 128, by omega⟩) else 0 := by
  pointwise [colPad3]
  repeat' split
  all_goals first | rfl | omega | (refine at_lane M r ?_; dsimp only; omega)

theorem lanePad0_apply (b : FVec Ideal S128x1 .f32) (r : Fin 128) (l : Fin 4) :
    lanePad0 b (ix2 r l) = if l.val = 0 then b (ix2 r 0) else 0 := by
  pointwise [lanePad0]
  repeat' split
  all_goals first | rfl | omega | (refine at_lane b r ?_; simp; omega)

theorem lanePad1_apply (b : FVec Ideal S128x1 .f32) (r : Fin 128) (l : Fin 4) :
    lanePad1 b (ix2 r l) = if l.val = 1 then b (ix2 r 0) else 0 := by
  pointwise [lanePad1]
  repeat' split
  all_goals first | rfl | omega | (refine at_lane b r ?_; simp; omega)

theorem lanePad2_apply (b : FVec Ideal S128x1 .f32) (r : Fin 128) (l : Fin 4) :
    lanePad2 b (ix2 r l) = if l.val = 2 then b (ix2 r 0) else 0 := by
  pointwise [lanePad2]
  repeat' split
  all_goals first | rfl | omega | (refine at_lane b r ?_; simp; omega)

theorem lanePad3_apply (b : FVec Ideal S128x1 .f32) (r : Fin 128) (l : Fin 4) :
    lanePad3 b (ix2 r l) = if l.val = 3 then b (ix2 r 0) else 0 := by
  pointwise [lanePad3]
  repeat' split
  all_goals first | rfl | omega | (refine at_lane b r ?_; simp; omega)

theorem dwBlk_apply (dm v : Mat) (p q : Fin 128) :
    dwBlk dm v (ix2 p q) = if q.val ≤ p.val then ∑ c : Fin 128, dm (ix2 p c) * v (ix2 q c) else 0 := by
  pointwise [dwBlk, k0_pay27]
  exact select_row_ge p q _ _

theorem dvBlk_apply (w dm : Mat) (q c : Fin 128) :
    dvBlk w dm (ix2 q c) = ∑ p : Fin 128, (if q.val ≤ p.val then w (ix2 p q) else 0) * dm (ix2 p c) := by
  pointwise [dvBlk, lower, k0_pay27]
  exact Finset.sum_congr rfl fun p _ => by rw [select_row_ge, ite_zero_mul_eq]

theorem mixBlk_apply (w v : Mat) (b : FVec Ideal S128x1 .f32) (p c : Fin 128) :
    mixBlk w v b (ix2 p c) = ∑ q : Fin 128, (if q.val ≤ p.val then w (ix2 p q) else 0) * v (ix2 q c) + b (ix2 p 0) := by
  pointwise [mixBlk, lower, k0_pay27]
  congr 1
  exact Finset.sum_congr rfl fun q _ => by rw [select_row_ge, ite_zero_mul_eq]

theorem dbBlk_apply (dm : Mat) (p : Fin 128) : dbBlk dm (ix2 p 0) = ∑ c : Fin 128, dm (ix2 p c) := by
  pointwise [dbBlk]

end Cert.Sgu
-- ==== Proof.Tile.lean ====
/- One tile of the gating unit's gradient, put together from its pieces.

   `x0` … `x5` are the six blocks the body loads: the rows of the unit's input, the norm's scale and shift, the mixing
   matrices stacked by rows, their offsets, the cotangent. -/
module

public import proofs.«01_k».proof.Proof.Blocks

@[expose] public section

set_option maxRecDepth 65536

noncomputable section

namespace Cert.Sgu

open Cert.KernelIdeal Cert.KernelIdeal.Gen Idealize.ShloMosaic

abbrev Wide := FVec Ideal S512x512 .f32

/-! ## Cutting the blocks -/

theorem slices_mat (g : Fin 4) : S512x128.Slices ![128 * g.val, 0] S128x128 := by revert g; decide
theorem slices_offs (g : Fin 4) : S128x4.Slices ![0, g.val] S128x1 := by revert g; decide
theorem slices_cut (a g : Fin 4) : S512x512.Slices ![128 * a.val, 128 * g.val] S128x128 := by revert a g; decide
theorem slices_rows (a : Fin 4) : S512x512.Slices ![128 * a.val, 0] S128x512 := by revert a; decide
theorem slices_lanes (g : Fin 4) : S128x512.Slices ![0, 128 * g.val] S128x128 := by revert g; decide

/-- Mixing matrix `g` of the four. -/
def wMat (g : Fin 4) (W : FVec Ideal S512x128 .f32) : Mat := extractStridedSlice S128x128 ![128 * g.val, 0] W (slices_mat g)

/-- Its offsets. -/
def offs (g : Fin 4) (B : FVec Ideal S128x4 .f32) : FVec Ideal S128x1 .f32 := extractStridedSlice S128x1 ![0, g.val] B (slices_offs g)

/-- Chunk `a` of a tile, the lanes of group `g`. -/
def cut (a g : Fin 4) (v : Wide) : Mat := extractStridedSlice S128x128 ![128 * a.val, 128 * g.val] v (slices_cut a g)

/-- The same in two steps: first the rows, then the lanes. -/
def cut2 (a g : Fin 4) (v : Wide) : Mat :=
  extractStridedSlice S128x128 ![0, 128 * g.val] (extractStridedSlice S128x512 ![128 * a.val, 0] v (slices_rows a)) (slices_lanes g)

/-! ## The mixed values -/

/-- Chunk `a` of the tile, mixed. -/
def mixRows (a : Fin 4) (W : FVec Ideal S512x128 .f32) (B : FVec Ideal S128x4 .f32) (v : Wide) : FVec Ideal S128x512 .f32 :=
  concatenate S128x512 1 [⟨S128x128, mixBlk (wMat 0 W) (cut a 0 v) (offs 0 B)⟩, ⟨S128x128, mixBlk (wMat 1 W) (cut a 1 v) (offs 1 B)⟩, ⟨S128x128, mixBlk (wMat 2 W) (cut a 2 v) (offs 2 B)⟩, ⟨S128x128, mixBlk (wMat 3 W) (cut a 3 v) (offs 3 B)⟩] concatenates_S128x128_S128x128_S128x128_S128x128_S128x512_d1

/-- The whole tile, mixed. -/
def mixTile (W : FVec Ideal S512x128 .f32) (B : FVec Ideal S128x4 .f32) (v : Wide) : Wide :=
  concatenate S512x512 0 [⟨S128x512, mixRows 0 W B v⟩, ⟨S128x512, mixRows 1 W B v⟩, ⟨S128x512, mixRows 2 W B v⟩, ⟨S128x512, mixRows 3 W B v⟩] concatenates_S128x512_S128x512_S128x512_S128x512_S512x512_d0

/-! ## The gradients of what was mixed, of the matrices and of the offsets -/

/-- The gradient of the mixed-from values: sixteen padded pieces. -/
def dvTile (W : FVec Ideal S512x128 .f32) (dm : Wide) : Wide :=
    addf (addf (addf (addf (addf (addf (addf (addf (addf (addf (addf (addf (addf (addf (addf (colPad3 (rowPad3 (dvBlk (wMat 3 W) (cut2 3 3 dm))))
    (colPad2 (rowPad3 (dvBlk (wMat 2 W) (cut2 3 2 dm)))))
    (colPad1 (rowPad3 (dvBlk (wMat 1 W) (cut2 3 1 dm)))))
    (colPad0 (rowPad3 (dvBlk (wMat 0 W) (cut2 3 0 dm)))))
    (colPad3 (rowPad2 (dvBlk (wMat 3 W) (cut2 2 3 dm)))))
    (colPad2 (rowPad2 (dvBlk (wMat 2 W) (cut2 2 2 dm)))))
    (colPad1 (rowPad2 (dvBlk (wMat 1 W) (cut2 2 1 dm)))))
    (colPad0 (rowPad2 (dvBlk (wMat 0 W) (cut2 2 0 dm)))))
    (colPad3 (rowPad1 (dvBlk (wMat 3 W) (cut2 1 3 dm)))))
    (colPad2 (rowPad1 (dvBlk (wMat 2 W) (cut2 1 2 dm)))))
    (colPad1 (rowPad1 (dvBlk (wMat 1 W) (cut2 1 1 dm)))))
    (colPad0 (rowPad1 (dvBlk (wMat 0 W) (cut2 1 0 dm)))))
    (colPad3 (rowPad0 (dvBlk (wMat 3 W) (cut2 0 3 dm)))))
    (colPad2 (rowPad0 (dvBlk (wMat 2 W) (cut2 0 2 dm)))))
    (colPad1 (rowPad0 (dvBlk (wMat 1 W) (cut2 0 1 dm)))))
    (colPad0 (rowPad0 (dvBlk (wMat 0 W) (cut2 0 0 dm))))

/-- The gradient of the mixing matrices, stacked by rows. -/
def dwTile (v dm : Wide) : FVec Ideal S512x128 .f32 :=
    addf (addf (addf (addf (addf (addf (addf (addf (addf (addf (addf (addf (addf (addf (addf (rowPad3 (dwBlk (cut2 3 3 dm) (cut 3 3 v)))
    (rowPad2 (dwBlk (cut2 3 2 dm) (cut 3 2 v))))
    (rowPad1 (dwBlk (cut2 3 1 dm) (cut 3 1 v))))
    (rowPad0 (dwBlk (cut2 3 0 dm) (cut 3 0 v))))
    (rowPad3 (dwBlk (cut2 2 3 dm) (cut 2 3 v))))
    (rowPad2 (dwBlk (cut2 2 2 dm) (cut 2 2 v))))
    (rowPad1 (dwBlk (cut2 2 1 dm) (cut 2 1 v))))
    (rowPad0 (dwBlk (cut2 2 0 dm) (cut 2 0 v))))
    (rowPad3 (dwBlk (cut2 1 3 dm) (cut 1 3 v))))
    (rowPad2 (dwBlk (cut2 1 2 dm) (cut 1 2 v))))
    (rowPad1 (dwBlk (cut2 1 1 dm) (cut 1 1 v))))
    (rowPad0 (dwBlk (cut2 1 0 dm) (cut 1 0 v))))
    (rowPad3 (dwBlk (cut2 0 3 dm) (cut 0 3 v))))
    (rowPad2 (dwBlk (cut2 0 2 dm) (cut 0 2 v))))
    (rowPad1 (dwBlk (cut2 0 1 dm) (cut 0 1 v))))
    (rowPad0 (dwBlk (cut2 0 0 dm) (cut 0 0 v)))

/-- The gradient of the offsets. -/
def dbTile (dm : Wide) : FVec Ideal S128x4 .f32 :=
    addf (addf (addf (addf (addf (addf (addf (addf (addf (addf (addf (addf (addf (addf (addf (lanePad3 (dbBlk (cut2 3 3 dm)))
    (lanePad2 (dbBlk (cut2 3 2 dm))))
    (lanePad1 (dbBlk (cut2 3 1 dm))))
    (lanePad0 (dbBlk (cut2 3 0 dm))))
    (lanePad3 (dbBlk (cut2 2 3 dm))))
    (lanePad2 (dbBlk (cut2 2 2 dm))))
    (lanePad1 (dbBlk (cut2 2 1 dm))))
    (lanePad0 (dbBlk (cut2 2 0 dm))))
    (lanePad3 (dbBlk (cut2 1 3 dm))))
    (lanePad2 (dbBlk (cut2 1 2 dm))))
    (lanePad1 (dbBlk (cut2 1 1 dm))))
    (lanePad0 (dbBlk (cut2 1 0 dm))))
    (lanePad3 (dbBlk (cut2 0 3 dm))))
    (lanePad2 (dbBlk (cut2 0 2 dm))))
    (lanePad1 (dbBlk (cut2 0 1 dm))))
    (lanePad0 (dbBlk (cut2 0 0 dm)))

/-! ## The tile from its loads -/

/-- The normalised, scaled and shifted half of the tile. -/
def lnTile (x0 : Vec Ideal S512x1024 .bf16) (x1 x2 : Vec Ideal S1x512 .f32) : Wide :=
  k0_pay26 (k0_pay10 x1) (k0_pay11 x2) (k0_pay20 x0) (k0_pay21 x0)

/-- The gradient of the mixed values: the gating half times the cotangent. -/
def dmTile (x0 : Vec Ideal S512x1024 .bf16) (x5 : Vec Ideal S512x512 .bf16) : Wide := k0_pay90 (k0_pay19 x0) x5

/-- The gradient of the norm's result over the tile. -/
def dlnTile (x0 : Vec Ideal S512x1024 .bf16) (x3 : Vec Ideal S512x128 .f32) (x5 : Vec Ideal S512x512 .bf16) : Wide :=
  dvTile (k0_pay12 x3) (dmTile x0 x5)

/-- The gradient of the norm's scale: one row. -/
def dgTile (x0 : Vec Ideal S512x1024 .bf16) (x3 : Vec Ideal S512x128 .f32) (x5 : Vec Ideal S512x512 .bf16) : FVec Ideal S1x512 .f32 :=
  shapeCast S1x512 (multiReduction .add [0] S512 (mulf (k0_pay25 (k0_pay20 x0) (k0_pay21 x0)) (dlnTile x0 x3 x5))
    0x00000000#32 reduces_S512x512_S512_2 (.inl rfl) rfl) shapeCasts_S512_S1x512

/-- The gradient of the norm's shift: one row. -/
def dshTile (x0 : Vec Ideal S512x1024 .bf16) (x3 : Vec Ideal S512x128 .f32) (x5 : Vec Ideal S512x512 .bf16) : FVec Ideal S1x512 .f32 :=
  shapeCast S1x512 (multiReduction .add [0] S512 (dlnTile x0 x3 x5)
    0x00000000#32 reduces_S512x512_S512_2 (.inl rfl) rfl) shapeCasts_S512_S1x512

/-- The gradient of the tile's rows. -/
def dxTile (x0 : Vec Ideal S512x1024 .bf16) (x1 x2 : Vec Ideal S1x512 .f32) (x3 : Vec Ideal S512x128 .f32)
    (x4 : Vec Ideal S128x4 .f32) (x5 : Vec Ideal S512x512 .bf16) : FVec Ideal S512x1024 .bf16 :=
  k0_pay157 (k0_pay9 x0) (k0_pay14 x0) (k0_pay16 x0) (k0_pay17 x0) (k0_pay20 x0) (k0_pay23 (k0_pay21 x0)) (k0_pay24 (k0_pay21 x0))
    (k0_pay91 (mixTile (k0_pay12 x3) (k0_pay13 x4) (lnTile x0 x1 x2)) (k0_pay89 x5))
    (mulf (dlnTile x0 x3 x5) (broadcastTo S512x512 (k0_pay10 x1) broadcasts_S1x512_S512x512))
    (mulf (k0_pay20 x0) (mulf (dlnTile x0 x3 x5) (broadcastTo S512x512 (k0_pay10 x1) broadcasts_S1x512_S512x512)))

end Cert.Sgu
-- ==== Proof.Opened.lean ====
/- What the kernel's run leaves in its five output buffers at a grid point, as the tile's named pieces.

   The body's payloads, opened, are the pieces of `Tile` put together in the same order. -/
module

public import proofs.«01_k».proof.Proof.Tile
public import proofs.«01_k».proof.Proof.Gen.KernelIdeal.Value
public import Idealize.ShloMosaic.Lib.Pipeline.ValueKit

@[expose] public section

set_option maxRecDepth 65536

noncomputable section

namespace Cert.Sgu

open Cert.KernelIdeal Cert.KernelIdeal.Gen Idealize.ShloMosaic

variable (m : (ℓ : Loc nD τ sig) → Buf (Elt Ideal) ℓ)

theorem rows_at_A (c : Dev nD) (t : Fin cfg0.N) (h0 : t.val % 32 = 0) :
    (outsAt0 m c t.val t.isLt).1 = (dxTile (iblk m c 0 t) (iblk m c 1 t) (iblk m c 2 t) (iblk m c 3 t) (iblk m c 4 t) (iblk m c 5 t)) := by
  rw [outsAt0_A m c t h0]
  frame_out
  rfl

theorem rows_at_B (c : Dev nD) (t : Fin cfg0.N) (h0 : ¬t.val % 32 = 0) :
    (outsAt0 m c t.val t.isLt).1 = (dxTile (iblk m c 0 t) (iblk m c 1 t) (iblk m c 2 t) (iblk m c 3 t) (iblk m c 4 t) (iblk m c 5 t)) := by
  rw [outsAt0_B m c t h0]
  frame_out
  rfl

theorem scale_at_A (c : Dev nD) (t : Fin cfg0.N) (h0 : t.val % 32 = 0) :
    (outsAt0 m c t.val t.isLt).2.1 = k0_pay5 (dgTile (iblk m c 0 t) (iblk m c 3 t) (iblk m c 5 t)) (k0_pay1 (F := Ideal)) := by
  rw [outsAt0_A m c t h0]
  frame_out
  rfl

theorem scale_at_B (c : Dev nD) (t : Fin cfg0.N) (h0 : ¬t.val % 32 = 0) :
    (outsAt0 m c t.val t.isLt).2.1 = k0_pay5 (dgTile (iblk m c 0 t) (iblk m c 3 t) (iblk m c 5 t)) (outsAt0 m c (t.val - 1) (Nat.lt_of_le_of_lt (Nat.sub_le _ _) t.isLt)).2.1 := by
  rw [outsAt0_B m c t h0]
  frame_out
  rfl

theorem shift_at_A (c : Dev nD) (t : Fin cfg0.N) (h0 : t.val % 32 = 0) :
    (outsAt0 m c t.val t.isLt).2.2.1 = k0_pay6 (dshTile (iblk m c 0 t) (iblk m c 3 t) (iblk m c 5 t)) (k0_pay2 (F := Ideal)) := by
  rw [outsAt0_A m c t h0]
  frame_out
  rfl

theorem shift_at_B (c : Dev nD) (t : Fin cfg0.N) (h0 : ¬t.val % 32 = 0) :
    (outsAt0 m c t.val t.isLt).2.2.1 = k0_pay6 (dshTile (iblk m c 0 t) (iblk m c 3 t) (iblk m c 5 t)) (outsAt0 m c (t.val - 1) (Nat.lt_of_le_of_lt (Nat.sub_le _ _) t.isLt)).2.2.1 := by
  rw [outsAt0_B m c t h0]
  frame_out
  rfl

theorem mats_at_A (c : Dev nD) (t : Fin cfg0.N) (h0 : t.val % 32 = 0) :
    (outsAt0 m c t.val t.isLt).2.2.2.1 = k0_pay7 (dwTile (lnTile (iblk m c 0 t) (iblk m c 1 t) (iblk m c 2 t)) (dmTile (iblk m c 0 t) (iblk m c 5 t))) (k0_pay3 (F := Ideal)) := by
  rw [outsAt0_A m c t h0]
  frame_out
  rfl

theorem mats_at_B (c : Dev nD) (t : Fin cfg0.N) (h0 : ¬t.val % 32 = 0) :
    (outsAt0 m c t.val t.isLt).2.2.2.1 = k0_pay7 (dwTile (lnTile (iblk m c 0 t) (iblk m c 1 t) (iblk m c 2 t)) (dmTile (iblk m c 0 t) (iblk m c 5 t))) (outsAt0 m c (t.val - 1) (Nat.lt_of_le_of_lt (Nat.sub_le _ _) t.isLt)).2.2.2.1 := by
  rw [outsAt0_B m c t h0]
  frame_out
  rfl

theorem offs_at_A (c : Dev nD) (t : Fin cfg0.N) (h0 : t.val % 32 = 0) :
    (outsAt0 m c t.val t.isLt).2.2.2.2 = k0_pay8 (dbTile (dmTile (iblk m c 0 t) (iblk m c 5 t))) (k0_pay4 (F := Ideal)) := by
  rw [outsAt0_A m c t h0]
  frame_out
  rfl

theorem offs_at_B (c : Dev nD) (t : Fin cfg0.N) (h0 : ¬t.val % 32 = 0) :
    (outsAt0 m c t.val t.isLt).2.2.2.2 = k0_pay8 (dbTile (dmTile (iblk m c 0 t) (iblk m c 5 t))) (outsAt0 m c (t.val - 1) (Nat.lt_of_le_of_lt (Nat.sub_le _ _) t.isLt)).2.2.2.2 := by
  rw [outsAt0_B m c t h0]
  frame_out
  rfl

end Cert.Sgu
-- ==== Proof.Spec.lean ====
/- The gradient of the spatial gating unit, as functions on the extended reals.

   A row of 1024 numbers is activated, its first half `u` gates and its second half `v` is normalised; in each chunk of
   128 rows the normalised half is mixed along the rows by lower triangular matrices, one for each group of 128 lanes.
   Everything below depends on one row or on one chunk; kernel and reference are both read as sums over the chunks. -/
module

public import Idealize.ShloMosaic.Lib.Pointwise

@[expose] public section

noncomputable section

namespace Cert.Sgu

open Idealize.ShloMosaic

/-! ## Numbers -/

abbrev half : EReal := Ideal.ofBits FTy.f32 0x3F000000#32
abbrev three : EReal := Ideal.ofBits FTy.f32 0x40400000#32
abbrev lanesN : EReal := Ideal.ofBits FTy.f32 0x44000000#32
abbrev tanhScale : EReal := Ideal.ofBits FTy.f32 0x3F4C422A#32
abbrev cubeScale : EReal := Ideal.ofBits FTy.f32 0x3D372713#32
abbrev negHalf : EReal := Ideal.ofBits FTy.f32 0xBF000000#32
abbrev normEps : EReal := Ideal.ofBits FTy.f32 0x3727C5AC#32

/-- The hyperbolic tangent inside the activation. -/
def th (x : EReal) : EReal := Ideal.tanh (tanhScale * (x + cubeScale * (x * (x * x))))

/-- What multiplies `x` in the activation. -/
def gate (x : EReal) : EReal := half * (1 + th x)

def act (x : EReal) : EReal := x * gate x

/-! ## One row -/

/-- The gating half of a row. -/
def upper (x : Fin 1024 → EReal) (d : Fin 512) : EReal := act (x ⟨d.val, by omega⟩)

/-- The half of a row that is normalised. -/
def lowerHalf (x : Fin 1024 → EReal) (d : Fin 512) : EReal := act (x ⟨512 + d.val, by omega⟩)

def centred (x : Fin 1024 → EReal) (d : Fin 512) : EReal :=
  lowerHalf x d - Ideal.div (∑ k : Fin 512, lowerHalf x k) lanesN

def spread (x : Fin 1024 → EReal) : EReal :=
  Ideal.div (∑ k : Fin 512, centred x k * centred x k) lanesN + normEps

def rstd (x : Fin 1024 → EReal) : EReal := Ideal.rsqrt (spread x)

def normed (x : Fin 1024 → EReal) (d : Fin 512) : EReal := centred x d * rstd x

/-- The derivative of the reciprocal root at the row's spread. -/
def rstdSlope (x : Fin 1024 → EReal) : EReal := negHalf * Ideal.div (rstd x) (spread x)

/-- From the gradient `a` of the normalised row, what reaches the row's spread. -/
def spreadGrad (x : Fin 1024 → EReal) (a : Fin 512 → EReal) : EReal :=
  Ideal.div ((∑ k : Fin 512, centred x k * a k) * rstdSlope x) lanesN

def centredGrad (x : Fin 1024 → EReal) (a : Fin 512 → EReal) (d : Fin 512) : EReal :=
  a d * rstd x + centred x d * spreadGrad x a + spreadGrad x a * centred x d

/-- The gradient of the half that is normalised. -/
def halfGrad (x : Fin 1024 → EReal) (a : Fin 512 → EReal) (d : Fin 512) : EReal :=
  centredGrad x a d + Ideal.div (∑ k : Fin 512, -centredGrad x a k) lanesN

/-- The gradient of the activated row: of the gating half the cotangent times what it gates, of the other half what
    comes back through the norm. -/
def actGrad (x : Fin 1024 → EReal) (c mixed a : Fin 512 → EReal) (l : Fin 1024) : EReal :=
  if h : l.val < 512 then c ⟨l.val, h⟩ * mixed ⟨l.val, h⟩ else halfGrad x a ⟨l.val - 512, by omega⟩

def tanhGrad (x d : EReal) : EReal := tanhScale * (half * (x * d) * ((1 + th x) * (1 - th x)))

/-- The gradient of one row from the cotangent's row, the mixed values, and the gradient of the normalised row. -/
def rowGrad (x : Fin 1024 → EReal) (c mixed a : Fin 512 → EReal) (l : Fin 1024) : EReal :=
  actGrad x c mixed a l * gate (x l) + tanhGrad (x l) (actGrad x c mixed a l)
    + cubeScale * tanhGrad (x l) (actGrad x c mixed a l) * (three * (x l * x l))

/-! ## One chunk of 128 rows -/

abbrev Chunk (n : Nat) := Fin 128 → Fin n → EReal

/-- The group of lanes that lane `d` belongs to. -/
abbrev grp (d : Fin 512) : Fin 4 := ⟨d.val / 128, by omega⟩

/-- Lane `c` of group `g`. -/
abbrev lane (g : Fin 4) (c : Fin 128) : Fin 512 := ⟨g.val * 128 + c.val, by omega⟩

/-- A mixing matrix's entry, zero above the diagonal. -/
def tri (W : Fin 4 → Fin 128 → Fin 128 → EReal) (g : Fin 4) (p q : Fin 128) : EReal :=
  if q.val ≤ p.val then W g p q else 0

def lnChunk (G S : Fin 512 → EReal) (X : Chunk 1024) (q : Fin 128) (d : Fin 512) : EReal := normed (X q) d * G d + S d

/-- The gradient of the mixed values. -/
def mixGrad (X : Chunk 1024) (C : Chunk 512) (p : Fin 128) (d : Fin 512) : EReal := upper (X p) d * C p d

def mixed (W : Fin 4 → Fin 128 → Fin 128 → EReal) (B : Fin 4 → Fin 128 → EReal) (v : Chunk 512) (p : Fin 128) (d : Fin 512) : EReal :=
  ∑ q : Fin 128, tri W (grp d) p q * v q d + B (grp d) p

/-- The gradient of what was mixed. -/
def unmix (W : Fin 4 → Fin 128 → Fin 128 → EReal) (dm : Chunk 512) (q : Fin 128) (d : Fin 512) : EReal :=
  ∑ p : Fin 128, tri W (grp d) p q * dm p d

/-- The gradient of row `p` of a chunk. -/
def chunkGrad (G S : Fin 512 → EReal) (W : Fin 4 → Fin 128 → Fin 128 → EReal) (B : Fin 4 → Fin 128 → EReal)
    (X : Chunk 1024) (C : Chunk 512) (p : Fin 128) (l : Fin 1024) : EReal :=
  rowGrad (X p) (C p) (mixed W B (lnChunk G S X) p) (fun d => unmix W (mixGrad X C) p d * G d) l

/-- A chunk's part of the gradient of the norm's scale. -/
def scaleGrad (W : Fin 4 → Fin 128 → Fin 128 → EReal) (X : Chunk 1024) (C : Chunk 512) (d : Fin 512) : EReal :=
  ∑ p : Fin 128, normed (X p) d * unmix W (mixGrad X C) p d

/-- A chunk's part of the gradient of the norm's shift. -/
def shiftGrad (W : Fin 4 → Fin 128 → Fin 128 → EReal) (X : Chunk 1024) (C : Chunk 512) (d : Fin 512) : EReal :=
  ∑ p : Fin 128, unmix W (mixGrad X C) p d

/-- A chunk's part of the gradient of the mixing matrices. -/
def matGrad (G S : Fin 512 → EReal) (X : Chunk 1024) (C : Chunk 512) (g : Fin 4) (p q : Fin 128) : EReal :=
  if q.val ≤ p.val then ∑ c : Fin 128, mixGrad X C p (lane g c) * lnChunk G S X q (lane g c) else 0

/-- A chunk's part of the gradient of the offsets. -/
def offsGrad (X : Chunk 1024) (C : Chunk 512) (g : Fin 4) (p : Fin 128) : EReal :=
  ∑ c : Fin 128, mixGrad X C p (lane g c)

end Cert.Sgu
-- ==== Proof.TileRows.lean ====
/- What the row-wise pieces of a tile hold at an index. -/
module

public import proofs.«01_k».proof.Proof.Tile
public import proofs.«01_k».proof.Proof.Spec

@[expose] public section

set_option maxRecDepth 65536

noncomputable section

namespace Cert.Sgu

open Cert.KernelIdeal Cert.KernelIdeal.Gen Idealize.ShloMosaic

variable (x0 : Vec Ideal S512x1024 .bf16) (x1 x2 : Vec Ideal S1x512 .f32) (x3 : Vec Ideal S512x128 .f32)
  (x4 : Vec Ideal S128x4 .f32) (x5 : Vec Ideal S512x512 .bf16)

/-- Row `r` of a tile. -/
abbrev rowOf (r : Fin 512) : Fin 1024 → EReal := fun l => x0 (ix2 r l)

theorem gate_at (r : Fin 512) (l : Fin 1024) : k0_pay17 (F := Ideal) x0 (ix2 r l) = gate (x0 (ix2 r l)) := by
  pointwise [k0_pay17, k0_pay15, k0_pay9]
  rfl

theorem act_at (r : Fin 512) (l : Fin 1024) : k0_pay18 (F := Ideal) x0 (ix2 r l) = act (x0 (ix2 r l)) := by
  pointwise [k0_pay18, k0_pay9, gate_at]
  rfl

theorem slope_at (r : Fin 512) (l : Fin 1024) :
    k0_pay16 (F := Ideal) x0 (ix2 r l) = (1 + th (x0 (ix2 r l))) * (1 - th (x0 (ix2 r l))) := by
  pointwise [k0_pay16, k0_pay15, k0_pay9]
  rfl

theorem upper_at (r : Fin 512) (d : Fin 512) : k0_pay19 (F := Ideal) x0 (ix2 r d) = upper (rowOf x0 r) d := by
  pointwise [k0_pay19, act_at]
  rfl

theorem centred_at (r : Fin 512) (d : Fin 512) : k0_pay20 (F := Ideal) x0 (ix2 r d) = centred (rowOf x0 r) d := by
  pointwise [k0_pay20, act_at]
  rfl

theorem square_at (r : Fin 512) (d : Fin 512) :
    k0_pay21 (F := Ideal) x0 (ix2 r d) = centred (rowOf x0 r) d * centred (rowOf x0 r) d := by
  pointwise [k0_pay21, centred_at]

theorem spread_at (r : Fin 512) : k0_pay22 (k0_pay21 (F := Ideal) x0) (ix2 r 0) = spread (rowOf x0 r) := by
  pointwise [k0_pay22, square_at]
  rfl

theorem rstd_at (r : Fin 512) : k0_pay23 (k0_pay21 (F := Ideal) x0) (ix2 r 0) = rstd (rowOf x0 r) := by
  pointwise [k0_pay23, spread_at]
  rfl

theorem rstdSlope_at (r : Fin 512) (z : Fin 1) : k0_pay24 (k0_pay21 (F := Ideal) x0) (ix2 r z) = rstdSlope (rowOf x0 r) := by
  rw [Subsingleton.elim z 0]
  pointwise [k0_pay24, spread_at, rstd_at]
  rfl

theorem normed_at (r : Fin 512) (d : Fin 512) :
    k0_pay25 (k0_pay20 (F := Ideal) x0) (k0_pay21 x0) (ix2 r d) = normed (rowOf x0 r) d := by
  pointwise [k0_pay25, centred_at, rstd_at]
  rfl

theorem ln_at (r : Fin 512) (d : Fin 512) :
    lnTile x0 x1 x2 (ix2 r d) = normed (rowOf x0 r) d * x1 (ix2 0 d) + x2 (ix2 0 d) := by
  pointwise [lnTile, k0_pay26, k0_pay10, k0_pay11, normed_at]

theorem dm_at (r : Fin 512) (d : Fin 512) :
    dmTile x0 x5 (ix2 r d) = upper (rowOf x0 r) d * x5 (ix2 r d) := by
  pointwise [dmTile, k0_pay90, k0_pay89, upper_at]

/-- The gradient of a row from the mixed values and the gradient `D` of the scaled norm. -/
theorem dx_at (M D : Wide) (r : Fin 512) (l : Fin 1024) :
    k0_pay157 (k0_pay9 x0) (k0_pay14 x0) (k0_pay16 x0) (k0_pay17 x0) (k0_pay20 x0) (k0_pay23 (k0_pay21 x0)) (k0_pay24 (k0_pay21 x0))
      (k0_pay91 M (k0_pay89 x5)) D (mulf (k0_pay20 x0) D) (ix2 r l)
      = rowGrad (rowOf x0 r) (fun d => x5 (ix2 r d)) (fun d => M (ix2 r d)) (fun d => D (ix2 r d)) l := by
  pointwise [k0_pay157, k0_pay9, k0_pay14, slope_at, gate_at, centred_at, rstd_at, rstdSlope_at, k0_pay91, k0_pay89]
  simp only [Finset.univ_unique, Finset.sum_singleton, zero_sub]
  by_cases h : l.val < 512
  · simp only [rowGrad, actGrad, tanhGrad, dif_pos h, zero_add]
  · simp only [rowGrad, actGrad, tanhGrad, dif_neg h, add_zero]
    rfl

end Cert.Sgu
-- ==== Proof.TileChunks.lean ====
/- What the chunk-wise pieces of a tile hold at an index: the sixteen padded products are the chunks' sums. -/
module

public import proofs.«01_k».proof.Proof.TileRows

@[expose] public section

set_option maxRecDepth 65536

noncomputable section

namespace Cert.Sgu

open Cert.KernelIdeal Cert.KernelIdeal.Gen Idealize.ShloMosaic

/-- Row `p` of chunk `a` of a tile. -/
abbrev tileRow (a : Fin 4) (p : Fin 128) : Fin 512 := ⟨a.val * 128 + p.val, by omega⟩

/-- Chunk `a` of a tile. -/
abbrev chunkOf {n : Nat} (v : Vec Ideal ⟨2, ![512, n]⟩ .f32) (a : Fin 4) : Chunk n := fun p d => v (ix2 (tileRow a p) d)

/-- The mixing matrices, from the array that holds them stacked by rows. -/
abbrev matsOf (W : Vec Ideal S512x128 .f32) (g : Fin 4) (p q : Fin 128) : EReal := W (ix2 (tileRow g p) q)

/-- The offsets, from the array that holds one lane for each group. -/
abbrev offsOf (B : Vec Ideal S128x4 .f32) (g : Fin 4) (p : Fin 128) : EReal := B (ix2 p g)

theorem lane_cases (d : Fin 512) : ∃ g c, d = lane g c :=
  ⟨grp d, ⟨d.val % 128, by omega⟩, Fin.ext (by dsimp only; omega)⟩

theorem row_cases (r : Fin 512) : ∃ a p, r = tileRow a p :=
  ⟨⟨r.val / 128, by omega⟩, ⟨r.val % 128, by omega⟩, Fin.ext (by dsimp only; omega)⟩

theorem lane_div (g : Fin 4) (c : Fin 128) : (g.val * 128 + c.val) / 128 = g.val := by omega

theorem lane_mod (g : Fin 4) (c : Fin 128) : (g.val * 128 + c.val) % 128 = c.val := by omega

theorem grp_lane (g : Fin 4) (c : Fin 128) : grp (lane g c) = g := Fin.ext (lane_div g c)

theorem wMat_at (W : FVec Ideal S512x128 .f32) (g : Fin 4) (p q : Fin 128) : wMat g W (ix2 p q) = matsOf W g p q := by
  pointwise [wMat]
  exact at_row W q (by dsimp only; omega)

theorem offs_at (B : FVec Ideal S128x4 .f32) (g : Fin 4) (p : Fin 128) : offs g B (ix2 p 0) = offsOf B g p := by
  pointwise [offs]

theorem cut_at (v : Wide) (a g : Fin 4) (p c : Fin 128) : cut a g v (ix2 p c) = chunkOf v a p (lane g c) := by
  pointwise [cut]
  rw [at_row v _ (r' := tileRow a p) (by dsimp only; omega)]
  exact at_lane v _ (by dsimp only; omega)

theorem cut2_at (v : Wide) (a g : Fin 4) (p c : Fin 128) : cut2 a g v (ix2 p c) = chunkOf v a p (lane g c) := by
  rw [← cut_at]
  pointwise [cut, cut2]

/-- Four pieces beside each other, read in piece `g`. -/
theorem beside_at (M : Fin 4 → Mat) (p : Fin 128) (g : Fin 4) (c : Fin 128) :
    concatenate S128x512 1 [⟨S128x128, M 0⟩, ⟨S128x128, M 1⟩, ⟨S128x128, M 2⟩, ⟨S128x128, M 3⟩]
      concatenates_S128x128_S128x128_S128x128_S128x128_S128x512_d1 (ix2 p (lane g c)) = M g (ix2 p c) := by
  pointwise
  fin_cases g <;> repeat' split
  all_goals first | (exfalso; simp at *; omega) | (exfalso; simp at *; done) | (refine at_lane _ p ?_; dsimp only; omega)

/-- Four pieces below each other, read in piece `a`. -/
theorem stacked_at (M : Fin 4 → FVec Ideal S128x512 .f32) (a : Fin 4) (p : Fin 128) (d : Fin 512) :
    concatenate S512x512 0 [⟨S128x512, M 0⟩, ⟨S128x512, M 1⟩, ⟨S128x512, M 2⟩, ⟨S128x512, M 3⟩]
      concatenates_S128x512_S128x512_S128x512_S128x512_S512x512_d0 (ix2 (tileRow a p) d) = M a (ix2 p d) := by
  pointwise
  fin_cases a <;> repeat' split
  all_goals first | (exfalso; simp at *; omega) | (exfalso; simp at *; done) | (refine at_row _ d ?_; dsimp only; omega)

theorem mixRows_at (W : FVec Ideal S512x128 .f32) (B : FVec Ideal S128x4 .f32) (v : Wide) (a : Fin 4) (p : Fin 128) (d : Fin 512) :
    mixRows a W B v (ix2 p d) = mixed (matsOf W) (offsOf B) (chunkOf v a) p d := by
  obtain ⟨g, c, rfl⟩ := lane_cases d
  refine (beside_at (fun g => mixBlk (wMat g W) (cut a g v) (offs g B)) p g c).trans ?_
  rw [mixBlk_apply]
  simp only [wMat_at, cut_at, offs_at, mixed, tri, grp_lane]

theorem mixTile_at (W : FVec Ideal S512x128 .f32) (B : FVec Ideal S128x4 .f32) (v : Wide) (a : Fin 4) (p : Fin 128) (d : Fin 512) :
    mixTile W B v (ix2 (tileRow a p) d) = mixed (matsOf W) (offsOf B) (chunkOf v a) p d :=
  (stacked_at (fun a => mixRows a W B v) a p d).trans (mixRows_at W B v a p d)

theorem dvTile_at (W : FVec Ideal S512x128 .f32) (dm : Wide) (a : Fin 4) (p : Fin 128) (d : Fin 512) :
    dvTile W dm (ix2 (tileRow a p) d) = unmix (matsOf W) (chunkOf dm a) p d := by
  obtain ⟨g, c, rfl⟩ := lane_cases d
  simp only [unmix, tri, grp_lane]
  pointwise [dvTile, colPad0_apply, colPad1_apply, colPad2_apply, colPad3_apply, rowPad0_apply, rowPad1_apply, rowPad2_apply,
    rowPad3_apply, lane_div, lane_mod, dvBlk_apply, wMat_at, cut2_at]
  fin_cases a <;> fin_cases g <;> simp

theorem dwTile_at (v dm : Wide) (g : Fin 4) (p q : Fin 128) :
    dwTile v dm (ix2 (tileRow g p) q)
      = ∑ a : Fin 4, if q.val ≤ p.val then ∑ c : Fin 128, chunkOf dm a p (lane g c) * chunkOf v a q (lane g c) else 0 := by
  rw [Fin.sum_univ_four]
  pointwise [dwTile, rowPad0_apply, rowPad1_apply, rowPad2_apply, rowPad3_apply, lane_div, lane_mod, dwBlk_apply, cut_at, cut2_at]
  fin_cases g <;> simp <;> ac_rfl

theorem dbTile_at (dm : Wide) (g : Fin 4) (p : Fin 128) :
    dbTile dm (ix2 p g) = ∑ a : Fin 4, ∑ c : Fin 128, chunkOf dm a p (lane g c) := by
  rw [Fin.sum_univ_four]
  pointwise [dbTile, lanePad0_apply, lanePad1_apply, lanePad2_apply, lanePad3_apply, dbBlk_apply, cut2_at]
  fin_cases g <;> simp <;> ac_rfl

end Cert.Sgu
-- ==== Proof.Whole.lean ====
/- The five gradients over the whole arrays: 16384 rows are 128 chunks. -/
module

public import proofs.«01_k».proof.Proof.Spec

@[expose] public section

noncomputable section

namespace Cert.Sgu

open Idealize.ShloMosaic

/-- The arguments, read as numbers: scale and shift of the norm, mixing matrices and offsets, the rows, the cotangent. -/
structure Data where
  G : Fin 512 → EReal
  S : Fin 512 → EReal
  W : Fin 4 → Fin 128 → Fin 128 → EReal
  B : Fin 4 → Fin 128 → EReal
  X : Fin 16384 → Fin 1024 → EReal
  C : Fin 16384 → Fin 512 → EReal

/-- The arguments' arrays as `Data`. -/
@[reducible] def Data.of (a0 a1 : FVec Ideal ⟨1, ![512]⟩ .f32) (a2 : FVec Ideal ⟨3, ![4, 128, 128]⟩ .f32) (a3 : FVec Ideal ⟨2, ![4, 128]⟩ .f32)
    (a4 : FVec Ideal ⟨2, ![16384, 1024]⟩ .bf16) (a5 : FVec Ideal ⟨2, ![16384, 512]⟩ .bf16) : Data where
  G d := a0 (ix1 d)
  S d := a1 (ix1 d)
  W g p q := a2 (ix3 g p q)
  B g p := a3 (ix2 g p)
  X r l := a4 (ix2 r l)
  C r d := a5 (ix2 r d)

/-- Row `p` of chunk `k`. -/
abbrev wholeRow (k p : Fin 128) : Fin 16384 := ⟨k.val * 128 + p.val, by omega⟩

/-- Chunk `k` of an array of rows. -/
abbrev chunkAt {n : Nat} (A : Fin 16384 → Fin n → EReal) (k : Fin 128) : Chunk n := fun p d => A (wholeRow k p) d

variable (D : Data)

def rowsResult (r : Fin 16384) (l : Fin 1024) : EReal :=
  chunkGrad D.G D.S D.W D.B (chunkAt D.X ⟨r.val / 128, by omega⟩) (chunkAt D.C ⟨r.val / 128, by omega⟩) ⟨r.val % 128, by omega⟩ l

def scaleResult (d : Fin 512) : EReal := ∑ k : Fin 128, scaleGrad D.W (chunkAt D.X k) (chunkAt D.C k) d

def shiftResult (d : Fin 512) : EReal := ∑ k : Fin 128, shiftGrad D.W (chunkAt D.X k) (chunkAt D.C k) d

def matResult (g : Fin 4) (p q : Fin 128) : EReal := ∑ k : Fin 128, matGrad D.G D.S (chunkAt D.X k) (chunkAt D.C k) g p q

def offsResult (g : Fin 4) (p : Fin 128) : EReal := ∑ k : Fin 128, offsGrad (chunkAt D.X k) (chunkAt D.C k) g p

/-! ## The same as arrays -/

def rowsArr : FVec Ideal ⟨2, ![16384, 1024]⟩ .bf16 := fun j => rowsResult D (j 0) (j 1)

def scaleArr : FVec Ideal ⟨2, ![1, 512]⟩ .f32 := fun j => scaleResult D (j 1)

def shiftArr : FVec Ideal ⟨2, ![1, 512]⟩ .f32 := fun j => shiftResult D (j 1)

def matArr : FVec Ideal ⟨2, ![512, 128]⟩ .f32 := fun j =>
  matResult D ⟨(j 0).val / 128, Nat.div_lt_of_lt_mul (j 0).isLt⟩ ⟨(j 0).val % 128, Nat.mod_lt _ (by decide)⟩ (j 1)

def offsArr : FVec Ideal ⟨2, ![128, 4]⟩ .f32 := fun j => offsResult D (j 1) (j 0)

end Cert.Sgu
-- ==== Proof.Arrays.lean ====
/- The kernel's five result arrays after its run, as the gradients over the whole arrays. -/
module

public import proofs.«01_k».proof.Proof.Opened
public import proofs.«01_k».proof.Proof.TileChunks
public import proofs.«01_k».proof.Proof.Whole

@[expose] public section

set_option maxRecDepth 16384

noncomputable section

namespace Cert.Sgu

open Cert.KernelIdeal Cert.KernelIdeal.Gen Idealize.ShloMosaic Idealize.ShloMosaic.TcCoe

variable (m : (ℓ : Loc nD τ sig) → Buf (Elt Ideal) ℓ)

/-- The kernel's arguments as launched. -/
@[reducible] def dataK (c : Dev nD) : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, (cfg0.win 0).index t = ![t.val, 0] ∧ (cfg0.win 1).index t = ![0, 0] ∧ (cfg0.win 2).index t = ![0, 0]
    ∧ (cfg0.win 3).index t = ![0, 0] ∧ (cfg0.win 4).index t = ![0, 0] ∧ (cfg0.win 5).index t = ![t.val, 0]
    ∧ (cfg0.win 6).index t = ![t.val, 0] := by decide +kernel

theorem pts (t : Fin cfg0.N) : t.val < 32 := lt_of_lt_of_eq t.isLt N_0

/-- Row `r` of tile `t`. -/
abbrev ptRow (t : Fin cfg0.N) (r : Fin 512) : Fin 16384 := ⟨t.val * 512 + r.val, by have := pts t; omega⟩

theorem blk0_at (c : Dev nD) (t : Fin cfg0.N) (r : Fin 512) (l : Fin 1024) :
    (iblk m c 0 t : Vec Ideal S512x1024 .bf16) (ix2 r l) = (dataK m c).X (ptRow t r) l := by
  blk_ext [iblk, V, idx t]

theorem entry1_at (c : Dev nD) (d : Fin 512) : (V m c main_v0 : Vec Ideal S1x512 .f32) (ix2 0 d) = (dataK m c).G d := by
  entry_read
  pointwise

theorem entry2_at (c : Dev nD) (d : Fin 512) : (V m c main_v1 : Vec Ideal S1x512 .f32) (ix2 0 d) = (dataK m c).S d := by
  entry_read
  pointwise

theorem entry3_at (c : Dev nD) (g : Fin 4) (p q : Fin 128) :
    (V m c main_v2 : Vec Ideal S512x128 .f32) (ix2 (tileRow g p) q) = (dataK m c).W g p q := by
  entry_read
  pointwise
  congr 2
  · exact Fin.ext (by dsimp only; omega)
  · exact Fin.ext (by dsimp only; omega)

theorem entry4_at (c : Dev nD) (g : Fin 4) (p : Fin 128) : (V m c main_v3 : Vec Ideal S128x4 .f32) (ix2 p g) = (dataK m c).B g p := by
  entry_read
  pointwise

theorem blk1_at (c : Dev nD) (t : Fin cfg0.N) (d : Fin 512) :
    (iblk m c 1 t : Vec Ideal S1x512 .f32) (ix2 0 d) = (dataK m c).G d := by
  refine Eq.trans ?_ (entry1_at m c d)
  blk_ext [iblk, idx t]

theorem blk2_at (c : Dev nD) (t : Fin cfg0.N) (d : Fin 512) :
    (iblk m c 2 t : Vec Ideal S1x512 .f32) (ix2 0 d) = (dataK m c).S d := by
  refine Eq.trans ?_ (entry2_at m c d)
  blk_ext [iblk, idx t]

theorem blk3_at (c : Dev nD) (t : Fin cfg0.N) (g : Fin 4) (p q : Fin 128) :
    (iblk m c 3 t : Vec Ideal S512x128 .f32) (ix2 (tileRow g p) q) = (dataK m c).W g p q := by
  refine Eq.trans ?_ (entry3_at m c g p q)
  blk_ext [iblk, idx t]

theorem blk4_at (c : Dev nD) (t : Fin cfg0.N) (g : Fin 4) (p : Fin 128) :
    (iblk m c 4 t : Vec Ideal S128x4 .f32) (ix2 p g) = (dataK m c).B g p := by
  refine Eq.trans ?_ (entry4_at m c g p)
  blk_ext [iblk, idx t]

theorem blk5_at (c : Dev nD) (t : Fin cfg0.N) (r : Fin 512) (d : Fin 512) :
    (iblk m c 5 t : Vec Ideal S512x512 .bf16) (ix2 r d) = (dataK m c).C (ptRow t r) d := by
  blk_ext [iblk, V, idx t]

/-! ## The tile's blocks are chunks of the arrays -/

/-- Chunk `a` of tile `t`, counted over the whole array. -/
abbrev ptChunk (t : Fin cfg0.N) (a : Fin 4) : Fin 128 := ⟨t.val * 4 + a.val, by have := pts t; omega⟩

theorem ptRow_tileRow (t : Fin cfg0.N) (a : Fin 4) (p : Fin 128) : ptRow t (tileRow a p) = wholeRow (ptChunk t a) p :=
  Fin.ext (by dsimp only; omega)

theorem rowOf_at (c : Dev nD) (t : Fin cfg0.N) (a : Fin 4) (p : Fin 128) :
    rowOf (iblk m c 0 t) (tileRow a p) = chunkAt (dataK m c).X (ptChunk t a) p :=
  funext fun l => by rw [rowOf, blk0_at, ptRow_tileRow]

theorem cotangent_at (c : Dev nD) (t : Fin cfg0.N) (a : Fin 4) (p : Fin 128) :
    (fun d => (iblk m c 5 t : Vec Ideal S512x512 .bf16) (ix2 (tileRow a p) d)) = chunkAt (dataK m c).C (ptChunk t a) p :=
  funext fun d => by rw [blk5_at, ptRow_tileRow]

theorem mats_at (c : Dev nD) (t : Fin cfg0.N) : matsOf (k0_pay12 (iblk m c 3 t)) = (dataK m c).W := by
  funext g p q
  refine Eq.trans ?_ (blk3_at m c t g p q)
  pointwise [k0_pay12]

theorem offs_block_at (c : Dev nD) (t : Fin cfg0.N) : offsOf (k0_pay13 (iblk m c 4 t)) = (dataK m c).B := by
  funext g p
  refine Eq.trans ?_ (blk4_at m c t g p)
  pointwise [k0_pay13]

theorem ln_chunk (c : Dev nD) (t : Fin cfg0.N) (a : Fin 4) :
    chunkOf (lnTile (iblk m c 0 t) (iblk m c 1 t) (iblk m c 2 t)) a
      = lnChunk (dataK m c).G (dataK m c).S (chunkAt (dataK m c).X (ptChunk t a)) := by
  funext p d
  rw [chunkOf, ln_at, rowOf_at, blk1_at, blk2_at, lnChunk]

theorem dm_chunk (c : Dev nD) (t : Fin cfg0.N) (a : Fin 4) :
    chunkOf (dmTile (iblk m c 0 t) (iblk m c 5 t)) a
      = mixGrad (chunkAt (dataK m c).X (ptChunk t a)) (chunkAt (dataK m c).C (ptChunk t a)) := by
  funext p d
  rw [chunkOf, dm_at, rowOf_at, blk5_at, ptRow_tileRow, mixGrad]

theorem dln_at (c : Dev nD) (t : Fin cfg0.N) (a : Fin 4) (p : Fin 128) (d : Fin 512) :
    dlnTile (iblk m c 0 t) (iblk m c 3 t) (iblk m c 5 t) (ix2 (tileRow a p) d)
      = unmix (dataK m c).W (mixGrad (chunkAt (dataK m c).X (ptChunk t a)) (chunkAt (dataK m c).C (ptChunk t a))) p d := by
  rw [dlnTile, dvTile_at, mats_at, dm_chunk]

/-! ## What one tile contributes -/

theorem rows_tile (c : Dev nD) (t : Fin cfg0.N) (a : Fin 4) (p : Fin 128) (l : Fin 1024) :
    dxTile (iblk m c 0 t) (iblk m c 1 t) (iblk m c 2 t) (iblk m c 3 t) (iblk m c 4 t) (iblk m c 5 t) (ix2 (tileRow a p) l)
      = rowsResult (dataK m c) (ptRow t (tileRow a p)) l := by
  rw [dxTile, dx_at, rowOf_at, cotangent_at]
  have hk : (⟨(ptRow t (tileRow a p)).val / 128, by omega⟩ : Fin 128) = ptChunk t a := Fin.ext (by dsimp only; omega)
  have hp : (⟨(ptRow t (tileRow a p)).val % 128, by omega⟩ : Fin 128) = p := Fin.ext (by dsimp only; omega)
  rw [rowsResult, hk, hp, chunkGrad]
  congr 1
  · funext d
    rw [mixTile_at, mats_at, offs_block_at, ln_chunk]
  · funext d
    pointwise [dln_at, k0_pay10, blk1_at]

theorem sum_tile_rows (f : Fin 512 → EReal) : ∑ r : Fin 512, f r = ∑ a : Fin 4, ∑ p : Fin 128, f (tileRow a p) := by
  refine (Fin.sum_mul_add_congr (fun a p hl => ?_)).symm
  rfl

theorem scale_tile (c : Dev nD) (t : Fin cfg0.N) (d : Fin 512) :
    dgTile (iblk m c 0 t) (iblk m c 3 t) (iblk m c 5 t) (ix2 0 d)
      = ∑ a : Fin 4, scaleGrad (dataK m c).W (chunkAt (dataK m c).X (ptChunk t a)) (chunkAt (dataK m c).C (ptChunk t a)) d := by
  pointwise [dgTile, normed_at]
  rw [sum_tile_rows]
  simp only [dln_at, rowOf_at, scaleGrad]

theorem shift_tile (c : Dev nD) (t : Fin cfg0.N) (d : Fin 512) :
    dshTile (iblk m c 0 t) (iblk m c 3 t) (iblk m c 5 t) (ix2 0 d)
      = ∑ a : Fin 4, shiftGrad (dataK m c).W (chunkAt (dataK m c).X (ptChunk t a)) (chunkAt (dataK m c).C (ptChunk t a)) d := by
  pointwise [dshTile]
  rw [sum_tile_rows]
  simp only [dln_at, shiftGrad]

theorem mat_tile (c : Dev nD) (t : Fin cfg0.N) (g : Fin 4) (p q : Fin 128) :
    dwTile (lnTile (iblk m c 0 t) (iblk m c 1 t) (iblk m c 2 t)) (dmTile (iblk m c 0 t) (iblk m c 5 t)) (ix2 (tileRow g p) q)
      = ∑ a : Fin 4, matGrad (dataK m c).G (dataK m c).S (chunkAt (dataK m c).X (ptChunk t a)) (chunkAt (dataK m c).C (ptChunk t a)) g p q := by
  rw [dwTile_at]
  refine Finset.sum_congr rfl fun a _ => ?_
  rw [ln_chunk, dm_chunk, matGrad]

theorem offs_tile (c : Dev nD) (t : Fin cfg0.N) (g : Fin 4) (p : Fin 128) :
    dbTile (dmTile (iblk m c 0 t) (iblk m c 5 t)) (ix2 p g)
      = ∑ a : Fin 4, offsGrad (chunkAt (dataK m c).X (ptChunk t a)) (chunkAt (dataK m c).C (ptChunk t a)) g p := by
  rw [dbTile_at]
  refine Finset.sum_congr rfl fun a _ => ?_
  rw [dm_chunk, offsGrad]

/-! ## What the five output arrays hold -/

theorem rows_array (c : Dev nD) : (dats m 0 c).arrAt 6 cfg0.N = rowsArr (dataK m c) := by
  refine (dats m 0 c).arrAt_eq_of_covers 6 _ (by decide +kernel) fun t hf y => ?_
  blk_simp
  rw [after0_6]
  have hrows : (outsAt0 m c t.val t.isLt).1 = dxTile (iblk m c 0 t) (iblk m c 1 t) (iblk m c 2 t) (iblk m c 3 t) (iblk m c 4 t) (iblk m c 5 t) := by
    by_cases h : t.val % 32 = 0
    · exact rows_at_A m c t h
    · exact rows_at_B m c t h
  have hat : ∀ (r : Fin 512) (l : Fin 1024), (outsAt0 m c t.val t.isLt).1 (ix2 r l) = rowsArr (dataK m c) (ix2 (ptRow t r) l) := by
    intro r l
    obtain ⟨a, p, rfl⟩ := row_cases r
    rw [hrows, rows_tile]
    rfl
  refine (congrArg _ (eq_ix2 _)).trans ((hat (y 0) (y 1)).trans (congrArg _ ?_))
  blk_ext [idx t]

/-- The last grid point. -/
abbrev lastPt : Fin cfg0.N := ⟨31, by decide +kernel⟩

/-- A tile's share summed over the tiles is the chunks' shares summed over the chunks. -/
theorem sum_tiles (f : Fin 128 → EReal) : ∑ t : Fin cfg0.N, ∑ a : Fin 4, f (ptChunk t a) = ∑ k : Fin 128, f k := by
  refine Fin.sum_mul_add_congr (fun t a hl => rfl) (by decide +kernel)

theorem scale_array (c : Dev nD) : (dats m 0 c).arrAt 7 cfg0.N = scaleArr (dataK m c) := by
  refine (dats m 0 c).arrAt_eq_of_after_last 7 lastPt (by decide +kernel) _ fun j => ?_
  blk_simp
  rw [after0_7]
  refine (Pipeline.eq_sum_fin_of_reset_step_apply_last (fun n h => (outsAt0 m c n h).2.1) 32 (fun _ => 0)
    (fun t j => ∑ a : Fin 4, scaleGrad (dataK m c).W (chunkAt (dataK m c).X (ptChunk t a)) (chunkAt (dataK m c).C (ptChunk t a)) (j 1))
    (fun t h j => ?_) (fun t h j => ?_) (le_of_eq N_0) lastPt (by decide +kernel) j).trans ?_
  · obtain ⟨u, d, rfl⟩ : ∃ u d, j = ix2 u d := ⟨_, _, eq_ix2 j⟩
    obtain rfl : u = 0 := Subsingleton.elim _ _
    rw [scale_at_A m c t h]
    pointwise [k0_pay5, k0_pay1, scale_tile]
  · obtain ⟨u, d, rfl⟩ : ∃ u d, j = ix2 u d := ⟨_, _, eq_ix2 j⟩
    obtain rfl : u = 0 := Subsingleton.elim _ _
    rw [scale_at_B m c t h]
    pointwise [k0_pay5, scale_tile]
  · rw [zero_add, sum_tiles fun k => scaleGrad (dataK m c).W (chunkAt (dataK m c).X k) (chunkAt (dataK m c).C k) (j 1)]
    rfl

theorem shift_array (c : Dev nD) : (dats m 0 c).arrAt 8 cfg0.N = shiftArr (dataK m c) := by
  refine (dats m 0 c).arrAt_eq_of_after_last 8 lastPt (by decide +kernel) _ fun j => ?_
  blk_simp
  rw [after0_8]
  refine (Pipeline.eq_sum_fin_of_reset_step_apply_last (fun n h => (outsAt0 m c n h).2.2.1) 32 (fun _ => 0)
    (fun t j => ∑ a : Fin 4, shiftGrad (dataK m c).W (chunkAt (dataK m c).X (ptChunk t a)) (chunkAt (dataK m c).C (ptChunk t a)) (j 1))
    (fun t h j => ?_) (fun t h j => ?_) (le_of_eq N_0) lastPt (by decide +kernel) j).trans ?_
  · obtain ⟨u, d, rfl⟩ : ∃ u d, j = ix2 u d := ⟨_, _, eq_ix2 j⟩
    obtain rfl : u = 0 := Subsingleton.elim _ _
    rw [shift_at_A m c t h]
    pointwise [k0_pay6, k0_pay2, shift_tile]
  · obtain ⟨u, d, rfl⟩ : ∃ u d, j = ix2 u d := ⟨_, _, eq_ix2 j⟩
    obtain rfl : u = 0 := Subsingleton.elim _ _
    rw [shift_at_B m c t h]
    pointwise [k0_pay6, shift_tile]
  · rw [zero_add, sum_tiles fun k => shiftGrad (dataK m c).W (chunkAt (dataK m c).X k) (chunkAt (dataK m c).C k) (j 1)]
    rfl

theorem matArr_at (D : Data) (g : Fin 4) (p q : Fin 128) : matArr D (ix2 (tileRow g p) q) = matResult D g p q := by
  have hg : (⟨(tileRow g p).val / 128, by omega⟩ : Fin 4) = g := Fin.ext (by dsimp only; omega)
  have hp : (⟨(tileRow g p).val % 128, by omega⟩ : Fin 128) = p := Fin.ext (by dsimp only; omega)
  exact congrArg₂ (fun g' p' => matResult D g' p' q) hg hp

theorem mats_array (c : Dev nD) : (dats m 0 c).arrAt 9 cfg0.N = matArr (dataK m c) := by
  refine (dats m 0 c).arrAt_eq_of_after_last 9 lastPt (by decide +kernel) _ fun j => ?_
  blk_simp
  rw [after0_9]
  have hz : ∀ i, (k0_pay3 (F := Ideal)) i = 0 := by intro i; pointwise [k0_pay3]
  have hadd : ∀ (new old : FVec Ideal S512x128 .f32) i, k0_pay7 new old i = old i + new i := by
    intro new old i; pointwise [k0_pay7]
  refine (Pipeline.eq_sum_fin_of_reset_step_apply_last (fun n h => (outsAt0 m c n h).2.2.2.1) 32 (fun _ => 0)
    (fun t j => dwTile (lnTile (iblk m c 0 t) (iblk m c 1 t) (iblk m c 2 t)) (dmTile (iblk m c 0 t) (iblk m c 5 t)) j)
    (fun t h j => ?_) (fun t h j => ?_) (le_of_eq N_0) lastPt (by decide +kernel) j).trans ?_
  · rw [mats_at_A m c t h, hadd, hz]
  · rw [mats_at_B m c t h, hadd]
  · obtain ⟨r, q, rfl⟩ : ∃ r q, j = ix2 r q := ⟨_, _, eq_ix2 j⟩
    obtain ⟨g, p, rfl⟩ := row_cases r
    rw [zero_add, matArr_at, matResult, ← sum_tiles]
    exact Finset.sum_congr rfl fun t _ => mat_tile m c t g p q

theorem offs_array (c : Dev nD) : (dats m 0 c).arrAt 10 cfg0.N = offsArr (dataK m c) := by
  refine (dats m 0 c).arrAt_eq_of_after_last 10 lastPt (by decide +kernel) _ fun j => ?_
  blk_simp
  rw [after0_10]
  have hz : ∀ i, (k0_pay4 (F := Ideal)) i = 0 := by intro i; pointwise [k0_pay4]
  have hadd : ∀ (new old : FVec Ideal S128x4 .f32) i, k0_pay8 new old i = old i + new i := by
    intro new old i; pointwise [k0_pay8]
  refine (Pipeline.eq_sum_fin_of_reset_step_apply_last (fun n h => (outsAt0 m c n h).2.2.2.2) 32 (fun _ => 0)
    (fun t j => dbTile (dmTile (iblk m c 0 t) (iblk m c 5 t)) j)
    (fun t h j => ?_) (fun t h j => ?_) (le_of_eq N_0) lastPt (by decide +kernel) j).trans ?_
  · rw [offs_at_A m c t h, hadd, hz]
  · rw [offs_at_B m c t h, hadd]
  · obtain ⟨p, g, rfl⟩ : ∃ p g, j = ix2 p g := ⟨_, _, eq_ix2 j⟩
    rw [zero_add]
    refine (Finset.sum_congr rfl fun t _ => offs_tile m c t g p).trans ?_
    exact sum_tiles fun k => offsGrad (chunkAt (dataK m c).X k) (chunkAt (dataK m c).C k) g p

end Cert.Sgu
-- ==== Proof.Ref.lean ====
/- What the reference computes: the derivative of the spatial gating unit over whole arrays, read at an index. -/
module

public import proofs.«01_k».proof.Proof.Gen.ReferenceIdeal.Run
public import proofs.«01_k».proof.Proof.Whole
public import proofs.«01_k».proof.Proof.Blocks
public import Idealize.ShloMosaic.Lib.Pipeline.ValueKit

@[expose] public section

set_option maxRecDepth 16384

noncomputable section

namespace Cert.Sgu

open Cert.ReferenceIdeal Cert.ReferenceIdeal.Gen Cert.ReferenceIdeal.Value Idealize.ShloMosaic Idealize.ShloMosaic.StableHlo

/-- Over the extended reals `x·(2y) = yx + xy`. -/
theorem mul_two_mul (x y : EReal) : x * (Ideal.ofBits FTy.f32 0x40000000#32 * y) = y * x + x * y := by
  have htwo : ∀ z : EReal, ((2 : ℝ) : EReal) * z = z + z := by
    intro z
    induction z with
    | bot => rw [EReal.coe_mul_bot_of_pos (by norm_num)]; rfl
    | coe r => rw [← EReal.coe_mul, ← EReal.coe_add, two_mul]
    | top => rw [EReal.coe_mul_top_of_pos (by norm_num)]; rfl
  have h2 : Ideal.ofBits FTy.f32 0x40000000#32 = ((2 : ℝ) : EReal) := by
    simp [Ideal.ofBits, Ideal.ieee, -EReal.coe_mul]; norm_num
  rw [h2, mul_left_comm, htwo, mul_comm y x]

/-- A mask computed with a zero added to the row number. -/
theorem select_row_ge_zero (p q : Fin 128) (x y : EReal) :
    Scalar.select (IntOp.cmpi .sge (IntOp.addi (BitVec.ofNat 32 p.val) 0#32) (BitVec.ofNat 32 q.val)) x y = if q.val ≤ p.val then x else y := by
  rw [show IntOp.addi (BitVec.ofNat 32 p.val) 0#32 = BitVec.ofNat 32 p.val from BitVec.add_zero _]
  exact select_row_ge p q x y

/-- A host sum over the outer axes of a four-axis array, read at an index of the two axes kept. -/
theorem outer_sum {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (p : Fin n1) (g : Fin n2) :
    Ideal.hostReduceAdd h v init (ix2 p g) = init + ∑ k : Fin n0, ∑ c : Fin n3, v (ix4 k p g c) := by
  refine congrArg (init + ·) ?_
  refine (Finset.sum_filter_eq_sum_of_fiber _ (fun kc : Fin n0 × Fin n3 => ix4 kc.1 p g kc.2)
    (fun _ _ e => Prod.ext (congrFun e 0) (congrFun e 3)) (fun i => ⟨fun e => ⟨(i 0, i 3), ?_⟩, ?_⟩) v).trans ?_
  · funext a
    match a with
    | ⟨0, _⟩ => rfl
    | ⟨1, _⟩ => exact (congrFun e 0).symm
    | ⟨2, _⟩ => exact (congrFun e 1).symm
    | ⟨3, _⟩ => rfl
  · rintro ⟨k, rfl⟩
    funext b
    match b with
    | ⟨0, _⟩ => rfl
    | ⟨1, _⟩ => rfl
  · simp only [Fintype.sum_prod_type]

variable (V0 : Valuation τ sig (Elt Ideal))

/-- The reference's arguments. -/
@[reducible] def refData : Data := Data.of (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5))

theorem v0_at (r : Fin 16384) (l : Fin 1024) : res_main_v0 (F := Ideal) V0 (ix2 r l) = (refData V0).X r l := by
  pointwise [res_main_v0]

theorem v11_at (r : Fin 16384) (l : Fin 1024) : res_main_v11 (F := Ideal) V0 (ix2 r l) = th ((refData V0).X r l) := by
  pointwise [res_main_v11, v0_at, th]
  rw [mul_comm (_ * _) _]

theorem v20_at (r : Fin 16384) (l : Fin 1024) : res_main_v20 (F := Ideal) V0 (ix2 r l) = gate ((refData V0).X r l) := by
  pointwise [res_main_v20, v11_at, gate]

theorem v21_at (r : Fin 16384) (l : Fin 1024) : res_main_v21 (F := Ideal) V0 (ix2 r l) = act ((refData V0).X r l) := by
  pointwise [res_main_v21, v0_at, v20_at, act]

theorem v22_at (r : Fin 16384) (d : Fin 512) : res_main_v22 (F := Ideal) V0 (ix2 r d) = upper ((refData V0).X r) d := by
  pointwise [res_main_v22, v21_at, upper]

theorem v23_at (r : Fin 16384) (d : Fin 512) : res_main_v23 (F := Ideal) V0 (ix2 r d) = lowerHalf ((refData V0).X r) d := by
  pointwise [res_main_v23, v21_at, lowerHalf]

theorem v29_at (r : Fin 16384) (d : Fin 512) : res_main_v29 (F := Ideal) V0 (ix2 r d) = centred ((refData V0).X r) d := by
  pointwise [res_main_v29, v23_at, centred]

theorem v38_at (r : Fin 16384) (u : Fin 1) : res_main_v38 (F := Ideal) V0 (ix2 r u) = spread ((refData V0).X r) := by
  pointwise [res_main_v38, v29_at, spread]

theorem v39_at (r : Fin 16384) (u : Fin 1) : res_main_v39 (F := Ideal) V0 (ix2 r u) = rstd ((refData V0).X r) := by
  pointwise [res_main_v39, v38_at, rstd]

theorem v44_at (r : Fin 16384) (d : Fin 512) : res_main_v44 (F := Ideal) V0 (ix2 r d) = normed ((refData V0).X r) d := by
  pointwise [res_main_v44, v29_at, v39_at, normed]

theorem v45_at (d : Fin 512) (u : Fin 1) : res_main_v45 (F := Ideal) V0 (ix2 u d) = (refData V0).G d := by
  pointwise [res_main_v45]

theorem v51_at (k q : Fin 128) (g : Fin 4) (c : Fin 128) :
    res_main_v51 (F := Ideal) V0 (ix4 k q g c) = lnChunk (refData V0).G (refData V0).S (chunkAt (refData V0).X k) q (lane g c) := by
  pointwise [res_main_v51, v44_at, v45_at, lnChunk]

theorem v52_at (g : Fin 4) (p q : Fin 128) : res_main_v52_0 (F := Ideal) V0 (ix3 g p q) = tri (refData V0).W g p q := by
  pointwise [res_main_v52_0, res_main_v52_1, tri]
  exact select_row_ge_zero p q _ _

theorem v61_at (r : Fin 16384) (d : Fin 512) : res_main_v61 (F := Ideal) V0 (ix2 r d) = (refData V0).C r d := by
  pointwise [res_main_v61]

theorem v64_at (k p : Fin 128) (g : Fin 4) (c : Fin 128) :
    res_main_v64 (F := Ideal) V0 (ix4 k p g c) = mixGrad (chunkAt (refData V0).X k) (chunkAt (refData V0).C k) p (lane g c) := by
  pointwise [res_main_v64, v22_at, v61_at, mixGrad]

theorem v69_at (g : Fin 4) (k c p : Fin 128) :
    res_main_v69 (F := Ideal) V0 (ix4 g k c p) = mixGrad (chunkAt (refData V0).X k) (chunkAt (refData V0).C k) p (lane g c) := by
  pointwise [res_main_v69, v64_at]

theorem row_div (k p : Fin 128) (h) : (⟨(k.val * 128 + p.val) / 128, h⟩ : Fin 128) = k := Fin.ext (by dsimp only; omega)

theorem row_mod (k p : Fin 128) (h) : (⟨(k.val * 128 + p.val) % 128, h⟩ : Fin 128) = p := Fin.ext (by dsimp only; omega)

theorem lane_grp (d : Fin 512) (h : d.val % 128 < 128) : lane (grp d) ⟨d.val % 128, h⟩ = d := Fin.ext (by dsimp only; omega)

theorem v59_at (k p : Fin 128) (d : Fin 512) :
    res_main_v59 (F := Ideal) V0 (ix2 (wholeRow k p) d)
      = mixed (refData V0).W (refData V0).B (lnChunk (refData V0).G (refData V0).S (chunkAt (refData V0).X k)) p d := by
  pointwise [res_main_v59, v51_at, v52_at, row_div, row_mod, lane_grp]
  rw [mixed]
  congr 1
  exact Finset.sum_congr rfl fun q _ => mul_comm _ _

theorem v74_at (k p : Fin 128) (d : Fin 512) :
    res_main_v74 (F := Ideal) V0 (ix2 (wholeRow k p) d)
      = unmix (refData V0).W (mixGrad (chunkAt (refData V0).X k) (chunkAt (refData V0).C k)) p d := by
  pointwise [res_main_v74, v69_at, v52_at, row_div, row_mod, lane_grp]
  exact Finset.sum_congr (M := EReal) rfl fun q _ => mul_comm (G := EReal) _ _

theorem v82_at (k p : Fin 128) (d : Fin 512) :
    res_main_v82 (F := Ideal) V0 (ix2 (wholeRow k p) d)
      = unmix (refData V0).W (mixGrad (chunkAt (refData V0).X k) (chunkAt (refData V0).C k)) p d * (refData V0).G d := by
  pointwise [res_main_v82, v74_at, v45_at]

/-- The gradient of the normalised row. -/
@[reducible] def normedGrad (k p : Fin 128) (d : Fin 512) : EReal :=
  unmix (refData V0).W (mixGrad (chunkAt (refData V0).X k) (chunkAt (refData V0).C k)) p d * (refData V0).G d

theorem v95_at (k p : Fin 128) (d : Fin 512) :
    res_main_v95 (F := Ideal) V0 (ix2 (wholeRow k p) d) = centredGrad (chunkAt (refData V0).X k p) (normedGrad V0 k p) d := by
  pointwise [res_main_v95, v82_at, v39_at, v29_at, v38_at, mul_two_mul, centredGrad, spreadGrad, rstdSlope, Finset.univ_unique, Finset.sum_singleton]
  exact (add_assoc (G := EReal) _ _ _).symm

theorem v104_at (k p : Fin 128) (l : Fin 1024) :
    res_main_v104 (F := Ideal) V0 (ix2 (wholeRow k p) l)
      = actGrad (chunkAt (refData V0).X k p) (chunkAt (refData V0).C k p)
          (mixed (refData V0).W (refData V0).B (lnChunk (refData V0).G (refData V0).S (chunkAt (refData V0).X k)) p) (normedGrad V0 k p) l := by
  pointwise [res_main_v104, v61_at, v59_at, v95_at, actGrad, halfGrad, Finset.univ_unique, Finset.sum_singleton]

theorem v111_at (k p : Fin 128) (l : Fin 1024) :
    res_main_v111 (F := Ideal) V0 (ix2 (wholeRow k p) l)
      = tanhGrad (chunkAt (refData V0).X k p l) (res_main_v104 (F := Ideal) V0 (ix2 (wholeRow k p) l)) := by
  pointwise [res_main_v111, v0_at, v11_at, tanhGrad]

/-- Sums over all rows are sums over the chunks and their rows. -/
theorem sum_wholeRows (f : Fin 16384 → EReal) : ∑ r : Fin 16384, f r = ∑ k : Fin 128, ∑ p : Fin 128, f (wholeRow k p) :=
  (Fin.sum_mul_add_congr (fun _ _ _ => rfl)).symm

theorem row_split (r : Fin 16384) : ∃ k p : Fin 128, r = wholeRow k p :=
  ⟨⟨r.val / 128, by omega⟩, ⟨r.val % 128, by omega⟩, Fin.ext (by dsimp only; omega)⟩

theorem rowsResult_at (D : Data) (k p : Fin 128) (l : Fin 1024) :
    rowsResult D (wholeRow k p) l = chunkGrad D.G D.S D.W D.B (chunkAt D.X k) (chunkAt D.C k) p l := by
  rw [rowsResult]
  simp only [row_div, row_mod]

variable (m : (ℓ : Loc nD τ sig) → Buf (Elt Ideal) ℓ) (ρ : Dev nD → PrngReg)

/-- The reference's run, its results the five arrays of gradients. -/
theorem run_ref : θ_run defs (onTc (τ := τ) (main (F := Ideal))) ⟨m, fun _ => 0, ρ⟩ fun r => ∀ c : Dev nD,
      r.2.mem ((c.tc : Thread nD τ).loc main_v117) = rowsArr (refData (launchContents m c))
      ∧ r.2.mem ((c.tc : Thread nD τ).loc main_v118) = scaleArr (refData (launchContents m c))
      ∧ r.2.mem ((c.tc : Thread nD τ).loc main_v119) = shiftArr (refData (launchContents m c))
      ∧ r.2.mem ((c.tc : Thread nD τ).loc main_v120) = matArr (refData (launchContents m c))
      ∧ r.2.mem ((c.tc : Thread nD τ).loc main_v121) = offsArr (refData (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run m ρ)
  obtain ⟨h117, h118, h119, h120, h121, hargs⟩ := h c
  refine ⟨h117.trans (funext fun j => ?_), h118.trans (funext fun j => ?_), h119.trans (funext fun j => ?_), h120.trans (funext fun j => ?_),
    h121.trans (funext fun j => ?_), hargs⟩
  · obtain ⟨r, l, rfl⟩ : ∃ r l, j = ix2 r l := ⟨_, _, eq_ix2 j⟩
    obtain ⟨k, p, rfl⟩ := row_split r
    refine Eq.trans ?_ (rowsResult_at _ k p l).symm
    pointwise [v104_at, v20_at, v111_at, v0_at, chunkGrad, rowGrad]
  · obtain ⟨u, d, rfl⟩ : ∃ u d, j = ix2 u d := ⟨_, _, eq_ix2 j⟩
    pointwise [v44_at, scaleArr, scaleResult, scaleGrad, Finset.univ_unique, Finset.sum_singleton]
    refine (sum_wholeRows _).trans (Finset.sum_congr rfl fun k _ => Finset.sum_congr rfl fun p _ => ?_)
    rw [v74_at]
  · obtain ⟨u, d, rfl⟩ : ∃ u d, j = ix2 u d := ⟨_, _, eq_ix2 j⟩
    pointwise [shiftArr, shiftResult, shiftGrad, Finset.univ_unique, Finset.sum_singleton]
    refine (sum_wholeRows _).trans (Finset.sum_congr rfl fun k _ => Finset.sum_congr rfl fun p _ => ?_)
    rw [v74_at]
  · obtain ⟨r, q, rfl⟩ : ∃ r q, j = ix2 r q := ⟨_, _, eq_ix2 j⟩
    pointwise [v69_at, v51_at, res_main_v52_1, matArr, matResult, matGrad]
    refine (select_row_ge_zero ⟨r.val % 128, Nat.mod_lt _ (by decide)⟩ q _ _).trans ?_
    by_cases hq : q.val ≤ r.val % 128
    · simp only [if_pos hq]
    · simp only [if_neg hq, Finset.sum_const_zero]
  · obtain ⟨p, g, rfl⟩ : ∃ p g, j = ix2 p g := ⟨_, _, eq_ix2 j⟩
    pointwise [v64_at, outer_sum, offsArr, offsResult, offsGrad, Finset.univ_unique, Finset.sum_singleton]

end Cert.Sgu
-- ==== Proof.SguClaims.lean ====
/- The claims about the backward pass of the spatial gating unit. -/
module

public import proofs.«01_k».proof.Defs
public import proofs.«01_k».proof.Proof.Gen.Kernel.Frame
public import proofs.«01_k».proof.Proof.Gen.KernelIdeal.Value
public import proofs.«01_k».proof.Proof.Arrays
public import proofs.«01_k».proof.Proof.Ref
public import Idealize.ShloMosaic.Lib.Quiescent

@[expose] public section

noncomputable section

namespace Cert.Sgu

open Idealize.ShloMosaic Idealize.ShloMosaic.TcCoe Idealize.SL.Sem Idealize.ShloMosaic.StableHlo

theorem frame_kernel : Cert.quiescent_Kernel := fun m ρ _ => Cert.Kernel.Gen.frame m ρ

theorem frame_ideal : Cert.quiescent_KernelIdeal := fun m ρ _ => Cert.KernelIdeal.Gen.frame m ρ

/-- The reference is host code without a semaphore; its run says what becomes of the arguments. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- Of arguments that agree the kernel's launch and the reference speak of the same numbers. -/
theorem data_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    refData (launchContents m' c) = dataK m c :=
  show Data.of (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) = _ by
    rw [h0, h1, h2, h3, h4, h5]

/-- Kernel and reference compute the same five gradients. -/
theorem algebraic : Cert.algebraic_KernelIdeal_ReferenceIdeal := by
  intro m ρ m' ρ' _ hag
  have hd : ∀ c : Dev 1, refData (launchContents m' c) = dataK m c := fun c => by
    obtain ⟨h0, h1, h2, h3, h4, h5⟩ := hag c
    exact data_agree m m' c h0 h1 h2 h3 h4 h5
  refine ⟨fun c => rowsArr (dataK m c), fun c => scaleArr (dataK m c), fun c => shiftArr (dataK m c), fun c => matArr (dataK m c),
    fun c => offsArr (dataK m c), ?_, ?_⟩
  · refine (θ_run Cert.KernelIdeal.defs _ _).mono (fun _ h c => ?_) (Cert.KernelIdeal.Value.run_blocks (F := Ideal) m ρ)
    obtain ⟨h6, h7, h8, h9, h10, hargs⟩ := h c
    exact ⟨h6.trans (rows_array m c), h7.trans (scale_array m c), h8.trans (shift_array m c), h9.trans (mats_array m c),
      h10.trans (offs_array m c), hargs⟩
  · refine (θ_run Cert.ReferenceIdeal.defs _ _).mono (fun _ h c => ?_) (run_ref m' ρ')
    beta_reduce
    rw [← hd c]
    exact h c

end Cert.Sgu
-- ==== Proof.Products.lean ====
/- The matrix products of a linear layer and of its two gradients, entry by entry over the extended reals. -/
module

public import Idealize.ShloMosaic.Lib.Pipeline.ValueKit

@[expose] public section

noncomputable section

namespace Cert.Products

open Idealize.ShloMosaic

/-- Row `i` of the first matrix against column `j` of the second. -/
def nn {M K N : ℕ} (A : Fin M → Fin K → EReal) (B : Fin K → Fin N → EReal) (i : Fin M) (j : Fin N) : EReal :=
  ∑ k, A i k * B k j

/-- Row `i` of the first matrix against row `j` of the second: the gradient of a linear layer's input. -/
def nt {M K N : ℕ} (A : Fin M → Fin K → EReal) (B : Fin N → Fin K → EReal) (i : Fin M) (j : Fin N) : EReal :=
  ∑ k, A i k * B j k

/-- Column `i` of the first matrix against column `j` of the second: the gradient of a linear layer's weight. -/
def tn {K M N : ℕ} (A : Fin K → Fin M → EReal) (B : Fin K → Fin N → EReal) (i : Fin M) (j : Fin N) : EReal :=
  ∑ k, A k i * B k j

theorem nn_congr {M K N M' N' : ℕ} {A : Fin M → Fin K → EReal} {B : Fin K → Fin N → EReal} {A' : Fin M' → Fin K → EReal}
    {B' : Fin K → Fin N' → EReal} {i j i' j'} (hA : ∀ k, A i k = A' i' k) (hB : ∀ k, B k j = B' k j') :
    nn A B i j = nn A' B' i' j' := Finset.sum_congr rfl fun k _ => by rw [hA, hB]

theorem nt_congr {M K N M' N' : ℕ} {A : Fin M → Fin K → EReal} {B : Fin N → Fin K → EReal} {A' : Fin M' → Fin K → EReal}
    {B' : Fin N' → Fin K → EReal} {i j i' j'} (hA : ∀ k, A i k = A' i' k) (hB : ∀ k, B j k = B' j' k) :
    nt A B i j = nt A' B' i' j' := Finset.sum_congr rfl fun k _ => by rw [hA, hB]

/-- A gradient summed over eight blocks of 2048 rows is the gradient over all rows. -/
theorem tn_blocks {M N : ℕ} (A : Fin 16384 → Fin M → EReal) (B : Fin 16384 → Fin N → EReal) (i : Fin M) (j : Fin N)
    (term : Fin 8 → EReal)
    (h : ∀ s : Fin 8, term s = ∑ k : Fin 2048, A ⟨s.val * 2048 + k.val, by omega⟩ i * B ⟨s.val * 2048 + k.val, by omega⟩ j) :
    ∑ s, term s = tn A B i j :=
  (Finset.sum_congr rfl fun s _ => h s).trans (Fin.sum_mul_add_congr fun _ _ _ => rfl)

/-- A matrix stored as an array, entry by entry. -/
abbrev mat {M N : ℕ} (x : (⟨2, ![M, N]⟩ : Shape).Idx → EReal) : Fin M → Fin N → EReal := fun i j => x (ix2 i j)

/-- The array of a matrix. -/
abbrev arr {M N : ℕ} (f : Fin M → Fin N → EReal) : (⟨2, ![M, N]⟩ : Shape).Idx → EReal := fun j => f (j 0) (j 1)

end Cert.Products
-- ==== Proof.FfnSpec.lean ====
/- The feed-forward block and its gradient, as functions on the extended reals.

   A row of 1024 numbers is normalised, goes through two linear layers with a squared rectifier between them, is added
   to itself and normalised again. The gradient goes back through the two norms and the two layers. -/
module

public import proofs.«01_k».proof.Proof.Products

@[expose] public section

noncomputable section

namespace Cert.Ffn

open Cert.Products Idealize.ShloMosaic

/-! ## Numbers -/

abbrev lanesN : EReal := Ideal.ofBits FTy.f32 0x44800000#32
abbrev normEps : EReal := Ideal.ofBits FTy.f32 0x3727C5AC#32
abbrev negHalf : EReal := Ideal.ofBits FTy.f32 0xBF000000#32
abbrev alpha : EReal := Ideal.ofBits FTy.f32 0x3FB504F3#32
abbrev two : EReal := Ideal.ofBits FTy.f32 0x40000000#32

/-! ## The norm of one row -/

abbrev Row := Fin 1024 → EReal

def centred (x : Row) (d : Fin 1024) : EReal := x d - Ideal.div (∑ k : Fin 1024, x k) lanesN

def spread (x : Row) : EReal := Ideal.div (∑ k : Fin 1024, centred x k * centred x k) lanesN + normEps

def rstd (x : Row) : EReal := Ideal.rsqrt (spread x)

def normed (x : Row) (d : Fin 1024) : EReal := centred x d * rstd x

/-- The norm, scaled by `g` and shifted by `b`. -/
def norm (x g b : Row) (d : Fin 1024) : EReal := normed x d * g d + b d

def rstdSlope (x : Row) : EReal := negHalf * Ideal.div (rstd x) (spread x)

/-- What comes back through the variance, where `a` is the gradient of the normed row. -/
def spreadGrad (x a : Row) : EReal := Ideal.div ((∑ k : Fin 1024, centred x k * a k) * rstdSlope x) lanesN

def centredGrad (x a : Row) (d : Fin 1024) : EReal :=
  a d * rstd x + centred x d * spreadGrad x a + spreadGrad x a * centred x d

/-- The gradient of the row that is normalised. -/
def normGrad (x a : Row) (d : Fin 1024) : EReal :=
  centredGrad x a d + Ideal.div (∑ k : Fin 1024, -centredGrad x a k) lanesN

/-! ## The block over all rows -/

/-- A single row stored as an array. -/
abbrev vec {N : ℕ} (x : (⟨2, ![1, N]⟩ : Shape).Idx → EReal) : Fin N → EReal := fun j => x (ix2 0 j)

/-- The array that holds a single row. -/
abbrev rowArr {N : ℕ} (f : Fin N → EReal) : (⟨2, ![1, N]⟩ : Shape).Idx → EReal := fun j => f (j 1)

abbrev Rows := Fin 16384 → Row
abbrev Hidden := Fin 16384 → Fin 4096 → EReal

/-- The first norm's operand. -/
def sum1 (X M : Rows) : Rows := fun p d => alpha * X p d + M p d

/-- The second norm's operand. -/
def sum2 (Y F : Rows) (b : Row) : Rows := fun p d => alpha * Y p d + (F p d + b d)

/-- The hidden layer before the rectifier. -/
def pre (Y : Rows) (W : Fin 1024 → Fin 4096 → EReal) (b : Fin 4096 → EReal) : Hidden := fun p l => nn Y W p l + b l

def relu (h : Hidden) : Hidden := fun p l => max (h p l) 0

/-- The gradient of a norm's operand over all rows, from the gradient `C` of the norm's result. -/
def normGrads (S : Rows) (C : Rows) (g : Row) : Rows := fun p => normGrad (S p) fun d => C p d * g d

/-- The gradient of the hidden layer before the rectifier, from the gradient of the second layer's result. -/
def hiddenGrad (D : Rows) (W : Fin 4096 → Fin 1024 → EReal) (h : Hidden) : Hidden :=
  fun p l => nt D W p l * (two * relu h p l)

/-- What the block takes: the two norms' scales and shifts, the layers' weights and offsets, the rows and the residual
    rows, the cotangent. -/
structure Data where
  g1 : Row
  be1 : Row
  w1 : Fin 1024 → Fin 4096 → EReal
  b1 : Fin 4096 → EReal
  w2 : Fin 4096 → Fin 1024 → EReal
  b2 : Row
  g2 : Row
  be2 : Row
  X : Rows
  M : Rows
  C : Rows

namespace Data

/-- The block's arrays in the order of the arguments. -/
@[reducible] def of (g1 be1 : (⟨1, ![1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal) (b2 g2 be2 : (⟨1, ![1024]⟩ : Shape).Idx → EReal)
    (X M C : (⟨2, ![16384, 1024]⟩ : Shape).Idx → EReal) : Data :=
  ⟨fun d => g1 (ix1 d), fun d => be1 (ix1 d), mat w1, fun l => b1 (ix1 l), mat w2, fun d => b2 (ix1 d), fun d => g2 (ix1 d),
    fun d => be2 (ix1 d), mat X, mat M, mat C⟩

variable (D : Data)

def in1 : Rows := sum1 D.X D.M
def out1 : Rows := fun p => norm (D.in1 p) D.g1 D.be1
def hpre : Hidden := pre D.out1 D.w1 D.b1
def hid : Hidden := fun p l => relu D.hpre p l * relu D.hpre p l
def in2 : Rows := sum2 D.out1 (nn D.hid D.w2) D.b2
def grad2 : Rows := normGrads D.in2 D.C D.g2
def hgrad : Hidden := hiddenGrad D.grad2 D.w2 D.hpre

/-- The gradient of the first norm's result: along the residual and through the two layers. -/
def cot1 : Rows := fun p d => alpha * D.grad2 p d + nt D.hgrad D.w1 p d
def grad1 : Rows := normGrads D.in1 D.cot1 D.g1

end Data

/-- The gradient of a norm's scale. -/
def scaleGrad (S C : Rows) (d : Fin 1024) : EReal := ∑ p : Fin 16384, normed (S p) d * C p d

/-- The sum of an array's rows: the gradient of whatever is added to each row. -/
def colSum {N : ℕ} (C : Fin 16384 → Fin N → EReal) (d : Fin N) : EReal := ∑ p : Fin 16384, C p d

/-! ## Sums over tiles of 512 rows -/

/-- Row `r` of tile `t`. -/
abbrev tileRow (t : Fin 32) (r : Fin 512) : Fin 16384 := ⟨t.val * 512 + r.val, by omega⟩

theorem sum_tiles (f : Fin 16384 → EReal) : ∑ t : Fin 32, ∑ r : Fin 512, f (tileRow t r) = ∑ p : Fin 16384, f p :=
  Fin.sum_mul_add_congr (fun _ _ _ => rfl) rfl

end Cert.Ffn
-- ==== Proof.FfnRef.lean ====
/- What the reference computes: the derivative of the feed-forward block over whole arrays, read at an index. -/
module

public import proofs.«01_k».proof.Proof.Gen.Reference2Ideal.Run
public import proofs.«01_k».proof.Proof.FfnSpec
public import proofs.«01_k».proof.Proof.Ref
public import Idealize.ShloMosaic.Lib.Pipeline.ValueKit

@[expose] public section

set_option maxRecDepth 16384

noncomputable section

namespace Cert.Ffn

open Cert.Reference2Ideal Cert.Reference2Ideal.Gen Cert.Reference2Ideal.Value Cert.Products Idealize.ShloMosaic Idealize.ShloMosaic.StableHlo

variable (V0 : Valuation τ sig (Elt Ideal))

/-- The reference's arguments. -/
@[reducible] def refData : Data := Data.of (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))
  (V0 (Proc.devRef .tc main_arg7)) (V0 (Proc.devRef .tc main_arg8)) (V0 (Proc.devRef .tc main_arg9)) (V0 (Proc.devRef .tc main_arg10))

theorem v0_at (d : Fin 1024) (l : Fin 4096) : res_main_v0 (F := Ideal) V0 (ix2 d l) = (refData V0).w1 d l := by
  pointwise [res_main_v0]

theorem v1_at (l : Fin 4096) (d : Fin 1024) : res_main_v1 (F := Ideal) V0 (ix2 l d) = (refData V0).w2 l d := by
  pointwise [res_main_v1]

/-! ## The first norm -/

theorem v4_at (p : Fin 16384) (d : Fin 1024) : res_main_v4 (F := Ideal) V0 (ix2 p d) = (refData V0).in1 p d := by
  pointwise [res_main_v4, Data.in1, sum1]

theorem v10_at (p : Fin 16384) (d : Fin 1024) : res_main_v10 (F := Ideal) V0 (ix2 p d) = centred ((refData V0).in1 p) d := by
  pointwise [res_main_v10, v4_at, centred]

theorem v19_at (p : Fin 16384) (u : Fin 1) : res_main_v19 (F := Ideal) V0 (ix2 p u) = spread ((refData V0).in1 p) := by
  pointwise [res_main_v19, v10_at, spread]

theorem v20_at (p : Fin 16384) (u : Fin 1) : res_main_v20 (F := Ideal) V0 (ix2 p u) = rstd ((refData V0).in1 p) := by
  pointwise [res_main_v20, v19_at, rstd]

theorem v25_at (p : Fin 16384) (d : Fin 1024) : res_main_v25 (F := Ideal) V0 (ix2 p d) = normed ((refData V0).in1 p) d := by
  pointwise [res_main_v25, v10_at, v20_at, normed]

theorem v26_at (u : Fin 1) (d : Fin 1024) : res_main_v26 (F := Ideal) V0 (ix2 u d) = (refData V0).g1 d := by
  pointwise [res_main_v26]

theorem v31_at (p : Fin 16384) (d : Fin 1024) : res_main_v31 (F := Ideal) V0 (ix2 p d) = (refData V0).out1 p d := by
  pointwise [res_main_v31, v25_at, v26_at, Data.out1, norm]

/-! ## The two layers -/

theorem v35_at (p : Fin 16384) (l : Fin 4096) : res_main_v35 (F := Ideal) V0 (ix2 p l) = (refData V0).hpre p l := by
  pointwise [res_main_v35, v31_at, v0_at, Data.hpre, pre, nn]

theorem v36_at (p : Fin 16384) (l : Fin 4096) : res_main_v36 (F := Ideal) V0 (ix2 p l) = relu (refData V0).hpre p l := by
  pointwise [res_main_v36, v35_at, relu]

theorem v49_at (p : Fin 16384) (d : Fin 1024) : res_main_v49 (F := Ideal) V0 (ix2 p d) = (refData V0).in2 p d := by
  pointwise [res_main_v49, v31_at, v36_at, v1_at, Data.in2, sum2, nn, Data.hid]

/-! ## The second norm and its gradient -/

theorem v55_at (p : Fin 16384) (d : Fin 1024) : res_main_v55 (F := Ideal) V0 (ix2 p d) = centred ((refData V0).in2 p) d := by
  pointwise [res_main_v55, v49_at, centred]

theorem v64_at (p : Fin 16384) (u : Fin 1) : res_main_v64 (F := Ideal) V0 (ix2 p u) = spread ((refData V0).in2 p) := by
  pointwise [res_main_v64, v55_at, spread]

theorem v65_at (p : Fin 16384) (u : Fin 1) : res_main_v65 (F := Ideal) V0 (ix2 p u) = rstd ((refData V0).in2 p) := by
  pointwise [res_main_v65, v64_at, rstd]

theorem v70_at (p : Fin 16384) (d : Fin 1024) : res_main_v70 (F := Ideal) V0 (ix2 p d) = normed ((refData V0).in2 p) d := by
  pointwise [res_main_v70, v55_at, v65_at, normed]

theorem v71_at (u : Fin 1) (d : Fin 1024) : res_main_v71 (F := Ideal) V0 (ix2 u d) = (refData V0).g2 d := by
  pointwise [res_main_v71]

theorem v77_at (p : Fin 16384) (d : Fin 1024) : res_main_v77 (F := Ideal) V0 (ix2 p d) = (refData V0).C p d := by
  pointwise [res_main_v77]

theorem v85_at (p : Fin 16384) (d : Fin 1024) : res_main_v85 (F := Ideal) V0 (ix2 p d) = (refData V0).C p d * (refData V0).g2 d := by
  pointwise [res_main_v85, v77_at, v71_at]

theorem v98_at (p : Fin 16384) (d : Fin 1024) : res_main_v98 (F := Ideal) V0 (ix2 p d)
    = centredGrad ((refData V0).in2 p) (fun d => (refData V0).C p d * (refData V0).g2 d) d := by
  pointwise [res_main_v98, v85_at, v65_at, v55_at, v64_at, Cert.Sgu.mul_two_mul, centredGrad, spreadGrad, rstdSlope, Finset.univ_unique,
    Finset.sum_singleton]
  exact (add_assoc (G := EReal) _ _ _).symm

theorem v106_at (p : Fin 16384) (d : Fin 1024) : res_main_v106 (F := Ideal) V0 (ix2 p d) = (refData V0).grad2 p d := by
  pointwise [res_main_v106, v98_at, Data.grad2, normGrads, normGrad, Finset.univ_unique, Finset.sum_singleton]

/-! ## Back through the layers -/

theorem v115_at (p : Fin 16384) (l : Fin 4096) : res_main_v115 (F := Ideal) V0 (ix2 p l) = (refData V0).hgrad p l := by
  pointwise [res_main_v115, v106_at, v1_at, v35_at, v36_at, Data.hgrad, hiddenGrad, nt]
  by_cases h : 0 < (refData V0).hpre p l
  · rw [if_pos h]
  · rw [if_neg h, relu, max_eq_right (not_lt.mp h), mul_zero, mul_zero]

theorem v120_at (p : Fin 16384) (d : Fin 1024) : res_main_v120 (F := Ideal) V0 (ix2 p d) = (refData V0).cot1 p d := by
  pointwise [res_main_v120, v106_at, v115_at, v0_at, Data.cot1, nt]

/-! ## The first norm's gradient -/

theorem v128_at (p : Fin 16384) (d : Fin 1024) : res_main_v128 (F := Ideal) V0 (ix2 p d) = (refData V0).cot1 p d * (refData V0).g1 d := by
  pointwise [res_main_v128, v120_at, v26_at]

theorem v141_at (p : Fin 16384) (d : Fin 1024) : res_main_v141 (F := Ideal) V0 (ix2 p d)
    = centredGrad ((refData V0).in1 p) (fun d => (refData V0).cot1 p d * (refData V0).g1 d) d := by
  pointwise [res_main_v141, v128_at, v20_at, v10_at, v19_at, Cert.Sgu.mul_two_mul, centredGrad, spreadGrad, rstdSlope, Finset.univ_unique,
    Finset.sum_singleton]
  exact (add_assoc (G := EReal) _ _ _).symm

theorem v149_at (p : Fin 16384) (d : Fin 1024) : res_main_v149 (F := Ideal) V0 (ix2 p d) = (refData V0).grad1 p d := by
  pointwise [res_main_v149, v141_at, Data.grad1, normGrads, normGrad, Finset.univ_unique, Finset.sum_singleton]

/-! ## The run -/

variable (m : (ℓ : Loc nD τ sig) → Buf (Elt Ideal) ℓ) (ρ : Dev nD → PrngReg)

/-- The reference's run, its results the eight arrays of gradients. -/
theorem run_ref : θ_run defs (onTc (τ := τ) (main (F := Ideal))) ⟨m, fun _ => 0, ρ⟩ fun r => ∀ c : Dev nD,
      r.2.mem ((c.tc : Thread nD τ).loc main_v151) = arr (fun p d => alpha * (refData (launchContents m c)).grad1 p d)
      ∧ r.2.mem ((c.tc : Thread nD τ).loc main_v152) = arr (refData (launchContents m c)).grad1
      ∧ r.2.mem ((c.tc : Thread nD τ).loc main_v153) = rowArr (scaleGrad (refData (launchContents m c)).in1 (refData (launchContents m c)).cot1)
      ∧ r.2.mem ((c.tc : Thread nD τ).loc main_v154) = rowArr (colSum (refData (launchContents m c)).cot1)
      ∧ r.2.mem ((c.tc : Thread nD τ).loc main_v155) = rowArr (colSum (refData (launchContents m c)).hgrad)
      ∧ r.2.mem ((c.tc : Thread nD τ).loc main_v156) = rowArr (colSum (refData (launchContents m c)).grad2)
      ∧ r.2.mem ((c.tc : Thread nD τ).loc main_v157) = rowArr (scaleGrad (refData (launchContents m c)).in2 (refData (launchContents m c)).C)
      ∧ r.2.mem ((c.tc : Thread nD τ).loc main_v158) = rowArr (colSum (refData (launchContents m c)).C)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ?_) (run m ρ)
  obtain ⟨h0, h1, h2, h3, h4, h5, h6, h7, hargs⟩ := h c
  refine ⟨h0.trans (funext fun j => ?_), h1.trans (funext fun j => ?_), h2.trans (funext fun j => ?_), h3.trans (funext fun j => ?_),
    h4.trans (funext fun j => ?_), h5.trans (funext fun j => ?_), h6.trans (funext fun j => ?_), h7.trans (funext fun j => ?_), hargs⟩
  all_goals obtain ⟨u, d, rfl⟩ : ∃ u d, j = ix2 u d := ⟨_, _, eq_ix2 j⟩
  · pointwise [v149_at]
    rfl
  · pointwise [v149_at]
    rfl
  · pointwise [v25_at, v120_at, scaleGrad, Finset.univ_unique, Finset.sum_singleton]
  · pointwise [v120_at, colSum, Finset.univ_unique, Finset.sum_singleton]
  · pointwise [v115_at, colSum, Finset.univ_unique, Finset.sum_singleton]
  · pointwise [v106_at, colSum, Finset.univ_unique, Finset.sum_singleton]
  · pointwise [v70_at, v77_at, scaleGrad, Finset.univ_unique, Finset.sum_singleton]
  · pointwise [colSum, Finset.univ_unique, Finset.sum_singleton]

end Cert.Ffn
-- ==== Proof.FfnTile.lean ====
/- What the pieces of a tile of 512 rows hold, at an index, in each of the block's calls. -/
module

public import proofs.«01_k».proof.Proof.FfnSpec
public import proofs.«01_k».proof.Proof.Gen.Kernel2Ideal.Frame
public import Idealize.ShloMosaic.Lib.Pipeline.ValueKit

@[expose] public section

set_option maxRecDepth 65536

noncomputable section

namespace Cert.Ffn

open Cert.Kernel2Ideal Cert.Kernel2Ideal.Gen Cert.Products Idealize.ShloMosaic Idealize.ShloMosaic.TcCoe

abbrev Tile := Vec Ideal S512x1024 .f32
abbrev Line := Vec Ideal S1x1024 .f32

/-! ## The first norm and the two layers, forward -/

theorem norm_tile (x0 x1 : Tile) (x2 x3 : Line) (r : Fin 512) (d : Fin 1024) :
    k0_pay1 (F := Ideal) x0 x1 x2 x3 (ix2 r d) = norm (fun d => alpha * x0 (ix2 r d) + x1 (ix2 r d)) (vec x2) (vec x3) d := by
  pointwise [k0_pay1]
  rfl

theorem pre_tile (x0 : Vec Ideal S512x1024 .bf16) (x1 : Vec Ideal S1024x2048 .bf16) (x2 : Vec Ideal S1x2048 .f32) (r : Fin 512) (l : Fin 2048) :
    k1_pay1 (F := Ideal) x0 x1 x2 (ix2 r l) = nn (mat x0) (mat x1) r l + vec x2 l := by
  pointwise [k1_pay1, nn]

theorem ff2_tile (x0 : Vec Ideal S512x4096 .bf16) (x1 : Vec Ideal S4096x1024 .bf16) (r : Fin 512) (d : Fin 1024) :
    k2_pay1 (F := Ideal) x0 x1 (ix2 r d) = nn (mat x0) (mat x1) r d := by
  pointwise [k2_pay1, nn]

/-! ## The second norm, backward -/

section Second
variable (x0 x1 : Tile) (x2 x3 : Line) (x5 : Tile)

/-- The second norm's operand on row `r` of a tile. -/
abbrev row2 (r : Fin 512) : Row := fun d => alpha * x0 (ix2 r d) + (x1 (ix2 r d) + x2 (ix2 0 d))

theorem centred2_at (r : Fin 512) (d : Fin 1024) : k3_pay3 (F := Ideal) x0 x1 x2 (ix2 r d) = centred (row2 x0 x1 x2 r) d := by
  pointwise [k3_pay3]
  rfl

theorem spread2_at (r : Fin 512) (z : Fin 1) : k3_pay4 (F := Ideal) x0 x1 x2 (ix2 r z) = spread (row2 x0 x1 x2 r) := by
  pointwise [k3_pay4, centred2_at]
  rfl

theorem rstd2_at (r : Fin 512) (z : Fin 1) : k3_pay5 (F := Ideal) x0 x1 x2 (ix2 r z) = rstd (row2 x0 x1 x2 r) := by
  pointwise [k3_pay5, spread2_at]
  rfl

theorem slope2_at (r : Fin 512) (z : Fin 1) : k3_pay6 (F := Ideal) x0 x1 x2 (ix2 r z) = rstdSlope (row2 x0 x1 x2 r) := by
  pointwise [k3_pay6, spread2_at, rstd2_at]
  rfl

/-- The gradient of the second norm's operand on a tile. -/
abbrev grad2Tile : FVec Ideal S512x1024 .f32 :=
  k3_pay11 (k3_pay3 x0 x1 x2) (k3_pay5 x0 x1 x2) (k3_pay6 x0 x1 x2) (k3_pay7 x5) (k3_pay10 x3)

theorem grad2_at (r : Fin 512) (d : Fin 1024) :
    grad2Tile x0 x1 x2 x3 x5 (ix2 r d) = normGrad (row2 x0 x1 x2 r) (fun d => x5 (ix2 r d) * x3 (ix2 0 d)) d := by
  pointwise [k3_pay11, centred2_at, rstd2_at, slope2_at, k3_pay7, k3_pay10]
  simp only [Finset.univ_unique, Finset.sum_singleton, zero_sub]
  rfl

theorem scale2_at (z : Fin 1) (d : Fin 1024) :
    k3_pay9 (F := Ideal) x0 x1 x2 x5 (ix2 z d) = ∑ r : Fin 512, normed (row2 x0 x1 x2 r) d * x5 (ix2 r d) := by
  pointwise [k3_pay9, centred2_at, rstd2_at, k3_pay7]
  rfl

theorem shift2_at (z : Fin 1) (d : Fin 1024) : k3_pay8 (F := Ideal) x5 (ix2 z d) = ∑ r : Fin 512, x5 (ix2 r d) := by
  pointwise [k3_pay8]

end Second

/-! ## The first norm, backward -/

section First
variable (x0 x1 : Tile) (x2 : Line) (x4 x5 : Tile)

/-- The first norm's operand on row `r` of a tile. -/
abbrev row1 (r : Fin 512) : Row := fun d => alpha * x0 (ix2 r d) + x1 (ix2 r d)

theorem centred1_at (r : Fin 512) (d : Fin 1024) : k6_pay2 (F := Ideal) x0 x1 (ix2 r d) = centred (row1 x0 x1 r) d := by
  pointwise [k6_pay2]
  rfl

theorem spread1_at (r : Fin 512) (z : Fin 1) : k6_pay3 (F := Ideal) x0 x1 (ix2 r z) = spread (row1 x0 x1 r) := by
  pointwise [k6_pay3, centred1_at]
  rfl

theorem rstd1_at (r : Fin 512) (z : Fin 1) : k6_pay4 (F := Ideal) x0 x1 (ix2 r z) = rstd (row1 x0 x1 r) := by
  pointwise [k6_pay4, spread1_at]
  rfl

theorem slope1_at (r : Fin 512) (z : Fin 1) : k6_pay5 (F := Ideal) x0 x1 (ix2 r z) = rstdSlope (row1 x0 x1 r) := by
  pointwise [k6_pay5, spread1_at, rstd1_at]
  rfl

/-- The gradient of the first norm's operand on a tile. -/
abbrev grad1Tile : FVec Ideal S512x1024 .f32 :=
  k6_pay11 (k6_pay2 x0 x1) (k6_pay4 x0 x1) (k6_pay5 x0 x1) (k6_pay9 x2 x4 x5) (k6_pay10 x0 x1 x2 x4 x5)

theorem grad1_at (r : Fin 512) (d : Fin 1024) :
    grad1Tile x0 x1 x2 x4 x5 (ix2 r d)
      = normGrad (row1 x0 x1 r) (fun d => (x4 (ix2 r d) + x5 (ix2 r d)) * x2 (ix2 0 d)) d := by
  pointwise [k6_pay11, k6_pay10, k6_pay9, k6_pay6, centred1_at, rstd1_at, slope1_at]
  simp only [Finset.univ_unique, Finset.sum_singleton, zero_sub]
  rfl

theorem scale1_at (z : Fin 1) (d : Fin 1024) :
    k6_pay8 (F := Ideal) x0 x1 x4 x5 (ix2 z d) = ∑ r : Fin 512, normed (row1 x0 x1 r) d * (x4 (ix2 r d) + x5 (ix2 r d)) := by
  pointwise [k6_pay8, centred1_at, rstd1_at, k6_pay6]
  rfl

theorem shift1_at (z : Fin 1) (d : Fin 1024) : k6_pay7 (F := Ideal) x4 x5 (ix2 z d) = ∑ r : Fin 512, (x4 (ix2 r d) + x5 (ix2 r d)) := by
  pointwise [k6_pay7, k6_pay6]

end First

/-! ## The two layers, backward -/

theorem hidden_tile (x0 : Vec Ideal S512x1024 .bf16) (x1 : Vec Ideal S2048x1024 .bf16) (x2 : Vec Ideal S512x2048 .bf16) (r : Fin 512) (l : Fin 2048) :
    k4_pay1 (F := Ideal) x0 x1 x2 (ix2 r l) = nt (mat x0) (mat x1) r l * (two * max (x2 (ix2 r l)) 0) := by
  pointwise [k4_pay1, nt]

theorem dff1_tile (x0 : Vec Ideal S512x4096 .bf16) (x1 : Vec Ideal S1024x4096 .bf16) (r : Fin 512) (d : Fin 1024) :
    k5_pay1 (F := Ideal) x0 x1 (ix2 r d) = nt (mat x0) (mat x1) r d := by
  pointwise [k5_pay1, nt]

end Cert.Ffn
-- ==== Proof.FfnForward.lean ====
/- The block's forward calls: what the first norm and the two layers leave in their arrays. -/
module

public import proofs.«01_k».proof.Proof.FfnTile

@[expose] public section

set_option maxRecDepth 16384

noncomputable section

namespace Cert.Ffn

open Cert.Kernel2Ideal Cert.Kernel2Ideal.Gen Cert.Products Idealize.ShloMosaic Idealize.ShloMosaic.TcCoe

variable (V : (c : Dev nD) → (b : Ref sig .tc) → Buf (Elt Ideal) ((c : Thread nD τ).loc b))

theorem norm_congr {x x' g g' b b' : Row} {d d' : Fin 1024} (hx : x = x') (hg : g = g') (hb : b = b') (hd : d = d') :
    norm x g b d = norm x' g' b' d' := by rw [hx, hg, hb, hd]

/-! ## The first norm -/

theorem idx0 : ∀ t : Fin cfg0.N, (cfg0.win 0).index t = ![t.val, 0] ∧ (cfg0.win 1).index t = ![t.val, 0] ∧ (cfg0.win 2).index t = ![0, 0]
    ∧ (cfg0.win 3).index t = ![0, 0] ∧ (cfg0.win 4).index t = ![t.val, 0] ∧ (cfg0.win 5).index t = ![t.val, 0] := by decide +kernel

theorem pts0 (t : Fin cfg0.N) : t.val < 32 := lt_of_lt_of_eq t.isLt N_0

/-- The first norm's result, from the arrays on entry. -/
abbrev normed1 (c : Dev nD) : Rows := fun p =>
  norm (sum1 (mat (V c main_arg8 : Vec Ideal S16384x1024 .f32)) (mat (V c main_arg9 : Vec Ideal S16384x1024 .f32)) p)
    (vec (V c main_v0 : Vec Ideal S1x1024 .f32)) (vec (V c main_v1 : Vec Ideal S1x1024 .f32))

theorem out0_4_at (x0 x1 x2 x3) (p : Fin 512) (q : Fin 1024) :
    (out0_4 x0 x1 x2 x3 : Vec Ideal S512x1024 .f32) (ix2 p q) = norm (row1 x0 x1 p) (vec x2) (vec x3) q := by
  unfold out0_4
  frame_out
  exact norm_tile _ _ _ _ p q

theorem out0_5_at (x0 x1 x2 x3) (p : Fin 512) (q : Fin 1024) :
    (out0_5 x0 x1 x2 x3 : Vec Ideal S512x1024 .bf16) (ix2 p q) = norm (row1 x0 x1 p) (vec x2) (vec x3) q := by
  unfold out0_5
  frame_out
  pointwise [k0_pay2, norm_tile]

theorem norm_array (c : Dev nD) : (dat0 V c).arrAt 4 cfg0.N = arr (normed1 V c) := by
  refine (dat0 V c).arrAt_eq_of_covers 4 _ (by decide +kernel) fun t hf y => ?_
  have hN := pts0 t
  blk_simp
  rw [after0_4]
  refine (congrArg _ (eq_ix2 y)).trans ((out0_4_at _ _ _ _ (y 0) (y 1)).trans (norm_congr ?_ ?_ ?_ ?_))
  · funext k
    refine congrArg₂ (· + ·) (congrArg (alpha * ·) ?_) ?_
    · dsimp only [mat]
      blk_ext [iblk0, idx0 t]
    · dsimp only [mat]
      blk_ext [iblk0, idx0 t]
  · funext k
    dsimp only [vec]
    blk_ext [iblk0, idx0 t]
  · funext k
    dsimp only [vec]
    blk_ext [iblk0, idx0 t]
  · refine Fin.ext ?_
    blk_simp [idx0 t]

theorem norm_array_low (c : Dev nD) : (dat0 V c).arrAt 5 cfg0.N = arr (normed1 V c) := by
  refine (dat0 V c).arrAt_eq_of_covers 5 _ (by decide +kernel) fun t hf y => ?_
  have hN := pts0 t
  blk_simp
  rw [after0_5]
  refine (congrArg _ (eq_ix2 y)).trans ((out0_5_at _ _ _ _ (y 0) (y 1)).trans (norm_congr ?_ ?_ ?_ ?_))
  · funext k
    refine congrArg₂ (· + ·) (congrArg (alpha * ·) ?_) ?_
    · dsimp only [mat]
      blk_ext [iblk0, idx0 t]
    · dsimp only [mat]
      blk_ext [iblk0, idx0 t]
  · funext k
    dsimp only [vec]
    blk_ext [iblk0, idx0 t]
  · funext k
    dsimp only [vec]
    blk_ext [iblk0, idx0 t]
  · refine Fin.ext ?_
    blk_simp [idx0 t]

/-! ## The first layer -/

theorem idx1 : ∀ t : Fin cfg1.N, (cfg1.win 0).index t = ![t.val % 32, 0] ∧ (cfg1.win 1).index t = ![0, t.val / 32]
    ∧ (cfg1.win 2).index t = ![0, t.val / 32] ∧ (cfg1.win 3).index t = ![t.val % 32, t.val / 32]
    ∧ (cfg1.win 4).index t = ![t.val % 32, t.val / 32] := by decide +kernel

theorem pts1 (t : Fin cfg1.N) : t.val < 64 := lt_of_lt_of_eq t.isLt N_1

/-- The hidden layer before the rectifier, from the arrays on entry. -/
abbrev pre1 (c : Dev nD) : Hidden := pre (mat (V c main_v6_1 : Vec Ideal S16384x1024 .bf16))
  (mat (V c main_arg2 : Vec Ideal S1024x4096 .bf16)) (vec (V c main_v2 : Vec Ideal S1x4096 .f32))

theorem out1_4_at (x0 x1 x2) (p : Fin 512) (q : Fin 2048) :
    (out1_4 x0 x1 x2 : Vec Ideal S512x2048 .bf16) (ix2 p q) = nn (mat x0) (mat x1) p q + vec x2 q := by
  unfold out1_4
  frame_out
  pointwise [k1_pay3, pre_tile]

theorem out1_3_at (x0 x1 x2) (p : Fin 512) (q : Fin 2048) :
    (out1_3 x0 x1 x2 : Vec Ideal S512x2048 .bf16) (ix2 p q)
      = max (nn (mat x0) (mat x1) p q + vec x2 q) 0 * max (nn (mat x0) (mat x1) p q + vec x2 q) 0 := by
  unfold out1_3
  frame_out
  pointwise [k1_pay2, pre_tile]

theorem pre_array (c : Dev nD) : (dat1 V c).arrAt 4 cfg1.N = arr (pre1 V c) := by
  refine (dat1 V c).arrAt_eq_of_covers 4 _ (by decide +kernel) fun t hf y => ?_
  have hN := pts1 t
  blk_simp
  rw [after1_4]
  refine (congrArg _ (eq_ix2 y)).trans ((out1_4_at _ _ _ (y 0) (y 1)).trans
    (congrArg₂ (· + ·) (nn_congr (fun k => ?_) fun k => ?_) ?_))
  · dsimp only [mat]
    blk_ext [iblk1, idx1 t]
  · dsimp only [mat]
    blk_ext [iblk1, idx1 t]
  · dsimp only [vec]
    blk_ext [iblk1, idx1 t]

theorem hidden_array (c : Dev nD) : (dat1 V c).arrAt 3 cfg1.N = arr (fun p l => relu (pre1 V c) p l * relu (pre1 V c) p l) := by
  refine (dat1 V c).arrAt_eq_of_covers 3 _ (by decide +kernel) fun t hf y => ?_
  have hN := pts1 t
  blk_simp
  rw [after1_3]
  refine (congrArg _ (eq_ix2 y)).trans ((out1_3_at _ _ _ (y 0) (y 1)).trans ?_)
  refine congrArg (fun x : EReal => max x 0 * max x 0) (congrArg₂ (· + ·) (nn_congr (fun k => ?_) fun k => ?_) ?_)
  · dsimp only [mat]
    blk_ext [iblk1, idx1 t]
  · dsimp only [mat]
    blk_ext [iblk1, idx1 t]
  · dsimp only [vec]
    blk_ext [iblk1, idx1 t]

/-! ## The second layer -/

theorem idx2 : ∀ t : Fin cfg2.N, (cfg2.win 0).index t = ![t.val, 0] ∧ (cfg2.win 1).index t = ![0, 0]
    ∧ (cfg2.win 2).index t = ![t.val, 0] := by decide +kernel

theorem pts2 (t : Fin cfg2.N) : t.val < 32 := lt_of_lt_of_eq t.isLt N_2

theorem out2_2_at (x0 x1) (p : Fin 512) (q : Fin 1024) :
    (out2_2 x0 x1 : Vec Ideal S512x1024 .f32) (ix2 p q) = nn (mat x0) (mat x1) p q := by
  unfold out2_2
  frame_out
  exact ff2_tile _ _ p q

theorem ff2_array (c : Dev nD) : (dat2 V c).arrAt 2 cfg2.N
    = arr (nn (mat (V c main_v7_0 : Vec Ideal S16384x4096 .bf16)) (mat (V c main_arg4 : Vec Ideal S4096x1024 .bf16))) := by
  refine (dat2 V c).arrAt_eq_of_covers 2 _ (by decide +kernel) fun t hf y => ?_
  have hN := pts2 t
  blk_simp
  rw [after2_2]
  refine (congrArg _ (eq_ix2 y)).trans ((out2_2_at _ _ (y 0) (y 1)).trans (nn_congr (fun k => ?_) fun k => ?_)) <;>
  · dsimp only [mat]
    blk_ext [iblk2, idx2 t]

end Cert.Ffn
-- ==== Proof.FfnSecond.lean ====
/- The second norm's backward call: the gradient of its operand, and the four column sums it gathers over the tiles. -/
module

public import proofs.«01_k».proof.Proof.FfnTile

@[expose] public section

set_option maxRecDepth 65536

noncomputable section

namespace Cert.Ffn

open Cert.Kernel2Ideal Cert.Kernel2Ideal.Gen Cert.Products Idealize.ShloMosaic Idealize.ShloMosaic.TcCoe

variable (V : (c : Dev nD) → (b : Ref sig .tc) → Buf (Elt Ideal) ((c : Thread nD τ).loc b))

theorem idx3 : ∀ t : Fin cfg3.N, (cfg3.win 0).index t = ![t.val, 0] ∧ (cfg3.win 1).index t = ![t.val, 0] ∧ (cfg3.win 2).index t = ![0, 0]
    ∧ (cfg3.win 3).index t = ![0, 0] ∧ (cfg3.win 5).index t = ![t.val, 0] ∧ (cfg3.win 6).index t = ![t.val, 0]
    ∧ (cfg3.win 7).index t = ![t.val, 0] := by decide +kernel

theorem pts3 (t : Fin cfg3.N) : t.val < 32 := lt_of_lt_of_eq t.isLt N_3

/-- The second norm's operand, from the arrays on entry. -/
abbrev operand2 (c : Dev nD) : Rows := sum2 (mat (V c main_v6_0 : Vec Ideal S16384x1024 .f32)) (mat (V c main_v8 : Vec Ideal S16384x1024 .f32))
  (vec (V c main_v3 : Vec Ideal S1x1024 .f32))

abbrev cotangent2 (c : Dev nD) : Rows := mat (V c main_arg10 : Vec Ideal S16384x1024 .f32)

abbrev grads2 (c : Dev nD) : Rows := normGrads (operand2 V c) (cotangent2 V c) (vec (V c main_v4 : Vec Ideal S1x1024 .f32))

/-! ## What a tile adds -/

abbrev at3 (t : Fin cfg3.N) : Fin 32 := ⟨t.val, pts3 t⟩

theorem row2_blk (c : Dev nD) (t : Fin cfg3.N) (r : Fin 512) :
    row2 (iblk3 V c 0 t) (iblk3 V c 1 t) (iblk3 V c 2 t) r = operand2 V c (tileRow (at3 t) r) := by
  have hN := pts3 t
  funext d
  refine congrArg₂ (· + ·) (congrArg (alpha * ·) ?_) (congrArg₂ (· + ·) ?_ ?_)
  · dsimp only [mat]
    blk_ext [iblk3, idx3 t]
  · dsimp only [mat]
    blk_ext [iblk3, idx3 t]
  · dsimp only [vec]
    blk_ext [iblk3, idx3 t]

theorem scale2_blk (c : Dev nD) (t : Fin cfg3.N) (d : Fin 1024) :
    (iblk3 V c 3 t : Vec Ideal S1x1024 .f32) (ix2 0 d) = vec (V c main_v4 : Vec Ideal S1x1024 .f32) d := by
  have hN := pts3 t
  dsimp only [vec]
  blk_ext [iblk3, idx3 t]

theorem cotangent2_blk (c : Dev nD) (t : Fin cfg3.N) (r : Fin 512) (d : Fin 1024) :
    (iblk3 V c 5 t : Vec Ideal S512x1024 .f32) (ix2 r d) = cotangent2 V c (tileRow (at3 t) r) d := by
  have hN := pts3 t
  dsimp only [mat]
  blk_ext [iblk3, idx3 t]

abbrev tile2 (c : Dev nD) (t : Fin cfg3.N) : FVec Ideal S512x1024 .f32 :=
  grad2Tile (iblk3 V c 0 t) (iblk3 V c 1 t) (iblk3 V c 2 t) (iblk3 V c 3 t) (iblk3 V c 5 t)

theorem grads2_blk (c : Dev nD) (t : Fin cfg3.N) (r : Fin 512) (d : Fin 1024) :
    tile2 V c t (ix2 r d) = grads2 V c (tileRow (at3 t) r) d := by
  rw [tile2, grad2_at, row2_blk]
  simp only [scale2_blk, cotangent2_blk]
  rfl

/-! ## What the buffers hold at a grid point -/

theorem residual_at (c : Dev nD) (t : Fin cfg3.N) (r : Fin 512) (d : Fin 1024) :
    (outsAt3 V c t.val t.isLt).1 (ix2 r d) = alpha * grads2 V c (tileRow (at3 t) r) d := by
  rw [← grads2_blk]
  by_cases h : t.val % 32 = 0
  · rw [outsAt3_A V c t h]
    frame_out
    pointwise [k3_pay12]
  · rw [outsAt3_B V c t h]
    frame_out
    pointwise [k3_pay12]

theorem grads_at (c : Dev nD) (t : Fin cfg3.N) (r : Fin 512) (d : Fin 1024) :
    (outsAt3 V c t.val t.isLt).2.1 (ix2 r d) = grads2 V c (tileRow (at3 t) r) d := by
  rw [← grads2_blk]
  by_cases h : t.val % 32 = 0
  · rw [outsAt3_A V c t h]
    frame_out
    pointwise [k3_pay13]
  · rw [outsAt3_B V c t h]
    frame_out
    pointwise [k3_pay13]

theorem offset_first (c : Dev nD) (t : Fin cfg3.N) (h : t.val % 32 = 0) (j : S1x1024.Idx) :
    (outsAt3 V c t.val t.isLt).2.2.1 j = 0 + ∑ r : Fin 512, grads2 V c (tileRow (at3 t) r) (j 1) := by
  obtain ⟨u, d, rfl⟩ : ∃ u d, j = ix2 u d := ⟨_, _, eq_ix2 j⟩
  rw [outsAt3_A V c t h]
  frame_out
  pointwise [k3_pay17, k3_pay14]
  exact Finset.sum_congr rfl fun r _ => grads2_blk V c t r d

theorem offset_later (c : Dev nD) (t : Fin cfg3.N) (h : ¬t.val % 32 = 0) (j : S1x1024.Idx) :
    (outsAt3 V c t.val t.isLt).2.2.1 j = (outsAt3 V c (t.val - 1) (Nat.lt_of_le_of_lt (Nat.sub_le _ _) t.isLt)).2.2.1 j
      + ∑ r : Fin 512, grads2 V c (tileRow (at3 t) r) (j 1) := by
  obtain ⟨u, d, rfl⟩ : ∃ u d, j = ix2 u d := ⟨_, _, eq_ix2 j⟩
  rw [outsAt3_B V c t h]
  frame_out
  pointwise [k3_pay17]
  exact congrArg (_ + ·) (Finset.sum_congr rfl fun r _ => grads2_blk V c t r d)

theorem scale_first (c : Dev nD) (t : Fin cfg3.N) (h : t.val % 32 = 0) (j : S1x1024.Idx) :
    (outsAt3 V c t.val t.isLt).2.2.2.1 j
      = 0 + ∑ r : Fin 512, normed (operand2 V c (tileRow (at3 t) r)) (j 1) * cotangent2 V c (tileRow (at3 t) r) (j 1) := by
  obtain ⟨u, d, rfl⟩ : ∃ u d, j = ix2 u d := ⟨_, _, eq_ix2 j⟩
  rw [outsAt3_A V c t h]
  frame_out
  pointwise [k3_pay1, k3_pay15, scale2_at, row2_blk, cotangent2_blk]

theorem scale_later (c : Dev nD) (t : Fin cfg3.N) (h : ¬t.val % 32 = 0) (j : S1x1024.Idx) :
    (outsAt3 V c t.val t.isLt).2.2.2.1 j = (outsAt3 V c (t.val - 1) (Nat.lt_of_le_of_lt (Nat.sub_le _ _) t.isLt)).2.2.2.1 j
      + ∑ r : Fin 512, normed (operand2 V c (tileRow (at3 t) r)) (j 1) * cotangent2 V c (tileRow (at3 t) r) (j 1) := by
  obtain ⟨u, d, rfl⟩ : ∃ u d, j = ix2 u d := ⟨_, _, eq_ix2 j⟩
  rw [outsAt3_B V c t h]
  frame_out
  pointwise [k3_pay1, scale2_at, row2_blk, cotangent2_blk]

theorem shift_first (c : Dev nD) (t : Fin cfg3.N) (h : t.val % 32 = 0) (j : S1x1024.Idx) :
    (outsAt3 V c t.val t.isLt).2.2.2.2 j = 0 + ∑ r : Fin 512, cotangent2 V c (tileRow (at3 t) r) (j 1) := by
  obtain ⟨u, d, rfl⟩ : ∃ u d, j = ix2 u d := ⟨_, _, eq_ix2 j⟩
  rw [outsAt3_A V c t h]
  frame_out
  pointwise [k3_pay2, k3_pay16, shift2_at, cotangent2_blk]

theorem shift_later (c : Dev nD) (t : Fin cfg3.N) (h : ¬t.val % 32 = 0) (j : S1x1024.Idx) :
    (outsAt3 V c t.val t.isLt).2.2.2.2 j = (outsAt3 V c (t.val - 1) (Nat.lt_of_le_of_lt (Nat.sub_le _ _) t.isLt)).2.2.2.2 j
      + ∑ r : Fin 512, cotangent2 V c (tileRow (at3 t) r) (j 1) := by
  obtain ⟨u, d, rfl⟩ : ∃ u d, j = ix2 u d := ⟨_, _, eq_ix2 j⟩
  rw [outsAt3_B V c t h]
  frame_out
  pointwise [k3_pay2, shift2_at, cotangent2_blk]

/-! ## The arrays -/

theorem residual_array (c : Dev nD) : (dat3 V c).arrAt 6 cfg3.N = arr (fun p d => alpha * grads2 V c p d) := by
  refine (dat3 V c).arrAt_eq_of_covers 6 _ (by decide +kernel) fun t hf y => ?_
  have hN := pts3 t
  blk_simp
  rw [after3_6]
  refine (congrArg _ (eq_ix2 y)).trans ((residual_at V c t (y 0) (y 1)).trans ?_)
  show arr (fun p d => alpha * grads2 V c p d) (ix2 (tileRow (at3 t) (y 0)) (y 1)) = arr (fun p d => alpha * grads2 V c p d) _
  blk_ext [idx3 t]

theorem grads_array (c : Dev nD) : (dat3 V c).arrAt 7 cfg3.N = arr (grads2 V c) := by
  refine (dat3 V c).arrAt_eq_of_covers 7 _ (by decide +kernel) fun t hf y => ?_
  have hN := pts3 t
  blk_simp
  rw [after3_7]
  refine (congrArg _ (eq_ix2 y)).trans ((grads_at V c t (y 0) (y 1)).trans ?_)
  show arr (grads2 V c) (ix2 (tileRow (at3 t) (y 0)) (y 1)) = arr (grads2 V c) _
  blk_ext [idx3 t]

abbrev last3 : Fin cfg3.N := ⟨31, by decide +kernel⟩

/-- A sum over the grid's points of sums over a tile's rows. -/
theorem sum_points3 (f : Fin 16384 → EReal) : ∑ t : Fin cfg3.N, ∑ r : Fin 512, f (tileRow (at3 t) r) = ∑ p, f p :=
  Fin.sum_mul_add_congr (fun _ _ _ => rfl) (by decide +kernel)

theorem offset_array (c : Dev nD) : (dat3 V c).arrAt 8 cfg3.N = rowArr (colSum (grads2 V c)) := by
  refine (dat3 V c).arrAt_eq_of_after_last 8 last3 (by decide +kernel) _ fun j => ?_
  blk_simp
  rw [after3_8]
  refine (Pipeline.eq_sum_fin_of_reset_step_apply_last (fun n h => (outsAt3 V c n h).2.2.1) 32 (fun _ => 0)
    (fun t j => ∑ r : Fin 512, grads2 V c (tileRow (at3 t) r) (j 1)) (offset_first V c) (offset_later V c) (le_of_eq N_3) last3
    (by decide +kernel) j).trans ?_
  rw [zero_add]
  exact sum_points3 fun p => grads2 V c p (j 1)

theorem scale_array (c : Dev nD) : (dat3 V c).arrAt 9 cfg3.N = rowArr (scaleGrad (operand2 V c) (cotangent2 V c)) := by
  refine (dat3 V c).arrAt_eq_of_after_last 9 last3 (by decide +kernel) _ fun j => ?_
  blk_simp
  rw [after3_9]
  refine (Pipeline.eq_sum_fin_of_reset_step_apply_last (fun n h => (outsAt3 V c n h).2.2.2.1) 32 (fun _ => 0)
    (fun t j => ∑ r : Fin 512, normed (operand2 V c (tileRow (at3 t) r)) (j 1) * cotangent2 V c (tileRow (at3 t) r) (j 1))
    (scale_first V c) (scale_later V c) (le_of_eq N_3) last3 (by decide +kernel) j).trans ?_
  rw [zero_add]
  exact sum_points3 fun p => normed (operand2 V c p) (j 1) * cotangent2 V c p (j 1)

theorem shift_array (c : Dev nD) : (dat3 V c).arrAt 10 cfg3.N = rowArr (colSum (cotangent2 V c)) := by
  refine (dat3 V c).arrAt_eq_of_after_last 10 last3 (by decide +kernel) _ fun j => ?_
  blk_simp
  rw [after3_10]
  refine (Pipeline.eq_sum_fin_of_reset_step_apply_last (fun n h => (outsAt3 V c n h).2.2.2.2) 32 (fun _ => 0)
    (fun t j => ∑ r : Fin 512, cotangent2 V c (tileRow (at3 t) r) (j 1)) (shift_first V c) (shift_later V c) (le_of_eq N_3) last3
    (by decide +kernel) j).trans ?_
  rw [zero_add]
  exact sum_points3 fun p => cotangent2 V c p (j 1)

end Cert.Ffn
-- ==== Proof.FfnHidden.lean ====
/- The two layers' backward calls: the hidden layer's gradient, its sum over the rows, and the gradient of the first norm's result through
   the layers. -/
module

public import proofs.«01_k».proof.Proof.FfnTile

@[expose] public section

set_option maxRecDepth 65536

noncomputable section

namespace Cert.Ffn

open Cert.Kernel2Ideal Cert.Kernel2Ideal.Gen Cert.Products Idealize.ShloMosaic Idealize.ShloMosaic.TcCoe

variable (V : (c : Dev nD) → (b : Ref sig .tc) → Buf (Elt Ideal) ((c : Thread nD τ).loc b))

theorem idx4 : ∀ t : Fin cfg4.N, (cfg4.win 0).index t = ![t.val % 32, 0] ∧ (cfg4.win 1).index t = ![t.val / 32, 0]
    ∧ (cfg4.win 2).index t = ![t.val % 32, t.val / 32] ∧ (cfg4.win 3).index t = ![t.val % 32, t.val / 32]
    ∧ (cfg4.win 4).index t = ![0, t.val / 32] := by decide +kernel

theorem pts4 (t : Fin cfg4.N) : t.val < 64 := lt_of_lt_of_eq t.isLt N_4

/-- The hidden layer's gradient, from the arrays on entry. -/
abbrev hidden (c : Dev nD) : Hidden := hiddenGrad (mat (V c main_v9_1 : Vec Ideal S16384x1024 .bf16))
  (mat (V c main_arg4 : Vec Ideal S4096x1024 .bf16)) (mat (V c main_v7_1 : Vec Ideal S16384x4096 .bf16))

abbrev rowAt (t : Fin cfg4.N) : Fin 32 := ⟨t.val % 32, Nat.mod_lt _ (by decide)⟩

/-- Column `l` of the column block of a grid point. -/
abbrev colAt (t : Fin cfg4.N) (l : Fin 2048) : Fin 4096 := ⟨t.val / 32 * 2048 + l.val, by have := pts4 t; omega⟩

theorem hidden_blk (c : Dev nD) (t : Fin cfg4.N) (r : Fin 512) (l : Fin 2048) :
    k4_pay1 (F := Ideal) (iblk4 V c 0 t) (iblk4 V c 1 t) (iblk4 V c 2 t) (ix2 r l) = hidden V c (tileRow (rowAt t) r) (colAt t l) := by
  have hN := pts4 t
  refine (hidden_tile _ _ _ r l).trans (congrArg₂ (· * ·) (nt_congr (fun k => ?_) fun k => ?_)
    (congrArg (fun x : EReal => two * max x 0) ?_)) <;>
  · dsimp only [mat]
    blk_ext [iblk4, idx4 t]

theorem hidden_at (c : Dev nD) (t : Fin cfg4.N) (r : Fin 512) (l : Fin 2048) :
    (outsAt4 V c t.val t.isLt).1 (ix2 r l) = hidden V c (tileRow (rowAt t) r) (colAt t l) := by
  rw [← hidden_blk]
  by_cases h : t.val % 32 = 0
  · rw [outsAt4_A V c t h]
    frame_out
    pointwise [k4_pay2]
  · rw [outsAt4_B V c t h]
    frame_out
    pointwise [k4_pay2]

theorem bias_first (c : Dev nD) (t : Fin cfg4.N) (h : t.val % 32 = 0) (j : S1x2048.Idx) :
    (outsAt4 V c t.val t.isLt).2 j = 0 + ∑ r : Fin 512, hidden V c (tileRow (rowAt t) r) (colAt t (j 1)) := by
  obtain ⟨u, l, rfl⟩ : ∃ u l, j = ix2 u l := ⟨_, _, eq_ix2 j⟩
  rw [outsAt4_A V c t h]
  frame_out
  pointwise [k4_pay4, k4_pay3, hidden_blk]

theorem bias_later (c : Dev nD) (t : Fin cfg4.N) (h : ¬t.val % 32 = 0) (j : S1x2048.Idx) :
    (outsAt4 V c t.val t.isLt).2 j = (outsAt4 V c (t.val - 1) (Nat.lt_of_le_of_lt (Nat.sub_le _ _) t.isLt)).2 j
      + ∑ r : Fin 512, hidden V c (tileRow (rowAt t) r) (colAt t (j 1)) := by
  obtain ⟨u, l, rfl⟩ : ∃ u l, j = ix2 u l := ⟨_, _, eq_ix2 j⟩
  rw [outsAt4_B V c t h]
  frame_out
  pointwise [k4_pay4, hidden_blk]

theorem hidden_grad_array (c : Dev nD) : (dat4 V c).arrAt 3 cfg4.N = arr (hidden V c) := by
  refine (dat4 V c).arrAt_eq_of_covers 3 _ (by decide +kernel) fun t hf y => ?_
  have hN := pts4 t
  blk_simp
  rw [after4_3]
  refine (congrArg _ (eq_ix2 y)).trans ((hidden_at V c t (y 0) (y 1)).trans ?_)
  show arr (hidden V c) (ix2 (tileRow (rowAt t) (y 0)) (colAt t (y 1))) = arr (hidden V c) _
  blk_ext [idx4 t]

theorem bias_array (c : Dev nD) : (dat4 V c).arrAt 4 cfg4.N = rowArr (colSum (hidden V c)) := by
  refine (dat4 V c).arrAt_eq_of_covers 4 _ (by decide +kernel) fun t hf y => ?_
  have hN := pts4 t
  have h31 := (flush4_4 t).mp hf
  blk_simp
  rw [after4_4]
  refine (Pipeline.eq_sum_fin_of_reset_step_apply_of_flush (fun n h => (outsAt4 V c n h).2) 32 (fun _ => 0)
    (fun t j => ∑ r : Fin 512, hidden V c (tileRow (rowAt t) r) (colAt t (j 1))) (bias_first V c) (bias_later V c) t h31 y).trans ?_
  rw [zero_add]
  refine Eq.trans (Finset.sum_congr rfl fun s _ => Finset.sum_congr rfl fun r _ => ?_)
    (sum_tiles fun p => hidden V c p ((((cfg4.win 4).blk t).view.emb y) 1))
  refine congrArg₂ (hidden V c) (congrArg (fun s => tileRow s r) (Fin.ext ?_)) (Fin.ext ?_)
  · dsimp only
    have := s.isLt
    omega
  · dsimp only
    blk_simp [idx4 t]
    have := s.isLt
    omega

/-! ## Through the first layer -/

theorem idx5 : ∀ t : Fin cfg5.N, (cfg5.win 0).index t = ![t.val, 0] ∧ (cfg5.win 1).index t = ![0, 0]
    ∧ (cfg5.win 2).index t = ![t.val, 0] := by decide +kernel

theorem pts5 (t : Fin cfg5.N) : t.val < 32 := lt_of_lt_of_eq t.isLt N_5

theorem out5_2_at (x0 x1) (p : Fin 512) (q : Fin 1024) :
    (out5_2 x0 x1 : Vec Ideal S512x1024 .f32) (ix2 p q) = nt (mat x0) (mat x1) p q := by
  unfold out5_2
  frame_out
  exact dff1_tile _ _ p q

theorem layers_array (c : Dev nD) : (dat5 V c).arrAt 2 cfg5.N
    = arr (nt (mat (V c main_v10_0 : Vec Ideal S16384x4096 .bf16)) (mat (V c main_arg2 : Vec Ideal S1024x4096 .bf16))) := by
  refine (dat5 V c).arrAt_eq_of_covers 2 _ (by decide +kernel) fun t hf y => ?_
  have hN := pts5 t
  blk_simp
  rw [after5_2]
  refine (congrArg _ (eq_ix2 y)).trans ((out5_2_at _ _ (y 0) (y 1)).trans (nt_congr (fun k => ?_) fun k => ?_)) <;>
  · dsimp only [mat]
    blk_ext [iblk5, idx5 t]

end Cert.Ffn
-- ==== Proof.FfnFirst.lean ====
/- The first norm's backward call: the gradient of its operand, and the two column sums it gathers over the tiles. -/
module

public import proofs.«01_k».proof.Proof.FfnTile

@[expose] public section

set_option maxRecDepth 65536

noncomputable section

namespace Cert.Ffn

open Cert.Kernel2Ideal Cert.Kernel2Ideal.Gen Cert.Products Idealize.ShloMosaic Idealize.ShloMosaic.TcCoe

variable (V : (c : Dev nD) → (b : Ref sig .tc) → Buf (Elt Ideal) ((c : Thread nD τ).loc b))

theorem idx6 : ∀ t : Fin cfg6.N, (cfg6.win 0).index t = ![t.val, 0] ∧ (cfg6.win 1).index t = ![t.val, 0] ∧ (cfg6.win 2).index t = ![0, 0]
    ∧ (cfg6.win 4).index t = ![t.val, 0] ∧ (cfg6.win 5).index t = ![t.val, 0] ∧ (cfg6.win 6).index t = ![t.val, 0]
    ∧ (cfg6.win 7).index t = ![t.val, 0] := by decide +kernel

theorem pts6 (t : Fin cfg6.N) : t.val < 32 := lt_of_lt_of_eq t.isLt N_6

/-- The first norm's operand, from the arrays on entry. -/
abbrev operand1 (c : Dev nD) : Rows := sum1 (mat (V c main_arg8 : Vec Ideal S16384x1024 .f32)) (mat (V c main_arg9 : Vec Ideal S16384x1024 .f32))

/-- The gradient of the first norm's result: the residual's share and the layers' share. -/
abbrev cotangent1 (c : Dev nD) : Rows := fun p d =>
  mat (V c main_v9_0 : Vec Ideal S16384x1024 .f32) p d + mat (V c main_v11 : Vec Ideal S16384x1024 .f32) p d

abbrev grads1 (c : Dev nD) : Rows := normGrads (operand1 V c) (cotangent1 V c) (vec (V c main_v0 : Vec Ideal S1x1024 .f32))

/-! ## What a tile adds -/

abbrev at6 (t : Fin cfg6.N) : Fin 32 := ⟨t.val, pts6 t⟩

theorem row1_blk (c : Dev nD) (t : Fin cfg6.N) (r : Fin 512) :
    row1 (iblk6 V c 0 t) (iblk6 V c 1 t) r = operand1 V c (tileRow (at6 t) r) := by
  have hN := pts6 t
  funext d
  refine congrArg₂ (· + ·) (congrArg (alpha * ·) ?_) ?_
  · dsimp only [mat]
    blk_ext [iblk6, idx6 t]
  · dsimp only [mat]
    blk_ext [iblk6, idx6 t]

theorem scale1_blk (c : Dev nD) (t : Fin cfg6.N) (d : Fin 1024) :
    (iblk6 V c 2 t : Vec Ideal S1x1024 .f32) (ix2 0 d) = vec (V c main_v0 : Vec Ideal S1x1024 .f32) d := by
  have hN := pts6 t
  dsimp only [vec]
  blk_ext [iblk6, idx6 t]

theorem residual_blk (c : Dev nD) (t : Fin cfg6.N) (r : Fin 512) (d : Fin 1024) :
    (iblk6 V c 4 t : Vec Ideal S512x1024 .f32) (ix2 r d) = mat (V c main_v9_0 : Vec Ideal S16384x1024 .f32) (tileRow (at6 t) r) d := by
  have hN := pts6 t
  dsimp only [mat]
  blk_ext [iblk6, idx6 t]

theorem layers_blk (c : Dev nD) (t : Fin cfg6.N) (r : Fin 512) (d : Fin 1024) :
    (iblk6 V c 5 t : Vec Ideal S512x1024 .f32) (ix2 r d) = mat (V c main_v11 : Vec Ideal S16384x1024 .f32) (tileRow (at6 t) r) d := by
  have hN := pts6 t
  dsimp only [mat]
  blk_ext [iblk6, idx6 t]

abbrev tile1 (c : Dev nD) (t : Fin cfg6.N) : FVec Ideal S512x1024 .f32 :=
  grad1Tile (iblk6 V c 0 t) (iblk6 V c 1 t) (iblk6 V c 2 t) (iblk6 V c 4 t) (iblk6 V c 5 t)

theorem grads1_blk (c : Dev nD) (t : Fin cfg6.N) (r : Fin 512) (d : Fin 1024) :
    tile1 V c t (ix2 r d) = grads1 V c (tileRow (at6 t) r) d := by
  rw [tile1, grad1_at, row1_blk]
  simp only [scale1_blk, residual_blk, layers_blk]
  rfl

/-! ## What the buffers hold at a grid point -/

theorem residual1_at (c : Dev nD) (t : Fin cfg6.N) (r : Fin 512) (d : Fin 1024) :
    (outsAt6 V c t.val t.isLt).1 (ix2 r d) = alpha * grads1 V c (tileRow (at6 t) r) d := by
  rw [← grads1_blk]
  by_cases h : t.val % 32 = 0
  · rw [outsAt6_A V c t h]
    frame_out
    pointwise [k6_pay12]
  · rw [outsAt6_B V c t h]
    frame_out
    pointwise [k6_pay12]

theorem grads1_at (c : Dev nD) (t : Fin cfg6.N) (r : Fin 512) (d : Fin 1024) :
    (outsAt6 V c t.val t.isLt).2.1 (ix2 r d) = grads1 V c (tileRow (at6 t) r) d := by
  rw [← grads1_blk]
  by_cases h : t.val % 32 = 0
  · rw [outsAt6_A V c t h]
    frame_out
    pointwise [k6_pay13]
  · rw [outsAt6_B V c t h]
    frame_out
    pointwise [k6_pay13]

theorem scale1_first (c : Dev nD) (t : Fin cfg6.N) (h : t.val % 32 = 0) (j : S1x1024.Idx) :
    (outsAt6 V c t.val t.isLt).2.2.1 j
      = 0 + ∑ r : Fin 512, normed (operand1 V c (tileRow (at6 t) r)) (j 1) * cotangent1 V c (tileRow (at6 t) r) (j 1) := by
  obtain ⟨u, d, rfl⟩ : ∃ u d, j = ix2 u d := ⟨_, _, eq_ix2 j⟩
  rw [outsAt6_A V c t h]
  frame_out
  pointwise [k6_pay16, k6_pay14, scale1_at, row1_blk, residual_blk, layers_blk]

theorem scale1_later (c : Dev nD) (t : Fin cfg6.N) (h : ¬t.val % 32 = 0) (j : S1x1024.Idx) :
    (outsAt6 V c t.val t.isLt).2.2.1 j = (outsAt6 V c (t.val - 1) (Nat.lt_of_le_of_lt (Nat.sub_le _ _) t.isLt)).2.2.1 j
      + ∑ r : Fin 512, normed (operand1 V c (tileRow (at6 t) r)) (j 1) * cotangent1 V c (tileRow (at6 t) r) (j 1) := by
  obtain ⟨u, d, rfl⟩ : ∃ u d, j = ix2 u d := ⟨_, _, eq_ix2 j⟩
  rw [outsAt6_B V c t h]
  frame_out
  pointwise [k6_pay16, scale1_at, row1_blk, residual_blk, layers_blk]

theorem shift1_first (c : Dev nD) (t : Fin cfg6.N) (h : t.val % 32 = 0) (j : S1x1024.Idx) :
    (outsAt6 V c t.val t.isLt).2.2.2 j = 0 + ∑ r : Fin 512, cotangent1 V c (tileRow (at6 t) r) (j 1) := by
  obtain ⟨u, d, rfl⟩ : ∃ u d, j = ix2 u d := ⟨_, _, eq_ix2 j⟩
  rw [outsAt6_A V c t h]
  frame_out
  pointwise [k6_pay1, k6_pay15, shift1_at, residual_blk, layers_blk]

theorem shift1_later (c : Dev nD) (t : Fin cfg6.N) (h : ¬t.val % 32 = 0) (j : S1x1024.Idx) :
    (outsAt6 V c t.val t.isLt).2.2.2 j = (outsAt6 V c (t.val - 1) (Nat.lt_of_le_of_lt (Nat.sub_le _ _) t.isLt)).2.2.2 j
      + ∑ r : Fin 512, cotangent1 V c (tileRow (at6 t) r) (j 1) := by
  obtain ⟨u, d, rfl⟩ : ∃ u d, j = ix2 u d := ⟨_, _, eq_ix2 j⟩
  rw [outsAt6_B V c t h]
  frame_out
  pointwise [k6_pay1, shift1_at, residual_blk, layers_blk]

/-! ## The arrays -/

theorem residual1_array (c : Dev nD) : (dat6 V c).arrAt 6 cfg6.N = arr (fun p d => alpha * grads1 V c p d) := by
  refine (dat6 V c).arrAt_eq_of_covers 6 _ (by decide +kernel) fun t hf y => ?_
  have hN := pts6 t
  blk_simp
  rw [after6_6]
  refine (congrArg _ (eq_ix2 y)).trans ((residual1_at V c t (y 0) (y 1)).trans ?_)
  show arr (fun p d => alpha * grads1 V c p d) (ix2 (tileRow (at6 t) (y 0)) (y 1)) = arr (fun p d => alpha * grads1 V c p d) _
  blk_ext [idx6 t]

theorem grads1_array (c : Dev nD) : (dat6 V c).arrAt 7 cfg6.N = arr (grads1 V c) := by
  refine (dat6 V c).arrAt_eq_of_covers 7 _ (by decide +kernel) fun t hf y => ?_
  have hN := pts6 t
  blk_simp
  rw [after6_7]
  refine (congrArg _ (eq_ix2 y)).trans ((grads1_at V c t (y 0) (y 1)).trans ?_)
  show arr (grads1 V c) (ix2 (tileRow (at6 t) (y 0)) (y 1)) = arr (grads1 V c) _
  blk_ext [idx6 t]

abbrev last6 : Fin cfg6.N := ⟨31, by decide +kernel⟩

/-- A sum over the grid's points of sums over a tile's rows. -/
theorem sum_points6 (f : Fin 16384 → EReal) : ∑ t : Fin cfg6.N, ∑ r : Fin 512, f (tileRow (at6 t) r) = ∑ p, f p :=
  Fin.sum_mul_add_congr (fun _ _ _ => rfl) (by decide +kernel)

theorem scale1_array (c : Dev nD) : (dat6 V c).arrAt 8 cfg6.N = rowArr (scaleGrad (operand1 V c) (cotangent1 V c)) := by
  refine (dat6 V c).arrAt_eq_of_after_last 8 last6 (by decide +kernel) _ fun j => ?_
  blk_simp
  rw [after6_8]
  refine (Pipeline.eq_sum_fin_of_reset_step_apply_last (fun n h => (outsAt6 V c n h).2.2.1) 32 (fun _ => 0)
    (fun t j => ∑ r : Fin 512, normed (operand1 V c (tileRow (at6 t) r)) (j 1) * cotangent1 V c (tileRow (at6 t) r) (j 1))
    (scale1_first V c) (scale1_later V c) (le_of_eq N_6) last6 (by decide +kernel) j).trans ?_
  rw [zero_add]
  exact sum_points6 fun p => normed (operand1 V c p) (j 1) * cotangent1 V c p (j 1)

theorem shift1_array (c : Dev nD) : (dat6 V c).arrAt 9 cfg6.N = rowArr (colSum (cotangent1 V c)) := by
  refine (dat6 V c).arrAt_eq_of_after_last 9 last6 (by decide +kernel) _ fun j => ?_
  blk_simp
  rw [after6_9]
  refine (Pipeline.eq_sum_fin_of_reset_step_apply_last (fun n h => (outsAt6 V c n h).2.2.2) 32 (fun _ => 0)
    (fun t j => ∑ r : Fin 512, cotangent1 V c (tileRow (at6 t) r) (j 1)) (shift1_first V c) (shift1_later V c) (le_of_eq N_6) last6
    (by decide +kernel) j).trans ?_
  rw [zero_add]
  exact sum_points6 fun p => cotangent1 V c p (j 1)

end Cert.Ffn
-- ==== Proof.FfnWhole.lean ====
/- The block's seven calls, one after the other: what the eight results hold at the end of the run. -/
module

public import proofs.«01_k».proof.Proof.FfnForward
public import proofs.«01_k».proof.Proof.FfnSecond
public import proofs.«01_k».proof.Proof.FfnHidden
public import proofs.«01_k».proof.Proof.FfnFirst

@[expose] public section

set_option maxRecDepth 16384

noncomputable section

namespace Cert.Ffn

open Cert.Kernel2Ideal Cert.Kernel2Ideal.Gen Cert.Products Idealize.ShloMosaic Idealize.ShloMosaic.TcCoe

variable (m : (ℓ : Loc nD τ sig) → Buf (Elt Ideal) ℓ) (ρ : Dev nD → PrngReg)

/-- The block's arguments. -/
@[reducible] def data (c : Dev nD) : Data := Data.of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))

/-! ## The rows that the host lays out -/

theorem entry0 (c : Dev nD) : vec (V1 m ρ c main_v0 : Vec Ideal S1x1024 .f32) = (data m c).g1 := by
  funext d
  dsimp only [vec, V1, W1]
  entry_read
  pointwise

theorem entry1 (c : Dev nD) : vec (V1 m ρ c main_v1 : Vec Ideal S1x1024 .f32) = (data m c).be1 := by
  funext d
  dsimp only [vec, V1, W1]
  entry_read
  pointwise

theorem entry2 (c : Dev nD) : vec (V1 m ρ c main_v2 : Vec Ideal S1x4096 .f32) = (data m c).b1 := by
  funext d
  dsimp only [vec, V1, W1]
  entry_read
  pointwise

theorem entry3 (c : Dev nD) : vec (V1 m ρ c main_v3 : Vec Ideal S1x1024 .f32) = (data m c).b2 := by
  funext d
  dsimp only [vec, V1, W1]
  entry_read
  pointwise

theorem entry4 (c : Dev nD) : vec (V1 m ρ c main_v4 : Vec Ideal S1x1024 .f32) = (data m c).g2 := by
  funext d
  dsimp only [vec, V1, W1]
  entry_read
  pointwise

/-! ## After the first norm -/

theorem normed1_eq (c : Dev nD) : normed1 (V1 m ρ) c = (data m c).out1 := by
  funext p
  rw [normed1, entry0, entry1, show V1 m ρ c main_arg8 = m ((c : Thread nD τ).loc main_arg8) from W1_args m ρ c _ (by decide),
    show V1 m ρ c main_arg9 = m ((c : Thread nD τ).loc main_arg9) from W1_args m ρ c _ (by decide)]
  rfl

theorem out1_2 (c : Dev nD) : V2 m ρ c main_v6_0 = arr (data m c).out1 :=
  (W2_arr m ρ c 4).trans ((norm_array (V1 m ρ) c).trans (congrArg arr (normed1_eq m ρ c)))

theorem out1_low_2 (c : Dev nD) : V2 m ρ c main_v6_1 = arr (data m c).out1 :=
  (W2_arr m ρ c 5).trans ((norm_array_low (V1 m ρ) c).trans (congrArg arr (normed1_eq m ρ c)))

/-! ## After the layers -/

theorem pre1_eq (c : Dev nD) : pre1 (V2 m ρ) c = (data m c).hpre := by
  rw [pre1, out1_low_2, show V2 m ρ c main_v2 = V1 m ρ c main_v2 from W2_of m ρ c _ (by decide), entry2,
    show V2 m ρ c main_arg2 = m ((c : Thread nD τ).loc main_arg2) from W2_args m ρ c _ (by decide)]
  rfl

theorem hid_3 (c : Dev nD) : V3 m ρ c main_v7_0 = arr (data m c).hid := by
  refine (W3_arr m ρ c 3).trans ((hidden_array (V2 m ρ) c).trans ?_)
  rw [pre1_eq]
  rfl

theorem hpre_3 (c : Dev nD) : V3 m ρ c main_v7_1 = arr (data m c).hpre :=
  (W3_arr m ρ c 4).trans ((pre_array (V2 m ρ) c).trans (congrArg arr (pre1_eq m ρ c)))

theorem ff2_4 (c : Dev nD) : V4 m ρ c main_v8 = arr (nn (data m c).hid (data m c).w2) := by
  refine (W4_arr m ρ c 2).trans ((ff2_array (V3 m ρ) c).trans ?_)
  rw [hid_3, show V3 m ρ c main_arg4 = m ((c : Thread nD τ).loc main_arg4) from W3_args m ρ c _ (by decide)]
  rfl

theorem kept4 (c : Dev nD) (r : Ref sig .tc) (h1 : ∀ w : Fin cfg1.W, Pipeline.arrRef spec1 w = r → (cfg1.win w).isOut = false)
    (h2 : ∀ w : Fin cfg2.W, Pipeline.arrRef spec2 w = r → (cfg2.win w).isOut = false) : V4 m ρ c r = V2 m ρ c r :=
  (W4_of m ρ c r h2).trans (W3_of m ρ c r h1)

/-! ## After the second norm's backward call -/

theorem operand2_eq (c : Dev nD) : operand2 (V4 m ρ) c = (data m c).in2 := by
  rw [operand2, ff2_4, kept4 m ρ c main_v6_0 (by decide) (by decide), out1_2, kept4 m ρ c main_v3 (by decide) (by decide),
    show V2 m ρ c main_v3 = V1 m ρ c main_v3 from W2_of m ρ c _ (by decide), entry3]
  rfl

theorem cotangent2_eq (c : Dev nD) : cotangent2 (V4 m ρ) c = (data m c).C := by
  rw [cotangent2, show V4 m ρ c main_arg10 = m ((c : Thread nD τ).loc main_arg10) from W4_args m ρ c _ (by decide)]

theorem grads2_eq (c : Dev nD) : grads2 (V4 m ρ) c = (data m c).grad2 := by
  rw [grads2, operand2_eq, cotangent2_eq, kept4 m ρ c main_v4 (by decide) (by decide),
    show V2 m ρ c main_v4 = V1 m ρ c main_v4 from W2_of m ρ c _ (by decide), entry4]
  rfl

theorem residual_5 (c : Dev nD) : V5 m ρ c main_v9_0 = arr (fun p d => alpha * (data m c).grad2 p d) := by
  refine (W5_arr m ρ c 6).trans ((residual_array (V4 m ρ) c).trans ?_)
  rw [grads2_eq]

theorem grads_5 (c : Dev nD) : V5 m ρ c main_v9_1 = arr (data m c).grad2 :=
  (W5_arr m ρ c 7).trans ((grads_array (V4 m ρ) c).trans (congrArg arr (grads2_eq m ρ c)))

/-! ## After the layers' backward calls -/

theorem hidden_eq (c : Dev nD) : hidden (V5 m ρ) c = (data m c).hgrad := by
  rw [hidden, grads_5, show V5 m ρ c main_arg4 = m ((c : Thread nD τ).loc main_arg4) from W5_args m ρ c _ (by decide),
    show V5 m ρ c main_v7_1 = V4 m ρ c main_v7_1 from W5_of m ρ c _ (by decide),
    show V4 m ρ c main_v7_1 = V3 m ρ c main_v7_1 from W4_of m ρ c _ (by decide), hpre_3]
  rfl

theorem hgrad_6 (c : Dev nD) : V6 m ρ c main_v10_0 = arr (data m c).hgrad :=
  (W6_arr m ρ c 3).trans ((hidden_grad_array (V5 m ρ) c).trans (congrArg arr (hidden_eq m ρ c)))

theorem layers_7 (c : Dev nD) : V7 m ρ c main_v11 = arr (nt (data m c).hgrad (data m c).w1) := by
  refine (W7_arr m ρ c 2).trans ((layers_array (V6 m ρ) c).trans ?_)
  rw [hgrad_6, show V6 m ρ c main_arg2 = m ((c : Thread nD τ).loc main_arg2) from W6_args m ρ c _ (by decide)]
  rfl

theorem kept7 (c : Dev nD) (r : Ref sig .tc) (h4 : ∀ w : Fin cfg4.W, Pipeline.arrRef spec4 w = r → (cfg4.win w).isOut = false)
    (h5 : ∀ w : Fin cfg5.W, Pipeline.arrRef spec5 w = r → (cfg5.win w).isOut = false) : V7 m ρ c r = V5 m ρ c r :=
  (W7_of m ρ c r h5).trans (W6_of m ρ c r h4)

/-! ## The first norm's backward call -/

theorem operand1_eq (c : Dev nD) : operand1 (V7 m ρ) c = (data m c).in1 := by
  rw [operand1, show V7 m ρ c main_arg8 = m ((c : Thread nD τ).loc main_arg8) from W7_args m ρ c _ (by decide),
    show V7 m ρ c main_arg9 = m ((c : Thread nD τ).loc main_arg9) from W7_args m ρ c _ (by decide)]
  rfl

theorem cotangent1_eq (c : Dev nD) : cotangent1 (V7 m ρ) c = (data m c).cot1 := by
  unfold cotangent1
  rw [layers_7, kept7 m ρ c main_v9_0 (by decide) (by decide), residual_5]
  rfl

theorem grads1_eq (c : Dev nD) : grads1 (V7 m ρ) c = (data m c).grad1 := by
  rw [grads1, operand1_eq, cotangent1_eq, kept7 m ρ c main_v0 (by decide) (by decide),
    show V5 m ρ c main_v0 = V4 m ρ c main_v0 from W5_of m ρ c _ (by decide), kept4 m ρ c main_v0 (by decide) (by decide),
    show V2 m ρ c main_v0 = V1 m ρ c main_v0 from W2_of m ρ c _ (by decide), entry0]
  rfl

/-! ## The eight results -/

theorem residual_final (c : Dev nD) : W8 m ρ c (Proc.devRef .tc main_v12_0) = arr (fun p d => alpha * (data m c).grad1 p d) := by
  refine (W8_arr m ρ c 6).trans ((residual1_array (V7 m ρ) c).trans ?_)
  rw [grads1_eq]

theorem grads_final (c : Dev nD) : W8 m ρ c (Proc.devRef .tc main_v12_1) = arr (data m c).grad1 :=
  (W8_arr m ρ c 7).trans ((grads1_array (V7 m ρ) c).trans (congrArg arr (grads1_eq m ρ c)))

theorem scale1_final (c : Dev nD) : W8 m ρ c (Proc.devRef .tc main_v12_2) = rowArr (scaleGrad (data m c).in1 (data m c).cot1) := by
  refine (W8_arr m ρ c 8).trans ((scale1_array (V7 m ρ) c).trans ?_)
  rw [operand1_eq, cotangent1_eq]

theorem shift1_final (c : Dev nD) : W8 m ρ c (Proc.devRef .tc main_v12_3) = rowArr (colSum (data m c).cot1) := by
  refine (W8_arr m ρ c 9).trans ((shift1_array (V7 m ρ) c).trans ?_)
  rw [cotangent1_eq]

theorem bias1_final (c : Dev nD) : W8 m ρ c (Proc.devRef .tc main_v10_1) = rowArr (colSum (data m c).hgrad) := by
  refine (W8_of m ρ c _ (by decide)).trans ((W7_of m ρ c _ (by decide)).trans ((W6_arr m ρ c 4).trans ((bias_array (V5 m ρ) c).trans ?_)))
  rw [hidden_eq]

theorem kept8 (c : Dev nD) (r : Ref sig .tc) (h4 : ∀ w : Fin cfg4.W, Pipeline.arrRef spec4 w = r → (cfg4.win w).isOut = false)
    (h5 : ∀ w : Fin cfg5.W, Pipeline.arrRef spec5 w = r → (cfg5.win w).isOut = false)
    (h6 : ∀ w : Fin cfg6.W, Pipeline.arrRef spec6 w = r → (cfg6.win w).isOut = false) : W8 m ρ c (Proc.devRef .tc r) = W5 m ρ c (Proc.devRef .tc r) :=
  (W8_of m ρ c r h6).trans (kept7 m ρ c r h4 h5)

theorem bias2_final (c : Dev nD) : W8 m ρ c (Proc.devRef .tc main_v9_2) = rowArr (colSum (data m c).grad2) := by
  refine (kept8 m ρ c _ (by decide) (by decide) (by decide)).trans ((W5_arr m ρ c 8).trans ((offset_array (V4 m ρ) c).trans ?_))
  rw [grads2_eq]

theorem scale2_final (c : Dev nD) : W8 m ρ c (Proc.devRef .tc main_v9_3) = rowArr (scaleGrad (data m c).in2 (data m c).C) := by
  refine (kept8 m ρ c _ (by decide) (by decide) (by decide)).trans ((W5_arr m ρ c 9).trans ((scale_array (V4 m ρ) c).trans ?_))
  rw [operand2_eq, cotangent2_eq]

theorem shift2_final (c : Dev nD) : W8 m ρ c (Proc.devRef .tc main_v9_4) = rowArr (colSum (data m c).C) := by
  refine (kept8 m ρ c _ (by decide) (by decide) (by decide)).trans ((W5_arr m ρ c 10).trans ((shift_array (V4 m ρ) c).trans ?_))
  rw [cotangent2_eq]

end Cert.Ffn
-- ==== Proof.FfnRun.lean ====
/- The run of the feed-forward block's programs: what every buffer holds when it ends. -/
module

public import proofs.«01_k».proof.Proof.Gen.Kernel2Ideal.Frame

@[expose] public section

noncomputable section

namespace Cert.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each buffer of the device at the contents that the calls leave, one after the other. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.FfnRun
-- ==== Proof.FfnClaims.lean ====
/- The feed-forward block, forward and backward: kernel and reference compute the same gradients. -/
module

public import proofs.«01_k».proof.Defs
public import proofs.«01_k».proof.Proof.Gen.Kernel2.Frame
public import proofs.«01_k».proof.Proof.FfnRef
public import proofs.«01_k».proof.Proof.FfnWhole
public import proofs.«01_k».proof.Proof.FfnRun
public import Idealize.ShloMosaic.Lib.Quiescent

@[expose] public section

set_option maxRecDepth 16384

noncomputable section

namespace Cert.Ffn

open Cert.Products Idealize.ShloMosaic Idealize.ShloMosaic.TcCoe Idealize.SL.Sem Idealize.ShloMosaic.StableHlo

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2.2.2.2.2.2.2.2, Idealize.ShloMosaic.sem_eq_zero_of_no_sems (by decide) r.2⟩)
    (Cert.Reference2Ideal.Value.run (F := Ideal) m ρ)

/-- Kernel and reference compute the same eight arrays of gradients. -/
theorem algebraic : Cert.algebraic_Kernel2Ideal_Reference2Ideal := by
  intro m ρ m' ρ' _ hag
  have hmem := @Cert.Kernel2Ideal.Gen.mem_uc
  refine ⟨fun c => _, fun c => _, fun c => _, fun c => _, fun c => _, fun c => _, fun c => _, fun c => _,
    (θ_run Cert.Kernel2Ideal.defs _ _).mono (fun r h c => ⟨(h c _ (hmem _ (by decide))).trans (residual_final m ρ c),
      (h c _ (hmem _ (by decide))).trans (grads_final m ρ c),
      (h c _ (hmem _ (by decide))).trans (scale1_final m ρ c),
      (h c _ (hmem _ (by decide))).trans (shift1_final m ρ c),
      (h c _ (hmem _ (by decide))).trans (bias1_final m ρ c),
      (h c _ (hmem _ (by decide))).trans (bias2_final m ρ c),
      (h c _ (hmem _ (by decide))).trans (scale2_final m ρ c),
      (h c _ (hmem _ (by decide))).trans (shift2_final m ρ c),
      (h c _ (hmem _ (by decide))).trans (Cert.Kernel2Ideal.Gen.W8_main_arg0 m ρ c),
      (h c _ (hmem _ (by decide))).trans (Cert.Kernel2Ideal.Gen.W8_main_arg1 m ρ c),
      (h c _ (hmem _ (by decide))).trans (Cert.Kernel2Ideal.Gen.W8_main_arg2 m ρ c),
      (h c _ (hmem _ (by decide))).trans (Cert.Kernel2Ideal.Gen.W8_main_arg3 m ρ c),
      (h c _ (hmem _ (by decide))).trans (Cert.Kernel2Ideal.Gen.W8_main_arg4 m ρ c),
      (h c _ (hmem _ (by decide))).trans (Cert.Kernel2Ideal.Gen.W8_main_arg5 m ρ c),
      (h c _ (hmem _ (by decide))).trans (Cert.Kernel2Ideal.Gen.W8_main_arg6 m ρ c),
      (h c _ (hmem _ (by decide))).trans (Cert.Kernel2Ideal.Gen.W8_main_arg7 m ρ c),
      (h c _ (hmem _ (by decide))).trans (Cert.Kernel2Ideal.Gen.W8_main_arg8 m ρ c),
      (h c _ (hmem _ (by decide))).trans (Cert.Kernel2Ideal.Gen.W8_main_arg9 m ρ c),
      (h c _ (hmem _ (by decide))).trans (Cert.Kernel2Ideal.Gen.W8_main_arg10 m ρ c)⟩) (Cert.FfnRun.run m ρ),
    (θ_run Cert.Reference2Ideal.defs _ _).mono (fun r h c => ?_) (run_ref m' ρ')⟩
  have hd : refData (launchContents m' c) = data m c := by
    obtain ⟨h0, h1, h2, h3, h4, h5, h6, h7, h8, h9, h10⟩ := hag c
    show Data.of (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10)) = _
    rw [h0, h1, h2, h3, h4, h5, h6, h7, h8, h9, h10]
  obtain ⟨r0, r1, r2, r3, r4, r5, r6, r7, hargs⟩ := h c
  rw [hd] at r0 r1 r2 r3 r4 r5 r6 r7
  exact ⟨r0, r1, r2, r3, r4, r5, r6, r7, hargs⟩

end Cert.Ffn
-- ==== Proof.DwFf2.lean ====
/- The gradient of the second feed-forward weight: the kernel's array and the reference's are the same product. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Products
public import Idealize.ShloMosaic.Lib.Quiescent

@[expose] public section

set_option maxRecDepth 16384

noncomputable section

namespace Cert.DwFf2

open Cert.Products Idealize.ShloMosaic Idealize.ShloMosaic.TcCoe Idealize.SL.Sem Idealize.ShloMosaic.StableHlo

section Kernel
open Cert.Kernel3Ideal Cert.Kernel3Ideal.Gen

variable (m : (ℓ : Loc nD τ sig) → Buf (Elt Ideal) ℓ)

/-- Which block of each array grid point `t` holds. -/
theorem idx : ∀ t : Fin cfg0.N, (cfg0.win 0).index t = ![t.val % 8, t.val / 8 % 4] ∧ (cfg0.win 1).index t = ![t.val % 8, t.val / 32]
    ∧ (cfg0.win 2).index t = ![t.val / 8 % 4, t.val / 32] := by decide +kernel

theorem pts (t : Fin cfg0.N) : t.val < 32 := lt_of_lt_of_eq t.isLt N_0

/-- What a grid point adds: the product of its two blocks. -/
def share (c : Dev nD) (t : Fin cfg0.N) (j : S1024x1024.Idx) : EReal :=
  tn (mat (iblk m c 0 t : Vec Ideal S2048x1024 .bf16)) (mat (iblk m c 1 t : Vec Ideal S2048x1024 .bf16)) (j 0) (j 1)

theorem first (c : Dev nD) (t : Fin cfg0.N) (h : t.val % 8 = 0) (j : S1024x1024.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S1024x1024.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference3Ideal Cert.Reference3Ideal.Gen

variable (m : (ℓ : Loc nD τ sig) → Buf (Elt Ideal) ℓ)

theorem ref_array (a : Vec Ideal S16384x4096 .bf16) (b : Vec Ideal S16384x1024 .bf16) :
    (transpose S4096x1024 [1, 0] (Host.dotGeneral (F := Ideal) dot_S16384x1024_S16384x4096_S1024x4096_0_0_1_1_n_n none (extf .f32 b bitsLt_bf16_f32)
      (extf .f32 a bitsLt_bf16_f32)) transposes_S1024x4096_S4096x1024_1_0 : Vec Ideal S4096x1024 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Kernel and reference compute the same gradient. -/
theorem algebraic : Cert.algebraic_Kernel3Ideal_Reference3Ideal := by
  intro m ρ m' ρ' _ hag
  refine ⟨fun c => arr (tn (mat (m ((c.tc : Thread Cert.Kernel3Ideal.nD Cert.Kernel3Ideal.τ).loc Cert.Kernel3Ideal.main_arg0))) (mat (m ((c.tc : Thread Cert.Kernel3Ideal.nD Cert.Kernel3Ideal.τ).loc Cert.Kernel3Ideal.main_arg1)))), ?_, ?_⟩
  · exact (θ_run Cert.Kernel3Ideal.defs _ _).mono (fun _ h c => ⟨(h c).1.trans (array m c), (h c).2⟩) (Cert.Kernel3Ideal.Value.run_blocks (F := Ideal) m ρ)
  · refine (θ_run Cert.Reference3Ideal.defs _ _).mono (fun _ h c => ?_) (Cert.Reference3Ideal.Value.run (F := Ideal) m' ρ')
    obtain ⟨h0, h1⟩ := hag c
    refine ⟨(h c).1.trans ((ref_array _ _).trans ?_), (h c).2⟩
    beta_reduce
    rw [h0, h1]

end Cert.DwFf2
-- ==== Proof.DwFf1.lean ====
/- The gradient of the first feed-forward weight: the kernel's array and the reference's are the same product. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Products
public import Idealize.ShloMosaic.Lib.Quiescent

@[expose] public section

set_option maxRecDepth 16384

noncomputable section

namespace Cert.DwFf1

open Cert.Products Idealize.ShloMosaic Idealize.ShloMosaic.TcCoe Idealize.SL.Sem Idealize.ShloMosaic.StableHlo

section Kernel
open Cert.Kernel4Ideal Cert.Kernel4Ideal.Gen

variable (m : (ℓ : Loc nD τ sig) → Buf (Elt Ideal) ℓ)

/-- Which block of each array grid point `t` holds. -/
theorem idx : ∀ t : Fin cfg0.N, (cfg0.win 0).index t = ![t.val % 8, 0] ∧ (cfg0.win 1).index t = ![t.val % 8, t.val / 8]
    ∧ (cfg0.win 2).index t = ![0, t.val / 8] := by decide +kernel

theorem pts (t : Fin cfg0.N) : t.val < 32 := lt_of_lt_of_eq t.isLt N_0

/-- What a grid point adds: the product of its two blocks. -/
def share (c : Dev nD) (t : Fin cfg0.N) (j : S1024x1024.Idx) : EReal :=
  tn (mat (iblk m c 0 t : Vec Ideal S2048x1024 .bf16)) (mat (iblk m c 1 t : Vec Ideal S2048x1024 .bf16)) (j 0) (j 1)

theorem first (c : Dev nD) (t : Fin cfg0.N) (h : t.val % 8 = 0) (j : S1024x1024.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S1024x1024.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference4Ideal Cert.Reference4Ideal.Gen

variable (m : (ℓ : Loc nD τ sig) → Buf (Elt Ideal) ℓ)

theorem ref_array (a : Vec Ideal S16384x1024 .bf16) (b : Vec Ideal S16384x4096 .bf16) :
    (transpose S1024x4096 [1, 0] (Host.dotGeneral (F := Ideal) dot_S16384x4096_S16384x1024_S4096x1024_0_0_1_1_n_n none (extf .f32 b bitsLt_bf16_f32)
      (extf .f32 a bitsLt_bf16_f32)) transposes_S4096x1024_S1024x4096_1_0 : Vec Ideal S1024x4096 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Kernel and reference compute the same gradient. -/
theorem algebraic : Cert.algebraic_Kernel4Ideal_Reference4Ideal := by
  intro m ρ m' ρ' _ hag
  refine ⟨fun c => arr (tn (mat (m ((c.tc : Thread Cert.Kernel4Ideal.nD Cert.Kernel4Ideal.τ).loc Cert.Kernel4Ideal.main_arg0))) (mat (m ((c.tc : Thread Cert.Kernel4Ideal.nD Cert.Kernel4Ideal.τ).loc Cert.Kernel4Ideal.main_arg1)))), ?_, ?_⟩
  · exact (θ_run Cert.Kernel4Ideal.defs _ _).mono (fun _ h c => ⟨(h c).1.trans (array m c), (h c).2⟩) (Cert.Kernel4Ideal.Value.run_blocks (F := Ideal) m ρ)
  · refine (θ_run Cert.Reference4Ideal.defs _ _).mono (fun _ h c => ?_) (Cert.Reference4Ideal.Value.run (F := Ideal) m' ρ')
    obtain ⟨h0, h1⟩ := hag c
    refine ⟨(h c).1.trans ((ref_array _ _).trans ?_), (h c).2⟩
    beta_reduce
    rw [h0, h1]

end Cert.DwFf1
-- ==== Proof.MergeSpec.lean ====
/- The gated merge of three branches and its gradient, as functions on the extended reals.

   Each branch's rows go through a linear layer of their own. The three results are weighted by a logistic gate, added up, and go through one
   more linear layer. -/
module

public import proofs.«01_k».proof.Proof.FfnSpec

@[expose] public section

noncomputable section

namespace Cert.Merge

open Cert.Products Idealize.ShloMosaic
open Cert.Ffn (Row Rows colSum)

abbrev Gates := Fin 3072 → EReal

/-- The column of the gates that belongs to column `d` of the first branch. -/
abbrev colA (d : Fin 1024) : Fin 3072 := ⟨d.val, by omega⟩

/-- The column of the gates that belongs to column `d` of the second branch. -/
abbrev colB (d : Fin 1024) : Fin 3072 := ⟨1024 + d.val, by omega⟩

/-- The column of the gates that belongs to column `d` of the third branch. -/
abbrev colC (d : Fin 1024) : Fin 3072 := ⟨2048 + d.val, by omega⟩

/-- The gates from their linear form. -/
def gate (g b : Gates) : Gates := fun j => Ideal.logistic (g j + b j)

/-- The three branches' rows, each weighted by its gates, added up. -/
def mixRow (s : Gates) (a b c : Row) : Row := fun d => s (colA d) * a d + s (colB d) * b d + s (colC d) * c d

/-- The gradient of a branch's row, from the gradient of the sum; `col` gives the branch's columns of the gates. -/
def share (col : Fin 1024 → Fin 3072) (s : Gates) (g : Row) : Row := fun d => s (col d) * g d

/-- Three rows next to each other. -/
def beside (x y z : Row) : Gates := fun j =>
  if h : j.val < 1024 then x ⟨j.val, h⟩
  else if h' : j.val - 1024 < 1024 then y ⟨j.val - 1024, h'⟩ else z ⟨j.val - 1024 - 1024, by omega⟩

/-- The gradient of the gates' linear form, from the gradient of the sum. -/
def gateGrad (s : Gates) (a b c g : Row) : Gates := fun j =>
  beside (fun d => g d * a d) (fun d => g d * b d) (fun d => g d * c d) j * (s j * (1 - s j))

/-- What the merge takes: the branches' weights and the last layer's, the gates' offset, the branches' rows, the gates' linear form without
    its offset, the cotangent. -/
structure Data where
  wa : Fin 512 → Fin 1024 → EReal
  wb : Fin 512 → Fin 1024 → EReal
  wc : Fin 512 → Fin 1024 → EReal
  wo : Fin 1024 → Fin 1024 → EReal
  bg : Gates
  ya : Fin 16384 → Fin 512 → EReal
  yb : Fin 16384 → Fin 512 → EReal
  yc : Fin 16384 → Fin 512 → EReal
  G : Fin 16384 → Gates
  C : Rows

namespace Data

/-- The merge's arrays in the order of the arguments. -/
@[reducible] def of (wa wb wc : (⟨2, ![512, 1024]⟩ : Shape).Idx → EReal) (wo : (⟨2, ![1024, 1024]⟩ : Shape).Idx → EReal)
    (bg : (⟨1, ![3072]⟩ : Shape).Idx → EReal) (ya yb yc : (⟨2, ![16384, 512]⟩ : Shape).Idx → EReal)
    (G : (⟨2, ![16384, 3072]⟩ : Shape).Idx → EReal) (C : (⟨2, ![16384, 1024]⟩ : Shape).Idx → EReal) : Data :=
  ⟨mat wa, mat wb, mat wc, mat wo, fun j => bg (ix1 j), mat ya, mat yb, mat yc, mat G, mat C⟩

variable (D : Data)

def s (p : Fin 16384) : Gates := gate (D.G p) D.bg
def mixed : Rows := fun p => mixRow (D.s p) (nn D.ya D.wa p) (nn D.yb D.wb p) (nn D.yc D.wc p)
def merged : Rows := nn D.mixed D.wo
def grad : Rows := nt D.C D.wo
def gateGrads : Fin 16384 → Gates := fun p => gateGrad (D.s p) (nn D.ya D.wa p) (nn D.yb D.wb p) (nn D.yc D.wc p) (D.grad p)

/-- The gradients of the three branches' rows before their linear layers. -/
def gradA : Fin 16384 → Fin 512 → EReal := nt (fun p => share colA (D.s p) (D.grad p)) D.wa
def gradB : Fin 16384 → Fin 512 → EReal := nt (fun p => share colB (D.s p) (D.grad p)) D.wb
def gradC : Fin 16384 → Fin 512 → EReal := nt (fun p => share colC (D.s p) (D.grad p)) D.wc

end Data

end Cert.Merge
-- ==== Proof.MergeRef.lean ====
/- What the reference computes: the derivative of the gated merge over whole arrays, read at an index. -/
module

public import proofs.«01_k».proof.Proof.Gen.Reference5Ideal.Run
public import proofs.«01_k».proof.Proof.MergeSpec
public import Idealize.ShloMosaic.Lib.Pipeline.ValueKit

@[expose] public section

set_option maxRecDepth 16384

noncomputable section

namespace Cert.Merge

open Cert.Reference5Ideal Cert.Reference5Ideal.Gen Cert.Reference5Ideal.Value Cert.Products Idealize.ShloMosaic Idealize.ShloMosaic.StableHlo
open Cert.Ffn (Row Rows rowArr colSum)

section Terms
variable (wa wb wc : Vec Ideal S512x1024 .bf16) (wo : Vec Ideal S1024x1024 .bf16) (bg : Vec Ideal S3072 .f32)
  (ya yb yc : Vec Ideal S16384x512 .bf16) (G : Vec Ideal S16384x3072 .bf16) (C : Vec Ideal S16384x1024 .bf16)

def onesTerm : FVec Ideal S16384x3072 .f32 := broadcastInDim S16384x3072 ![] bcast_S_S16384x3072 (constant (F := Ideal) S_ .f32 0x3F800000#32)

/-- The gates. -/
def gatesTerm : FVec Ideal S16384x3072 .f32 :=
  Host.divf onesTerm (addf onesTerm (Host.exp (Host.negf (addf (extf .f32 G bitsLt_bf16_f32)
    (broadcastInDim S16384x3072 ![0, 1] bcast_S1x3072_S16384x3072_0_1 (broadcastInDim S1x3072 ![1] bcast_S3072_S1x3072_1 bg))))))

/-- A branch's rows, from its input and its weight. -/
def branchTerm (y : Vec Ideal S16384x512 .bf16) (w : Vec Ideal S512x1024 .bf16) : FVec Ideal S16384x1024 .f32 :=
  Host.dotGeneral dot_S16384x512_S512x1024_S16384x1024_1_0_0_1_n_n none (extf .f32 y bitsLt_bf16_f32) (extf .f32 w bitsLt_bf16_f32)

/-- The gradient of the gated sum. -/
def gradTerm : FVec Ideal S16384x1024 .f32 :=
  Host.dotGeneral dot_S16384x1024_S1024x1024_S16384x1024_1_1_0_0_n_n none (extf .f32 C bitsLt_bf16_f32) (extf .f32 wo bitsLt_bf16_f32)

/-- The gated sum. -/
def mixedTerm : FVec Ideal S16384x1024 .f32 :=
  addf (addf (mulf (extractStridedSlice S16384x1024 ![0, 0] (gatesTerm bg G) slices_S16384x3072_S16384x1024_0_0) (branchTerm ya wa))
    (mulf (extractStridedSlice S16384x1024 ![0, 1024] (gatesTerm bg G) slices_S16384x3072_S16384x1024_0_1024) (branchTerm yb wb)))
    (mulf (extractStridedSlice S16384x1024 ![0, 2048] (gatesTerm bg G) slices_S16384x3072_S16384x1024_0_2048) (branchTerm yc wc))

/-- The gradient of the gates' linear form. -/
def gateGradTerm : FVec Ideal S16384x3072 .f32 :=
  mulf (concatenate S16384x3072 1 [⟨S16384x1024, (mulf (gradTerm wo C) (branchTerm ya wa) : Vec Ideal S16384x1024 .f32)⟩,
      ⟨S16384x1024, (mulf (gradTerm wo C) (branchTerm yb wb) : Vec Ideal S16384x1024 .f32)⟩,
      ⟨S16384x1024, (mulf (gradTerm wo C) (branchTerm yc wc) : Vec Ideal S16384x1024 .f32)⟩]
      concatenates_S16384x1024_S16384x1024_S16384x1024_S16384x3072_d1 : Vec Ideal S16384x3072 .f32)
    (mulf (gatesTerm bg G) (subf onesTerm (gatesTerm bg G)))

theorem onesTerm_at (p : Fin 16384) (j : Fin 3072) : onesTerm (ix2 p j) = 1 := by
  pointwise [onesTerm]

theorem gatesTerm_at (p : Fin 16384) (j : Fin 3072) : gatesTerm bg G (ix2 p j) = (Data.of wa wb wc wo bg ya yb yc G C).s p j := by
  pointwise [gatesTerm, onesTerm_at]
  rfl

theorem branchTerm_at (y : Vec Ideal S16384x512 .bf16) (w : Vec Ideal S512x1024 .bf16) (p : Fin 16384) (d : Fin 1024) :
    branchTerm y w (ix2 p d) = nn (mat y) (mat w) p d := by
  pointwise [branchTerm, nn]

theorem gradTerm_at (p : Fin 16384) (d : Fin 1024) : gradTerm wo C (ix2 p d) = (Data.of wa wb wc wo bg ya yb yc G C).grad p d := by
  pointwise [gradTerm, Data.grad, nt]

theorem mixedTerm_at (p : Fin 16384) (d : Fin 1024) : mixedTerm wa wb wc bg ya yb yc G (ix2 p d) = (Data.of wa wb wc wo bg ya yb yc G C).mixed p d := by
  pointwise [mixedTerm, gatesTerm_at wa wb wc wo bg ya yb yc G C, branchTerm_at]
  rfl

theorem gateGradTerm_at (p : Fin 16384) (j : Fin 3072) :
    gateGradTerm wa wb wc wo bg ya yb yc G C (ix2 p j) = (Data.of wa wb wc wo bg ya yb yc G C).gateGrads p j := by
  pointwise [gateGradTerm, gatesTerm_at wa wb wc wo bg ya yb yc G C, branchTerm_at, gradTerm_at wa wb wc wo bg ya yb yc G C, onesTerm_at]
  rfl

/-! ## The six results -/

theorem merged_result : Host.dotGeneral dot_S16384x1024_S1024x1024_S16384x1024_1_0_0_1_n_n none (mixedTerm wa wb wc bg ya yb yc G)
    (extf .f32 wo bitsLt_bf16_f32) = arr ((Data.of wa wb wc wo bg ya yb yc G C).merged) := by
  funext j
  obtain ⟨p, d, rfl⟩ : ∃ p d, j = ix2 p d := ⟨_, _, eq_ix2 j⟩
  pointwise [mixedTerm_at wa wb wc wo bg ya yb yc G C, Data.merged, nn]

/-- The gradient of a branch's input, from the gradient of its rows. -/
theorem branch_grad (col : Fin 1024 → Fin 3072) (X : FVec Ideal S16384x1024 .f32) (w : Vec Ideal S512x1024 .bf16)
    (h : ∀ p d, X (ix2 p d) = (Data.of wa wb wc wo bg ya yb yc G C).s p (col d)) :
    truncf .bf16 (Host.dotGeneral dot_S16384x1024_S512x1024_S16384x512_1_1_0_0_n_n none (mulf X (gradTerm wo C)) (extf .f32 w bitsLt_bf16_f32))
      bitsLt_bf16_f32 = arr (nt (fun p => share col ((Data.of wa wb wc wo bg ya yb yc G C).s p) ((Data.of wa wb wc wo bg ya yb yc G C).grad p)) (mat w)) := by
  funext j
  obtain ⟨p, d, rfl⟩ : ∃ p d, j = ix2 p d := ⟨_, _, eq_ix2 j⟩
  pointwise [h, gradTerm_at wa wb wc wo bg ya yb yc G C, nt, share]

theorem gradA_result : truncf .bf16 (Host.dotGeneral dot_S16384x1024_S512x1024_S16384x512_1_1_0_0_n_n none
    (mulf (extractStridedSlice S16384x1024 ![0, 0] (gatesTerm bg G) slices_S16384x3072_S16384x1024_0_0) (gradTerm wo C))
    (extf .f32 wa bitsLt_bf16_f32)) bitsLt_bf16_f32 = arr ((Data.of wa wb wc wo bg ya yb yc G C).gradA) :=
  branch_grad wa wb wc wo bg ya yb yc G C colA _ wa fun p d => by pointwise [gatesTerm_at wa wb wc wo bg ya yb yc G C]

theorem gradB_result : truncf .bf16 (Host.dotGeneral dot_S16384x1024_S512x1024_S16384x512_1_1_0_0_n_n none
    (mulf (extractStridedSlice S16384x1024 ![0, 1024] (gatesTerm bg G) slices_S16384x3072_S16384x1024_0_1024) (gradTerm wo C))
    (extf .f32 wb bitsLt_bf16_f32)) bitsLt_bf16_f32 = arr ((Data.of wa wb wc wo bg ya yb yc G C).gradB) :=
  branch_grad wa wb wc wo bg ya yb yc G C colB _ wb fun p d => by pointwise [gatesTerm_at wa wb wc wo bg ya yb yc G C]

theorem gradC_result : truncf .bf16 (Host.dotGeneral dot_S16384x1024_S512x1024_S16384x512_1_1_0_0_n_n none
    (mulf (extractStridedSlice S16384x1024 ![0, 2048] (gatesTerm bg G) slices_S16384x3072_S16384x1024_0_2048) (gradTerm wo C))
    (extf .f32 wc bitsLt_bf16_f32)) bitsLt_bf16_f32 = arr ((Data.of wa wb wc wo bg ya yb yc G C).gradC) :=
  branch_grad wa wb wc wo bg ya yb yc G C colC _ wc fun p d => by pointwise [gatesTerm_at wa wb wc wo bg ya yb yc G C]

theorem gateGrad_result : (truncf .bf16 (gateGradTerm wa wb wc wo bg ya yb yc G C) bitsLt_bf16_f32 : FVec Ideal S16384x3072 .bf16)
    = arr ((Data.of wa wb wc wo bg ya yb yc G C).gateGrads) := by
  funext j
  obtain ⟨p, d, rfl⟩ : ∃ p d, j = ix2 p d := ⟨_, _, eq_ix2 j⟩
  pointwise [gateGradTerm_at]
  rfl

theorem offset_result : (shapeCast S1x3072 (Host.reduceAdd (shapeCast S1x3072 (Host.reduceAdd (gateGradTerm wa wb wc wo bg ya yb yc G C)
      (constant (F := Ideal) S_ .f32 0x00000000#32) reducesTo_S16384x3072_S3072_d0 h_S_ : FVec Ideal S3072 .f32) shapeCasts_S3072_S1x3072)
      (constant (F := Ideal) S_ .f32 0x00000000#32) reducesTo_S1x3072_S3072_d0 h_S_ : FVec Ideal S3072 .f32) shapeCasts_S3072_S1x3072
      : FVec Ideal S1x3072 .f32) = rowArr (colSum ((Data.of wa wb wc wo bg ya yb yc G C).gateGrads)) := by
  funext j
  obtain ⟨u, d, rfl⟩ : ∃ u d, j = ix2 u d := ⟨_, _, eq_ix2 j⟩
  pointwise [gateGradTerm_at, colSum, Finset.univ_unique, Finset.sum_singleton]

end Terms

/-! ## The run -/

variable (m : (ℓ : Loc nD τ sig) → Buf (Elt Ideal) ℓ) (ρ : Dev nD → PrngReg)

/-- The reference's arguments. -/
@[reducible] def refData (c : Dev nD) : Data := Data.of (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9))

/-- The reference's run, its results the merge and its gradients. -/
theorem run_ref : θ_run defs (onTc (τ := τ) (main (F := Ideal))) ⟨m, fun _ => 0, ρ⟩ fun r => ∀ c : Dev nD,
      r.2.mem ((c.tc : Thread nD τ).loc main_v31) = arr (refData m c).merged
      ∧ r.2.mem ((c.tc : Thread nD τ).loc main_v48) = arr (refData m c).gradA
      ∧ r.2.mem ((c.tc : Thread nD τ).loc main_v49) = arr (refData m c).gradB
      ∧ r.2.mem ((c.tc : Thread nD τ).loc main_v50) = arr (refData m c).gradC
      ∧ r.2.mem ((c.tc : Thread nD τ).loc main_v51) = arr (refData m c).gateGrads
      ∧ r.2.mem ((c.tc : Thread nD τ).loc main_v52) = rowArr (colSum (refData m c).gateGrads)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (run m ρ)
  obtain ⟨h0, h1, h2, h3, h4, h5, hargs⟩ := h c
  exact ⟨h0.trans (merged_result _ _ _ _ _ _ _ _ _ _), h1.trans (gradA_result _ _ _ _ _ _ _ _ _ _),
    h2.trans (gradB_result _ _ _ _ _ _ _ _ _ _), h3.trans (gradC_result _ _ _ _ _ _ _ _ _ _),
    h4.trans (gateGrad_result _ _ _ _ _ _ _ _ _ _), h5.trans (offset_result _ _ _ _ _ _ _ _ _ _), hargs⟩

end Cert.Merge
-- ==== Proof.MergeTile.lean ====
/- What the pieces of a tile of 512 rows hold, at an index, in each of the merge's calls. -/
module

public import proofs.«01_k».proof.Proof.MergeSpec
public import proofs.«01_k».proof.Proof.Gen.Kernel5Ideal.Frame
public import Idealize.ShloMosaic.Lib.Pipeline.ValueKit

@[expose] public section

set_option maxRecDepth 65536

noncomputable section

namespace Cert.Merge

open Cert.Kernel5Ideal Cert.Kernel5Ideal.Gen Cert.Products Idealize.ShloMosaic Idealize.ShloMosaic.TcCoe
open Cert.Ffn (Row Rows vec)

abbrev Tile := Vec Ideal S512x1024 .bf16
abbrev Narrow := Vec Ideal S512x512 .bf16
abbrev Weight := Vec Ideal S512x1024 .bf16

/-! ## The products -/

theorem branchA_at (x0 : Narrow) (x1 : Weight) (p : Fin 512) (q : Fin 1024) :
    (out0_2 x0 x1 : Vec Ideal S512x1024 .bf16) (ix2 p q) = nn (mat x0) (mat x1) p q := by
  unfold out0_2
  frame_out
  pointwise [k0_pay1, nn]

theorem branchB_at (x0 : Narrow) (x1 : Weight) (p : Fin 512) (q : Fin 1024) :
    (out1_2 x0 x1 : Vec Ideal S512x1024 .bf16) (ix2 p q) = nn (mat x0) (mat x1) p q := by
  unfold out1_2
  frame_out
  pointwise [k1_pay1, nn]

theorem branchC_at (x0 : Narrow) (x1 : Weight) (p : Fin 512) (q : Fin 1024) :
    (out2_2 x0 x1 : Vec Ideal S512x1024 .bf16) (ix2 p q) = nn (mat x0) (mat x1) p q := by
  unfold out2_2
  frame_out
  pointwise [k2_pay1, nn]

theorem merged_at (x0 : Tile) (x1 : Vec Ideal S1024x1024 .bf16) (p : Fin 512) (q : Fin 1024) :
    (out4_2 x0 x1 : Vec Ideal S512x1024 .f32) (ix2 p q) = nn (mat x0) (mat x1) p q := by
  unfold out4_2
  frame_out
  pointwise [k4_pay1, nn]

theorem grad_at (x0 : Tile) (x1 : Vec Ideal S1024x1024 .bf16) (p : Fin 512) (q : Fin 1024) :
    (out5_2 x0 x1 : Vec Ideal S512x1024 .bf16) (ix2 p q) = nt (mat x0) (mat x1) p q := by
  unfold out5_2
  frame_out
  pointwise [k5_pay1, nt]

theorem gradA_at (x0 : Tile) (x1 : Weight) (p q : Fin 512) :
    (out7_2 x0 x1 : Vec Ideal S512x512 .bf16) (ix2 p q) = nt (mat x0) (mat x1) p q := by
  unfold out7_2
  frame_out
  pointwise [k7_pay1, nt]

theorem gradB_at (x0 : Tile) (x1 : Weight) (p q : Fin 512) :
    (out8_2 x0 x1 : Vec Ideal S512x512 .bf16) (ix2 p q) = nt (mat x0) (mat x1) p q := by
  unfold out8_2
  frame_out
  pointwise [k8_pay1, nt]

theorem gradC_at (x0 : Tile) (x1 : Weight) (p q : Fin 512) :
    (out9_2 x0 x1 : Vec Ideal S512x512 .bf16) (ix2 p q) = nt (mat x0) (mat x1) p q := by
  unfold out9_2
  frame_out
  pointwise [k9_pay1, nt]

/-! ## The gated sum and its gradient -/

section Gated
variable (x0 x1 x2 : Tile) (x3 : Vec Ideal S512x3072 .bf16) (x4 : Vec Ideal S1x3072 .f32) (x5 : Tile)

/-- The gates of row `r` of a tile. -/
abbrev gateRow (r : Fin 512) : Gates := gate (mat x3 r) (vec x4)

theorem mix_at (r : Fin 512) (d : Fin 1024) : (out3_5 x0 x1 x2 x3 x4 : Vec Ideal S512x1024 .bf16) (ix2 r d)
    = mixRow (gateRow x3 x4 r) (mat x0 r) (mat x1 r) (mat x2 r) d := by
  unfold out3_5
  frame_out
  pointwise [k3_pay1, mixRow, gate]

theorem gate_at (r : Fin 512) (j : Fin 3072) : k6_pay7 (F := Ideal) x3 x4 (ix2 r j) = gateRow x3 x4 r j := by
  pointwise [k6_pay7, gate]

theorem shareA_at (r : Fin 512) (d : Fin 1024) : k6_pay11 (F := Ideal) x3 x4 x5 (ix2 r d) = share colA (gateRow x3 x4 r) (mat x5 r) d := by
  pointwise [k6_pay11, k6_pay8, gate_at, share]

theorem shareB_at (r : Fin 512) (d : Fin 1024) : k6_pay10 (F := Ideal) x3 x4 x5 (ix2 r d) = share colB (gateRow x3 x4 r) (mat x5 r) d := by
  pointwise [k6_pay10, k6_pay8, gate_at, share]

theorem shareC_at (r : Fin 512) (d : Fin 1024) : k6_pay9 (F := Ideal) x3 x4 x5 (ix2 r d) = share colC (gateRow x3 x4 r) (mat x5 r) d := by
  pointwise [k6_pay9, k6_pay8, gate_at, share]

/-- The three products stand in columns of their own, so that of the three padded arrays that are added only one is not zero. -/
theorem gateGrad_at (r : Fin 512) (j : Fin 3072) : k6_pay12 (F := Ideal) x0 x1 x2 x3 x4 x5 (ix2 r j)
    = gateGrad (gateRow x3 x4 r) (mat x0 r) (mat x1 r) (mat x2 r) (mat x5 r) j := by
  pointwise [k6_pay12, k6_pay8, gate_at, gateGrad, beside]
  refine congrArg (· * _) ?_
  by_cases h : j.val < 1024
  · rw [dif_pos (by omega), dif_pos (by omega), dif_pos h, dif_pos h, dif_pos h, zero_add, zero_add]
  · by_cases h' : j.val < 2048
    · rw [dif_pos h', dif_pos h', dif_neg h, dif_neg h, dif_neg h, dif_pos (by omega), zero_add, add_zero]
    · rw [dif_neg h', dif_neg h', dif_neg h, dif_neg h, dif_neg (by omega), add_zero, add_zero]
      refine congrArg₂ (· * ·) (congrArg (fun k => x5 (ix2 r k)) (Fin.ext ?_)) (congrArg (fun k => x2 (ix2 r k)) (Fin.ext ?_)) <;>
      · dsimp only
        omega

end Gated

end Cert.Merge
-- ==== Proof.MergeProducts.lean ====
/- The merge's products: what the linear layers and their backward calls leave in their arrays. -/
module

public import proofs.«01_k».proof.Proof.MergeTile

@[expose] public section

set_option maxRecDepth 65536

noncomputable section

namespace Cert.Merge

open Cert.Kernel5Ideal Cert.Kernel5Ideal.Gen Cert.Products Idealize.ShloMosaic Idealize.ShloMosaic.TcCoe
open Cert.Ffn (Row Rows vec rowArr colSum tileRow)

variable (V : (c : Dev nD) → (b : Ref sig .tc) → Buf (Elt Ideal) ((c : Thread nD τ).loc b))

/-! ## The branches' layers -/

theorem idx0 : ∀ t : Fin cfg0.N, (cfg0.win 0).index t = ![t.val, 0] ∧ (cfg0.win 1).index t = ![0, 0]
    ∧ (cfg0.win 2).index t = ![t.val, 0] := by decide +kernel

theorem pts0 (t : Fin cfg0.N) : t.val < 32 := lt_of_lt_of_eq t.isLt N_0

/-- The first branch's rows. -/
theorem branchA_array (c : Dev nD) : (dat0 V c).arrAt 2 cfg0.N
    = arr (nn (mat (V c main_arg5 : Vec Ideal S16384x512 .bf16)) (mat (V c main_arg0 : Vec Ideal S512x1024 .bf16))) := by
  refine (dat0 V c).arrAt_eq_of_covers 2 _ (by decide +kernel) fun t hf y => ?_
  have hN := pts0 t
  blk_simp
  rw [after0_2]
  refine (congrArg _ (eq_ix2 y)).trans ((branchA_at _ _ (y 0) (y 1)).trans (nn_congr (fun k => ?_) fun k => ?_)) <;>
  · dsimp only [mat]
    blk_ext [iblk0, idx0 t]

theorem idx1 : ∀ t : Fin cfg1.N, (cfg1.win 0).index t = ![t.val, 0] ∧ (cfg1.win 1).index t = ![0, 0]
    ∧ (cfg1.win 2).index t = ![t.val, 0] := by decide +kernel

theorem pts1 (t : Fin cfg1.N) : t.val < 32 := lt_of_lt_of_eq t.isLt N_1

/-- The second branch's rows. -/
theorem branchB_array (c : Dev nD) : (dat1 V c).arrAt 2 cfg1.N
    = arr (nn (mat (V c main_arg6 : Vec Ideal S16384x512 .bf16)) (mat (V c main_arg1 : Vec Ideal S512x1024 .bf16))) := by
  refine (dat1 V c).arrAt_eq_of_covers 2 _ (by decide +kernel) fun t hf y => ?_
  have hN := pts1 t
  blk_simp
  rw [after1_2]
  refine (congrArg _ (eq_ix2 y)).trans ((branchB_at _ _ (y 0) (y 1)).trans (nn_congr (fun k => ?_) fun k => ?_)) <;>
  · dsimp only [mat]
    blk_ext [iblk1, idx1 t]

theorem idx2 : ∀ t : Fin cfg2.N, (cfg2.win 0).index t = ![t.val, 0] ∧ (cfg2.win 1).index t = ![0, 0]
    ∧ (cfg2.win 2).index t = ![t.val, 0] := by decide +kernel

theorem pts2 (t : Fin cfg2.N) : t.val < 32 := lt_of_lt_of_eq t.isLt N_2

/-- The third branch's rows. -/
theorem branchC_array (c : Dev nD) : (dat2 V c).arrAt 2 cfg2.N
    = arr (nn (mat (V c main_arg7 : Vec Ideal S16384x512 .bf16)) (mat (V c main_arg2 : Vec Ideal S512x1024 .bf16))) := by
  refine (dat2 V c).arrAt_eq_of_covers 2 _ (by decide +kernel) fun t hf y => ?_
  have hN := pts2 t
  blk_simp
  rw [after2_2]
  refine (congrArg _ (eq_ix2 y)).trans ((branchC_at _ _ (y 0) (y 1)).trans (nn_congr (fun k => ?_) fun k => ?_)) <;>
  · dsimp only [mat]
    blk_ext [iblk2, idx2 t]

/-! ## The last layer -/

theorem idx4 : ∀ t : Fin cfg4.N, (cfg4.win 0).index t = ![t.val, 0] ∧ (cfg4.win 1).index t = ![0, 0]
    ∧ (cfg4.win 2).index t = ![t.val, 0] := by decide +kernel

theorem pts4 (t : Fin cfg4.N) : t.val < 32 := lt_of_lt_of_eq t.isLt N_4

/-- The merge's result. -/
theorem merged_array (c : Dev nD) : (dat4 V c).arrAt 2 cfg4.N
    = arr (nn (mat (V c main_v4 : Vec Ideal S16384x1024 .bf16)) (mat (V c main_arg3 : Vec Ideal S1024x1024 .bf16))) := by
  refine (dat4 V c).arrAt_eq_of_covers 2 _ (by decide +kernel) fun t hf y => ?_
  have hN := pts4 t
  blk_simp
  rw [after4_2]
  refine (congrArg _ (eq_ix2 y)).trans ((merged_at _ _ (y 0) (y 1)).trans (nn_congr (fun k => ?_) fun k => ?_)) <;>
  · dsimp only [mat]
    blk_ext [iblk4, idx4 t]

theorem idx5 : ∀ t : Fin cfg5.N, (cfg5.win 0).index t = ![t.val, 0] ∧ (cfg5.win 1).index t = ![0, 0]
    ∧ (cfg5.win 2).index t = ![t.val, 0] := by decide +kernel

theorem pts5 (t : Fin cfg5.N) : t.val < 32 := lt_of_lt_of_eq t.isLt N_5

/-- The gradient of the gated sum. -/
theorem grad_array (c : Dev nD) : (dat5 V c).arrAt 2 cfg5.N
    = arr (nt (mat (V c main_arg9 : Vec Ideal S16384x1024 .bf16)) (mat (V c main_arg3 : Vec Ideal S1024x1024 .bf16))) := by
  refine (dat5 V c).arrAt_eq_of_covers 2 _ (by decide +kernel) fun t hf y => ?_
  have hN := pts5 t
  blk_simp
  rw [after5_2]
  refine (congrArg _ (eq_ix2 y)).trans ((grad_at _ _ (y 0) (y 1)).trans (nt_congr (fun k => ?_) fun k => ?_)) <;>
  · dsimp only [mat]
    blk_ext [iblk5, idx5 t]

/-! ## The branches' layers, backward -/

theorem idx7 : ∀ t : Fin cfg7.N, (cfg7.win 0).index t = ![t.val, 0] ∧ (cfg7.win 1).index t = ![0, 0]
    ∧ (cfg7.win 2).index t = ![t.val, 0] := by decide +kernel

theorem pts7 (t : Fin cfg7.N) : t.val < 32 := lt_of_lt_of_eq t.isLt N_7

/-- The gradient of the first branch's input. -/
theorem gradA_array (c : Dev nD) : (dat7 V c).arrAt 2 cfg7.N
    = arr (nt (mat (V c main_v7_0 : Vec Ideal S16384x1024 .bf16)) (mat (V c main_arg0 : Vec Ideal S512x1024 .bf16))) := by
  refine (dat7 V c).arrAt_eq_of_covers 2 _ (by decide +kernel) fun t hf y => ?_
  have hN := pts7 t
  blk_simp
  rw [after7_2]
  refine (congrArg _ (eq_ix2 y)).trans ((gradA_at _ _ (y 0) (y 1)).trans (nt_congr (fun k => ?_) fun k => ?_)) <;>
  · dsimp only [mat]
    blk_ext [iblk7, idx7 t]

theorem idx8 : ∀ t : Fin cfg8.N, (cfg8.win 0).index t = ![t.val, 0] ∧ (cfg8.win 1).index t = ![0, 0]
    ∧ (cfg8.win 2).index t = ![t.val, 0] := by decide +kernel

theorem pts8 (t : Fin cfg8.N) : t.val < 32 := lt_of_lt_of_eq t.isLt N_8

/-- The gradient of the second branch's input. -/
theorem gradB_array (c : Dev nD) : (dat8 V c).arrAt 2 cfg8.N
    = arr (nt (mat (V c main_v7_1 : Vec Ideal S16384x1024 .bf16)) (mat (V c main_arg1 : Vec Ideal S512x1024 .bf16))) := by
  refine (dat8 V c).arrAt_eq_of_covers 2 _ (by decide +kernel) fun t hf y => ?_
  have hN := pts8 t
  blk_simp
  rw [after8_2]
  refine (congrArg _ (eq_ix2 y)).trans ((gradB_at _ _ (y 0) (y 1)).trans (nt_congr (fun k => ?_) fun k => ?_)) <;>
  · dsimp only [mat]
    blk_ext [iblk8, idx8 t]

theorem idx9 : ∀ t : Fin cfg9.N, (cfg9.win 0).index t = ![t.val, 0] ∧ (cfg9.win 1).index t = ![0, 0]
    ∧ (cfg9.win 2).index t = ![t.val, 0] := by decide +kernel

theorem pts9 (t : Fin cfg9.N) : t.val < 32 := lt_of_lt_of_eq t.isLt N_9

/-- The gradient of the third branch's input. -/
theorem gradC_array (c : Dev nD) : (dat9 V c).arrAt 2 cfg9.N
    = arr (nt (mat (V c main_v7_2 : Vec Ideal S16384x1024 .bf16)) (mat (V c main_arg2 : Vec Ideal S512x1024 .bf16))) := by
  refine (dat9 V c).arrAt_eq_of_covers 2 _ (by decide +kernel) fun t hf y => ?_
  have hN := pts9 t
  blk_simp
  rw [after9_2]
  refine (congrArg _ (eq_ix2 y)).trans ((gradC_at _ _ (y 0) (y 1)).trans (nt_congr (fun k => ?_) fun k => ?_)) <;>
  · dsimp only [mat]
    blk_ext [iblk9, idx9 t]

end Cert.Merge
-- ==== Proof.MergeGated.lean ====
/- The gated sum and its gradient: what the two calls that weigh the branches leave in their arrays. -/
module

public import proofs.«01_k».proof.Proof.MergeTile

@[expose] public section

set_option maxRecDepth 65536

noncomputable section

namespace Cert.Merge

open Cert.Kernel5Ideal Cert.Kernel5Ideal.Gen Cert.Products Idealize.ShloMosaic Idealize.ShloMosaic.TcCoe
open Cert.Ffn (Row Rows vec rowArr colSum tileRow)

variable (V : (c : Dev nD) → (b : Ref sig .tc) → Buf (Elt Ideal) ((c : Thread nD τ).loc b))

abbrev gatesIn (c : Dev nD) (p : Fin 16384) : Gates :=
  gate (mat (V c main_arg8 : Vec Ideal S16384x3072 .bf16) p) (vec (V c main_v0 : Vec Ideal S1x3072 .f32))

/-! ## The gated sum -/

theorem idx3 : ∀ t : Fin cfg3.N, (cfg3.win 0).index t = ![t.val, 0] ∧ (cfg3.win 1).index t = ![t.val, 0] ∧ (cfg3.win 2).index t = ![t.val, 0]
    ∧ (cfg3.win 3).index t = ![t.val, 0] ∧ (cfg3.win 4).index t = ![0, 0] ∧ (cfg3.win 5).index t = ![t.val, 0] := by decide +kernel

theorem pts3 (t : Fin cfg3.N) : t.val < 32 := lt_of_lt_of_eq t.isLt N_3

abbrev at3 (t : Fin cfg3.N) : Fin 32 := ⟨t.val, pts3 t⟩

/-- The gated sum, from the arrays on entry. -/
abbrev mixIn (c : Dev nD) : Rows := fun p => mixRow (gatesIn V c p) (mat (V c main_v1 : Vec Ideal S16384x1024 .bf16) p)
  (mat (V c main_v2 : Vec Ideal S16384x1024 .bf16) p) (mat (V c main_v3 : Vec Ideal S16384x1024 .bf16) p)

theorem mixRow_congr {s s' : Gates} {a a' b b' c c' : Row} (hs : ∀ j, s j = s' j) (ha : ∀ k, a k = a' k) (hb : ∀ k, b k = b' k)
    (hc : ∀ k, c k = c' k) (d : Fin 1024) : mixRow s a b c d = mixRow s' a' b' c' d := by
  rw [funext hs, funext ha, funext hb, funext hc]

theorem mix_array (c : Dev nD) : (dat3 V c).arrAt 5 cfg3.N = arr (mixIn V c) := by
  refine (dat3 V c).arrAt_eq_of_covers 5 _ (by decide +kernel) fun t hf y => ?_
  have hN := pts3 t
  blk_simp
  rw [after3_5]
  refine (congrArg _ (eq_ix2 y)).trans ((mix_at _ _ _ _ _ (y 0) (y 1)).trans (Eq.trans (b := mixIn V c (tileRow (at3 t) (y 0)) (y 1))
    (mixRow_congr (fun k => congrArg Ideal.logistic (congrArg₂ (· + ·) ?_ ?_)) (fun k => ?_) (fun k => ?_) (fun k => ?_) _) ?_))
  · dsimp only [mat]
    blk_ext [iblk3, idx3 t]
  · dsimp only [vec]
    blk_ext [iblk3, idx3 t]
  · dsimp only [mat]
    blk_ext [iblk3, idx3 t]
  · dsimp only [mat]
    blk_ext [iblk3, idx3 t]
  · dsimp only [mat]
    blk_ext [iblk3, idx3 t]
  · show arr (mixIn V c) (ix2 (tileRow (at3 t) (y 0)) (y 1)) = arr (mixIn V c) _
    blk_ext [idx3 t]

/-! ## Its gradient -/

theorem idx6 : ∀ t : Fin cfg6.N, (cfg6.win 0).index t = ![t.val, 0] ∧ (cfg6.win 1).index t = ![t.val, 0] ∧ (cfg6.win 2).index t = ![t.val, 0]
    ∧ (cfg6.win 3).index t = ![t.val, 0] ∧ (cfg6.win 4).index t = ![0, 0] ∧ (cfg6.win 5).index t = ![t.val, 0]
    ∧ (cfg6.win 6).index t = ![t.val, 0] ∧ (cfg6.win 7).index t = ![t.val, 0] ∧ (cfg6.win 8).index t = ![t.val, 0]
    ∧ (cfg6.win 9).index t = ![t.val, 0] ∧ (cfg6.win 10).index t = ![0, 0] := by decide +kernel

theorem pts6 (t : Fin cfg6.N) : t.val < 32 := lt_of_lt_of_eq t.isLt N_6

abbrev at6 (t : Fin cfg6.N) : Fin 32 := ⟨t.val, pts6 t⟩

abbrev last6 : Fin cfg6.N := ⟨31, by decide +kernel⟩

/-- A branch's gradient, from the arrays on entry. -/
abbrev shareIn (col : Fin 1024 → Fin 3072) (c : Dev nD) : Rows := fun p =>
  share col (gatesIn V c p) (mat (V c main_v6 : Vec Ideal S16384x1024 .bf16) p)

/-- The gradient of the gates' linear form, from the arrays on entry. -/
abbrev gateGradIn (c : Dev nD) (p : Fin 16384) : Gates := gateGrad (gatesIn V c p) (mat (V c main_v1 : Vec Ideal S16384x1024 .bf16) p)
  (mat (V c main_v2 : Vec Ideal S16384x1024 .bf16) p) (mat (V c main_v3 : Vec Ideal S16384x1024 .bf16) p)
  (mat (V c main_v6 : Vec Ideal S16384x1024 .bf16) p)

theorem gates_blk (c : Dev nD) (t : Fin cfg6.N) (r : Fin 512) :
    gateRow (iblk6 V c 3 t) (iblk6 V c 4 t) r = gatesIn V c (tileRow (at6 t) r) := by
  have hN := pts6 t
  funext j
  refine congrArg Ideal.logistic (congrArg₂ (· + ·) ?_ ?_)
  · dsimp only [mat]
    blk_ext [iblk6, idx6 t]
  · dsimp only [vec]
    blk_ext [iblk6, idx6 t]

theorem branchA_blk (c : Dev nD) (t : Fin cfg6.N) (r : Fin 512) :
    mat (iblk6 V c 0 t : Tile) r = mat (V c main_v1 : Vec Ideal S16384x1024 .bf16) (tileRow (at6 t) r) := by
  have hN := pts6 t
  funext d
  dsimp only [mat]
  blk_ext [iblk6, idx6 t]

theorem branchB_blk (c : Dev nD) (t : Fin cfg6.N) (r : Fin 512) :
    mat (iblk6 V c 1 t : Tile) r = mat (V c main_v2 : Vec Ideal S16384x1024 .bf16) (tileRow (at6 t) r) := by
  have hN := pts6 t
  funext d
  dsimp only [mat]
  blk_ext [iblk6, idx6 t]

theorem branchC_blk (c : Dev nD) (t : Fin cfg6.N) (r : Fin 512) :
    mat (iblk6 V c 2 t : Tile) r = mat (V c main_v3 : Vec Ideal S16384x1024 .bf16) (tileRow (at6 t) r) := by
  have hN := pts6 t
  funext d
  dsimp only [mat]
  blk_ext [iblk6, idx6 t]

theorem cotangent_blk (c : Dev nD) (t : Fin cfg6.N) (r : Fin 512) :
    mat (iblk6 V c 5 t : Tile) r = mat (V c main_v6 : Vec Ideal S16384x1024 .bf16) (tileRow (at6 t) r) := by
  have hN := pts6 t
  funext d
  dsimp only [mat]
  blk_ext [iblk6, idx6 t]

/-- The gates' gradient on a tile. -/
theorem gateGrad_blk (c : Dev nD) (t : Fin cfg6.N) (r : Fin 512) (j : Fin 3072) :
    k6_pay12 (F := Ideal) (iblk6 V c 0 t) (iblk6 V c 1 t) (iblk6 V c 2 t) (iblk6 V c 3 t) (iblk6 V c 4 t) (iblk6 V c 5 t) (ix2 r j)
      = gateGradIn V c (tileRow (at6 t) r) j := by
  rw [gateGrad_at, gates_blk, branchA_blk, branchB_blk, branchC_blk, cotangent_blk]

theorem shareA_tile (c : Dev nD) (t : Fin cfg6.N) (r : Fin 512) (d : Fin 1024) :
    (outsAt6 V c t.val t.isLt).1 (ix2 r d) = shareIn V colA c (tileRow (at6 t) r) d := by
  by_cases h : t.val % 32 = 0
  · rw [outsAt6_A V c t h]
    frame_out
    pointwise [k6_pay1, shareA_at, gates_blk, cotangent_blk]
  · rw [outsAt6_B V c t h]
    frame_out
    pointwise [k6_pay1, shareA_at, gates_blk, cotangent_blk]

theorem shareA_array (c : Dev nD) : (dat6 V c).arrAt 6 cfg6.N = arr (shareIn V colA c) := by
  refine (dat6 V c).arrAt_eq_of_covers 6 _ (by decide +kernel) fun t hf y => ?_
  have hN := pts6 t
  blk_simp
  rw [after6_6]
  refine (congrArg _ (eq_ix2 y)).trans ((shareA_tile V c t (y 0) (y 1)).trans ?_)
  show arr (shareIn V colA c) (ix2 (tileRow (at6 t) (y 0)) (y 1)) = arr (shareIn V colA c) _
  blk_ext [idx6 t]

theorem shareB_tile (c : Dev nD) (t : Fin cfg6.N) (r : Fin 512) (d : Fin 1024) :
    (outsAt6 V c t.val t.isLt).2.1 (ix2 r d) = shareIn V colB c (tileRow (at6 t) r) d := by
  by_cases h : t.val % 32 = 0
  · rw [outsAt6_A V c t h]
    frame_out
    pointwise [k6_pay2, shareB_at, gates_blk, cotangent_blk]
  · rw [outsAt6_B V c t h]
    frame_out
    pointwise [k6_pay2, shareB_at, gates_blk, cotangent_blk]

theorem shareB_array (c : Dev nD) : (dat6 V c).arrAt 7 cfg6.N = arr (shareIn V colB c) := by
  refine (dat6 V c).arrAt_eq_of_covers 7 _ (by decide +kernel) fun t hf y => ?_
  have hN := pts6 t
  blk_simp
  rw [after6_7]
  refine (congrArg _ (eq_ix2 y)).trans ((shareB_tile V c t (y 0) (y 1)).trans ?_)
  show arr (shareIn V colB c) (ix2 (tileRow (at6 t) (y 0)) (y 1)) = arr (shareIn V colB c) _
  blk_ext [idx6 t]

theorem shareC_tile (c : Dev nD) (t : Fin cfg6.N) (r : Fin 512) (d : Fin 1024) :
    (outsAt6 V c t.val t.isLt).2.2.1 (ix2 r d) = shareIn V colC c (tileRow (at6 t) r) d := by
  by_cases h : t.val % 32 = 0
  · rw [outsAt6_A V c t h]
    frame_out
    pointwise [k6_pay3, shareC_at, gates_blk, cotangent_blk]
  · rw [outsAt6_B V c t h]
    frame_out
    pointwise [k6_pay3, shareC_at, gates_blk, cotangent_blk]

theorem shareC_array (c : Dev nD) : (dat6 V c).arrAt 8 cfg6.N = arr (shareIn V colC c) := by
  refine (dat6 V c).arrAt_eq_of_covers 8 _ (by decide +kernel) fun t hf y => ?_
  have hN := pts6 t
  blk_simp
  rw [after6_8]
  refine (congrArg _ (eq_ix2 y)).trans ((shareC_tile V c t (y 0) (y 1)).trans ?_)
  show arr (shareIn V colC c) (ix2 (tileRow (at6 t) (y 0)) (y 1)) = arr (shareIn V colC c) _
  blk_ext [idx6 t]

theorem gateGrad_tile (c : Dev nD) (t : Fin cfg6.N) (r : Fin 512) (j : Fin 3072) :
    (outsAt6 V c t.val t.isLt).2.2.2.1 (ix2 r j) = gateGradIn V c (tileRow (at6 t) r) j := by
  by_cases h : t.val % 32 = 0
  · rw [outsAt6_A V c t h]
    frame_out
    pointwise [k6_pay4, gateGrad_blk]
  · rw [outsAt6_B V c t h]
    frame_out
    pointwise [k6_pay4, gateGrad_blk]

theorem gateGrad_array (c : Dev nD) : (dat6 V c).arrAt 9 cfg6.N = arr (gateGradIn V c) := by
  refine (dat6 V c).arrAt_eq_of_covers 9 _ (by decide +kernel) fun t hf y => ?_
  have hN := pts6 t
  blk_simp
  rw [after6_9]
  refine (congrArg _ (eq_ix2 y)).trans ((gateGrad_tile V c t (y 0) (y 1)).trans ?_)
  show arr (gateGradIn V c) (ix2 (tileRow (at6 t) (y 0)) (y 1)) = arr (gateGradIn V c) _
  blk_ext [idx6 t]

/-! ### The offset's gradient: one running sum over the tiles -/

theorem offset_first (c : Dev nD) (t : Fin cfg6.N) (h : t.val % 32 = 0) (j : S1x3072.Idx) :
    (outsAt6 V c t.val t.isLt).2.2.2.2 j = 0 + ∑ r : Fin 512, gateGradIn V c (tileRow (at6 t) r) (j 1) := by
  obtain ⟨u, l, rfl⟩ : ∃ u l, j = ix2 u l := ⟨_, _, eq_ix2 j⟩
  rw [outsAt6_A V c t h]
  frame_out
  pointwise [k6_pay6, k6_pay5, gateGrad_blk]

theorem offset_later (c : Dev nD) (t : Fin cfg6.N) (h : ¬t.val % 32 = 0) (j : S1x3072.Idx) :
    (outsAt6 V c t.val t.isLt).2.2.2.2 j = (outsAt6 V c (t.val - 1) (Nat.lt_of_le_of_lt (Nat.sub_le _ _) t.isLt)).2.2.2.2 j
      + ∑ r : Fin 512, gateGradIn V c (tileRow (at6 t) r) (j 1) := by
  obtain ⟨u, l, rfl⟩ : ∃ u l, j = ix2 u l := ⟨_, _, eq_ix2 j⟩
  rw [outsAt6_B V c t h]
  frame_out
  pointwise [k6_pay6, gateGrad_blk]

theorem sum_points6 (f : Fin 16384 → EReal) : ∑ t : Fin cfg6.N, ∑ r : Fin 512, f (tileRow (at6 t) r) = ∑ p, f p :=
  Fin.sum_mul_add_congr (fun _ _ _ => rfl) (by decide +kernel)

theorem offset_array (c : Dev nD) : (dat6 V c).arrAt 10 cfg6.N = rowArr (colSum (gateGradIn V c)) := by
  refine (dat6 V c).arrAt_eq_of_after_last 10 last6 (by decide +kernel) _ fun j => ?_
  blk_simp
  rw [after6_10]
  refine (Pipeline.eq_sum_fin_of_reset_step_apply_last (fun n h => (outsAt6 V c n h).2.2.2.2) 32 (fun _ => 0)
    (fun t j => ∑ r : Fin 512, gateGradIn V c (tileRow (at6 t) r) (j 1)) (offset_first V c) (offset_later V c) (le_of_eq N_6) last6
    (by decide +kernel) j).trans ?_
  rw [zero_add]
  exact sum_points6 fun p => gateGradIn V c p (j 1)

end Cert.Merge
-- ==== Proof.MergeWhole.lean ====
/- The merge's ten calls, one after the other: what the six results hold at the end of the run. -/
module

public import proofs.«01_k».proof.Proof.MergeProducts
public import proofs.«01_k».proof.Proof.MergeGated

@[expose] public section

set_option maxRecDepth 16384

noncomputable section

namespace Cert.Merge

open Cert.Kernel5Ideal Cert.Kernel5Ideal.Gen Cert.Products Idealize.ShloMosaic Idealize.ShloMosaic.TcCoe
open Cert.Ffn (Row Rows vec rowArr colSum)

variable (m : (ℓ : Loc nD τ sig) → Buf (Elt Ideal) ℓ) (ρ : Dev nD → PrngReg)

/-- The merge's arguments. -/
@[reducible] def data (c : Dev nD) : Data := Data.of (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9))

/-! ## The gates' offset, which the host lays out as a row -/

theorem offset_1 (c : Dev nD) : vec (V1 m ρ c main_v0 : Vec Ideal S1x3072 .f32) = (data m c).bg := by
  funext d
  dsimp only [vec, V1, W1]
  entry_read
  pointwise

/-! ## The branches' layers -/

theorem branchA_2 (c : Dev nD) : V2 m ρ c main_v1 = arr (nn (data m c).ya (data m c).wa) := by
  refine (W2_arr m ρ c 2).trans ((branchA_array (V1 m ρ) c).trans ?_)
  rw [show V1 m ρ c main_arg5 = m ((c : Thread nD τ).loc main_arg5) from W1_args m ρ c _ (by decide),
    show V1 m ρ c main_arg0 = m ((c : Thread nD τ).loc main_arg0) from W1_args m ρ c _ (by decide)]

theorem branchB_3 (c : Dev nD) : V3 m ρ c main_v2 = arr (nn (data m c).yb (data m c).wb) := by
  refine (W3_arr m ρ c 2).trans ((branchB_array (V2 m ρ) c).trans ?_)
  rw [show V2 m ρ c main_arg6 = m ((c : Thread nD τ).loc main_arg6) from W2_args m ρ c _ (by decide),
    show V2 m ρ c main_arg1 = m ((c : Thread nD τ).loc main_arg1) from W2_args m ρ c _ (by decide)]

theorem branchC_4 (c : Dev nD) : V4 m ρ c main_v3 = arr (nn (data m c).yc (data m c).wc) := by
  refine (W4_arr m ρ c 2).trans ((branchC_array (V3 m ρ) c).trans ?_)
  rw [show V3 m ρ c main_arg7 = m ((c : Thread nD τ).loc main_arg7) from W3_args m ρ c _ (by decide),
    show V3 m ρ c main_arg2 = m ((c : Thread nD τ).loc main_arg2) from W3_args m ρ c _ (by decide)]

theorem branchB_4 (c : Dev nD) : V4 m ρ c main_v2 = arr (nn (data m c).yb (data m c).wb) :=
  (show V4 m ρ c main_v2 = V3 m ρ c main_v2 from W4_of m ρ c _ (by decide)).trans (branchB_3 m ρ c)

theorem branchA_4 (c : Dev nD) : V4 m ρ c main_v1 = arr (nn (data m c).ya (data m c).wa) :=
  (show V4 m ρ c main_v1 = V3 m ρ c main_v1 from W4_of m ρ c _ (by decide)).trans
    ((show V3 m ρ c main_v1 = V2 m ρ c main_v1 from W3_of m ρ c _ (by decide)).trans (branchA_2 m ρ c))

theorem offset_4 (c : Dev nD) : vec (V4 m ρ c main_v0 : Vec Ideal S1x3072 .f32) = (data m c).bg := by
  rw [show V4 m ρ c main_v0 = V3 m ρ c main_v0 from W4_of m ρ c _ (by decide),
    show V3 m ρ c main_v0 = V2 m ρ c main_v0 from W3_of m ρ c _ (by decide),
    show V2 m ρ c main_v0 = V1 m ρ c main_v0 from W2_of m ρ c _ (by decide), offset_1]

/-! ## The gated sum and the last layer -/

theorem gates_4 (c : Dev nD) (p : Fin 16384) : gatesIn (V4 m ρ) c p = (data m c).s p := by
  rw [gatesIn, offset_4, show V4 m ρ c main_arg8 = m ((c : Thread nD τ).loc main_arg8) from W4_args m ρ c _ (by decide)]
  rfl

theorem mixed_5 (c : Dev nD) : V5 m ρ c main_v4 = arr (data m c).mixed := by
  refine (W5_arr m ρ c 5).trans ((mix_array (V4 m ρ) c).trans (congrArg arr (funext fun p => ?_)))
  unfold mixIn
  rw [gates_4, branchA_4, branchB_4, branchC_4]
  rfl

theorem merged_6 (c : Dev nD) : V6 m ρ c main_v5 = arr (data m c).merged := by
  refine (W6_arr m ρ c 2).trans ((merged_array (V5 m ρ) c).trans ?_)
  rw [mixed_5, show V5 m ρ c main_arg3 = m ((c : Thread nD τ).loc main_arg3) from W5_args m ρ c _ (by decide)]
  rfl

theorem grad_7 (c : Dev nD) : V7 m ρ c main_v6 = arr (data m c).grad := by
  refine (W7_arr m ρ c 2).trans ((grad_array (V6 m ρ) c).trans ?_)
  rw [show V6 m ρ c main_arg9 = m ((c : Thread nD τ).loc main_arg9) from W6_args m ρ c _ (by decide),
    show V6 m ρ c main_arg3 = m ((c : Thread nD τ).loc main_arg3) from W6_args m ρ c _ (by decide)]
  rfl

/-! ## The gated sum's backward call -/

theorem kept7 (c : Dev nD) (r : Ref sig .tc) (h3 : ∀ w : Fin cfg3.W, Pipeline.arrRef spec3 w = r → (cfg3.win w).isOut = false)
    (h4 : ∀ w : Fin cfg4.W, Pipeline.arrRef spec4 w = r → (cfg4.win w).isOut = false)
    (h5 : ∀ w : Fin cfg5.W, Pipeline.arrRef spec5 w = r → (cfg5.win w).isOut = false) : V7 m ρ c r = V4 m ρ c r :=
  (W7_of m ρ c r h5).trans ((W6_of m ρ c r h4).trans (W5_of m ρ c r h3))

theorem gates_7 (c : Dev nD) (p : Fin 16384) : gatesIn (V7 m ρ) c p = (data m c).s p := by
  rw [gatesIn, kept7 m ρ c main_v0 (by decide) (by decide) (by decide), offset_4,
    show V7 m ρ c main_arg8 = m ((c : Thread nD τ).loc main_arg8) from W7_args m ρ c _ (by decide)]
  rfl

theorem share_eq (col : Fin 1024 → Fin 3072) (c : Dev nD) :
    shareIn (V7 m ρ) col c = fun p => share col ((data m c).s p) ((data m c).grad p) := by
  funext p
  unfold shareIn
  rw [gates_7, grad_7]
  rfl

theorem gateGrad_eq (c : Dev nD) : gateGradIn (V7 m ρ) c = (data m c).gateGrads := by
  funext p
  rw [gateGradIn, gates_7, grad_7, kept7 m ρ c main_v1 (by decide) (by decide) (by decide), branchA_4,
    kept7 m ρ c main_v2 (by decide) (by decide) (by decide), branchB_4, kept7 m ρ c main_v3 (by decide) (by decide) (by decide), branchC_4]
  rfl

theorem shareA_8 (c : Dev nD) : V8 m ρ c main_v7_0 = arr (fun p => share colA ((data m c).s p) ((data m c).grad p)) :=
  (W8_arr m ρ c 6).trans ((shareA_array (V7 m ρ) c).trans (congrArg arr (share_eq m ρ colA c)))

theorem shareB_9 (c : Dev nD) : V9 m ρ c main_v7_1 = arr (fun p => share colB ((data m c).s p) ((data m c).grad p)) :=
  (show V9 m ρ c main_v7_1 = V8 m ρ c main_v7_1 from W9_of m ρ c _ (by decide)).trans
    ((W8_arr m ρ c 7).trans ((shareB_array (V7 m ρ) c).trans (congrArg arr (share_eq m ρ colB c))))

theorem shareC_10 (c : Dev nD) : V10 m ρ c main_v7_2 = arr (fun p => share colC ((data m c).s p) ((data m c).grad p)) :=
  (show V10 m ρ c main_v7_2 = V9 m ρ c main_v7_2 from W10_of m ρ c _ (by decide)).trans
    ((show V9 m ρ c main_v7_2 = V8 m ρ c main_v7_2 from W9_of m ρ c _ (by decide)).trans
      ((W8_arr m ρ c 8).trans ((shareC_array (V7 m ρ) c).trans (congrArg arr (share_eq m ρ colC c)))))

/-! ## The six results -/

/-- What the last three calls do not write stays as the gated sum's backward call leaves it. -/
theorem kept11 (c : Dev nD) (r : Ref sig .tc) (h7 : ∀ w : Fin cfg7.W, Pipeline.arrRef spec7 w = r → (cfg7.win w).isOut = false)
    (h8 : ∀ w : Fin cfg8.W, Pipeline.arrRef spec8 w = r → (cfg8.win w).isOut = false)
    (h9 : ∀ w : Fin cfg9.W, Pipeline.arrRef spec9 w = r → (cfg9.win w).isOut = false) :
    W11 m ρ c (Proc.devRef .tc r) = W8 m ρ c (Proc.devRef .tc r) :=
  (W11_of m ρ c r h9).trans ((W10_of m ρ c r h8).trans (W9_of m ρ c r h7))

theorem merged_final (c : Dev nD) : W11 m ρ c (Proc.devRef .tc main_v5) = arr (data m c).merged :=
  (kept11 m ρ c _ (by decide) (by decide) (by decide)).trans
    ((W8_of m ρ c _ (by decide)).trans ((W7_of m ρ c _ (by decide)).trans (merged_6 m ρ c)))

theorem gradA_final (c : Dev nD) : W11 m ρ c (Proc.devRef .tc main_v8) = arr (data m c).gradA := by
  refine (W11_of m ρ c _ (by decide)).trans ((W10_of m ρ c _ (by decide)).trans ((W9_arr m ρ c 2).trans ((gradA_array (V8 m ρ) c).trans ?_)))
  rw [shareA_8, show V8 m ρ c main_arg0 = m ((c : Thread nD τ).loc main_arg0) from W8_args m ρ c _ (by decide)]
  rfl

theorem gradB_final (c : Dev nD) : W11 m ρ c (Proc.devRef .tc main_v9) = arr (data m c).gradB := by
  refine (W11_of m ρ c _ (by decide)).trans ((W10_arr m ρ c 2).trans ((gradB_array (V9 m ρ) c).trans ?_))
  rw [shareB_9, show V9 m ρ c main_arg1 = m ((c : Thread nD τ).loc main_arg1) from W9_args m ρ c _ (by decide)]
  rfl

theorem gradC_final (c : Dev nD) : W11 m ρ c (Proc.devRef .tc main_v10) = arr (data m c).gradC := by
  refine (W11_arr m ρ c 2).trans ((gradC_array (V10 m ρ) c).trans ?_)
  rw [shareC_10, show V10 m ρ c main_arg2 = m ((c : Thread nD τ).loc main_arg2) from W10_args m ρ c _ (by decide)]
  rfl

theorem gateGrad_final (c : Dev nD) : W11 m ρ c (Proc.devRef .tc main_v7_3) = arr (data m c).gateGrads :=
  (kept11 m ρ c _ (by decide) (by decide) (by decide)).trans
    ((W8_arr m ρ c 9).trans ((gateGrad_array (V7 m ρ) c).trans (congrArg arr (gateGrad_eq m ρ c))))

theorem offset_final (c : Dev nD) : W11 m ρ c (Proc.devRef .tc main_v7_4) = rowArr (colSum (data m c).gateGrads) := by
  refine (kept11 m ρ c _ (by decide) (by decide) (by decide)).trans ((W8_arr m ρ c 10).trans ((offset_array (V7 m ρ) c).trans ?_))
  rw [gateGrad_eq]

end Cert.Merge
-- ==== Proof.MergeRun.lean ====
/- The run of the gated merge's programs: what every buffer holds when it ends. -/
module

public import proofs.«01_k».proof.Proof.Gen.Kernel5Ideal.Frame

@[expose] public section

noncomputable section

namespace Cert.MergeRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each buffer of the device at the contents that the calls leave, one after the other. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.MergeRun
-- ==== Proof.MergeClaims.lean ====
/- The gated merge, forward and backward: kernel and reference compute the same result and the same gradients. -/
module

public import proofs.«01_k».proof.Defs
public import proofs.«01_k».proof.Proof.Gen.Kernel5.Frame
public import proofs.«01_k».proof.Proof.MergeRef
public import proofs.«01_k».proof.Proof.MergeWhole
public import proofs.«01_k».proof.Proof.MergeRun
public import Idealize.ShloMosaic.Lib.Quiescent

@[expose] public section

set_option maxRecDepth 16384

noncomputable section

namespace Cert.Merge

open Cert.Products Idealize.ShloMosaic Idealize.ShloMosaic.TcCoe Idealize.SL.Sem Idealize.ShloMosaic.StableHlo

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun r h => ⟨fun c => (h c).2.2.2.2.2.2, Idealize.ShloMosaic.sem_eq_zero_of_no_sems (by decide) r.2⟩)
    (Cert.Reference5Ideal.Value.run (F := Ideal) m ρ)

/-- Kernel and reference compute the same six arrays. -/
theorem algebraic : Cert.algebraic_Kernel5Ideal_Reference5Ideal := by
  intro m ρ m' ρ' _ hag
  have hmem := @Cert.Kernel5Ideal.Gen.mem_uc
  refine ⟨fun c => _, fun c => _, fun c => _, fun c => _, fun c => _, fun c => _,
    (θ_run Cert.Kernel5Ideal.defs _ _).mono (fun r h c => ⟨(h c _ (hmem _ (by decide))).trans (merged_final m ρ c),
      (h c _ (hmem _ (by decide))).trans (gradA_final m ρ c),
      (h c _ (hmem _ (by decide))).trans (gradB_final m ρ c),
      (h c _ (hmem _ (by decide))).trans (gradC_final m ρ c),
      (h c _ (hmem _ (by decide))).trans (gateGrad_final m ρ c),
      (h c _ (hmem _ (by decide))).trans (offset_final m ρ c),
      (h c _ (hmem _ (by decide))).trans (Cert.Kernel5Ideal.Gen.W11_main_arg0 m ρ c),
      (h c _ (hmem _ (by decide))).trans (Cert.Kernel5Ideal.Gen.W11_main_arg1 m ρ c),
      (h c _ (hmem _ (by decide))).trans (Cert.Kernel5Ideal.Gen.W11_main_arg2 m ρ c),
      (h c _ (hmem _ (by decide))).trans (Cert.Kernel5Ideal.Gen.W11_main_arg3 m ρ c),
      (h c _ (hmem _ (by decide))).trans (Cert.Kernel5Ideal.Gen.W11_main_arg4 m ρ c),
      (h c _ (hmem _ (by decide))).trans (Cert.Kernel5Ideal.Gen.W11_main_arg5 m ρ c),
      (h c _ (hmem _ (by decide))).trans (Cert.Kernel5Ideal.Gen.W11_main_arg6 m ρ c),
      (h c _ (hmem _ (by decide))).trans (Cert.Kernel5Ideal.Gen.W11_main_arg7 m ρ c),
      (h c _ (hmem _ (by decide))).trans (Cert.Kernel5Ideal.Gen.W11_main_arg8 m ρ c),
      (h c _ (hmem _ (by decide))).trans (Cert.Kernel5Ideal.Gen.W11_main_arg9 m ρ c)⟩) (Cert.MergeRun.run m ρ),
    (θ_run Cert.Reference5Ideal.defs _ _).mono (fun r h c => ?_) (run_ref m' ρ')⟩
  have hd : refData m' c = data m c := by
    obtain ⟨h0, h1, h2, h3, h4, h5, h6, h7, h8, h9⟩ := hag c
    show Data.of (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
      (m' ((c.tc : Thread Cert.Reference5Ideal.nD Cert.Reference5Ideal.τ).loc Cert.Reference5Ideal.main_arg7))
      (m' ((c.tc : Thread Cert.Reference5Ideal.nD Cert.Reference5Ideal.τ).loc Cert.Reference5Ideal.main_arg8))
      (m' ((c.tc : Thread Cert.Reference5Ideal.nD Cert.Reference5Ideal.τ).loc Cert.Reference5Ideal.main_arg9)) = _
    rw [h0, h1, h2, h3, h4, h5, h6, h7, h8, h9]
  obtain ⟨r0, r1, r2, r3, r4, r5, hargs⟩ := h c
  rw [hd] at r0 r1 r2 r3 r4 r5
  exact ⟨r0, r1, r2, r3, r4, r5, hargs⟩

end Cert.Merge
-- ==== Proof.DwO.lean ====
/- The gradient of a square weight: the output projection, and two of the pieces of the input projection: the kernel's array and the reference's are the same product. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Products
public import Idealize.ShloMosaic.Lib.Quiescent

@[expose] public section

set_option maxRecDepth 16384

noncomputable section

namespace Cert.DwO

open Cert.Products Idealize.ShloMosaic Idealize.ShloMosaic.TcCoe Idealize.SL.Sem Idealize.ShloMosaic.StableHlo

section Kernel
open Cert.Kernel6Ideal Cert.Kernel6Ideal.Gen

variable (m : (ℓ : Loc nD τ sig) → Buf (Elt Ideal) ℓ)

/-- Which block of each array grid point `t` holds. -/
theorem idx : ∀ t : Fin cfg0.N, (cfg0.win 0).index t = ![t.val % 8, 0] ∧ (cfg0.win 1).index t = ![t.val % 8, 0]
    ∧ (cfg0.win 2).index t = ![0, 0] := by decide +kernel

theorem pts (t : Fin cfg0.N) : t.val < 8 := lt_of_lt_of_eq t.isLt N_0

/-- What a grid point adds: the product of its two blocks. -/
def share (c : Dev nD) (t : Fin cfg0.N) (j : S1024x1024.Idx) : EReal :=
  tn (mat (iblk m c 0 t : Vec Ideal S2048x1024 .bf16)) (mat (iblk m c 1 t : Vec Ideal S2048x1024 .bf16)) (j 0) (j 1)

theorem first (c : Dev nD) (t : Fin cfg0.N) (h : t.val % 8 = 0) (j : S1024x1024.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S1024x1024.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference6Ideal Cert.Reference6Ideal.Gen

variable (m : (ℓ : Loc nD τ sig) → Buf (Elt Ideal) ℓ)

theorem ref_array (a : Vec Ideal S16384x1024 .bf16) (b : Vec Ideal S16384x1024 .bf16) :
    (transpose S1024x1024 [1, 0] (Host.dotGeneral (F := Ideal) dot_S16384x1024_S16384x1024_S1024x1024_0_0_1_1_n_n none (extf .f32 b bitsLt_bf16_f32)
      (extf .f32 a bitsLt_bf16_f32)) transposes_S1024x1024_S1024x1024_1_0 : Vec Ideal S1024x1024 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- Kernel and reference compute the same gradient. -/
theorem algebraic : Cert.algebraic_Kernel6Ideal_Reference6Ideal := by
  intro m ρ m' ρ' _ hag
  refine ⟨fun c => arr (tn (mat (m ((c.tc : Thread Cert.Kernel6Ideal.nD Cert.Kernel6Ideal.τ).loc Cert.Kernel6Ideal.main_arg0))) (mat (m ((c.tc : Thread Cert.Kernel6Ideal.nD Cert.Kernel6Ideal.τ).loc Cert.Kernel6Ideal.main_arg1)))), ?_, ?_⟩
  · exact (θ_run Cert.Kernel6Ideal.defs _ _).mono (fun _ h c => ⟨(h c).1.trans (array m c), (h c).2⟩) (Cert.Kernel6Ideal.Value.run_blocks (F := Ideal) m ρ)
  · refine (θ_run Cert.Reference6Ideal.defs _ _).mono (fun _ h c => ?_) (Cert.Reference6Ideal.Value.run (F := Ideal) m' ρ')
    obtain ⟨h0, h1⟩ := hag c
    refine ⟨(h c).1.trans ((ref_array _ _).trans ?_), (h c).2⟩
    beta_reduce
    rw [h0, h1]

end Cert.DwO
-- ==== Proof.DwInG.lean ====
/- The gradient of the gates' piece of the input projection: the kernel's array and the reference's are the same product. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Products
public import Idealize.ShloMosaic.Lib.Quiescent

@[expose] public section

set_option maxRecDepth 16384

noncomputable section

namespace Cert.DwInG

open Cert.Products Idealize.ShloMosaic Idealize.ShloMosaic.TcCoe Idealize.SL.Sem Idealize.ShloMosaic.StableHlo

section Kernel
open Cert.Kernel7Ideal Cert.Kernel7Ideal.Gen

variable (m : (ℓ : Loc nD τ sig) → Buf (Elt Ideal) ℓ)

/-- Which block of each array grid point `t` holds. -/
theorem idx : ∀ t : Fin cfg0.N, (cfg0.win 0).index t = ![t.val % 8, 0] ∧ (cfg0.win 1).index t = ![t.val % 8, t.val / 8]
    ∧ (cfg0.win 2).index t = ![0, t.val / 8] := by decide +kernel

theorem pts (t : Fin cfg0.N) : t.val < 16 := lt_of_lt_of_eq t.isLt N_0

/-- What a grid point adds: the product of its two blocks. -/
def share (c : Dev nD) (t : Fin cfg0.N) (j : S1024x1536.Idx) : EReal :=
  tn (mat (iblk m c 0 t : Vec Ideal S2048x1024 .bf16)) (mat (iblk m c 1 t : Vec Ideal S2048x1536 .bf16)) (j 0) (j 1)

theorem first (c : Dev nD) (t : Fin cfg0.N) (h : t.val % 8 = 0) (j : S1024x1536.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S1024x1536.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference7Ideal Cert.Reference7Ideal.Gen

variable (m : (ℓ : Loc nD τ sig) → Buf (Elt Ideal) ℓ)

theorem ref_array (a : Vec Ideal S16384x1024 .bf16) (b : Vec Ideal S16384x3072 .bf16) :
    (transpose S1024x3072 [1, 0] (Host.dotGeneral (F := Ideal) dot_S16384x3072_S16384x1024_S3072x1024_0_0_1_1_n_n none (extf .f32 b bitsLt_bf16_f32)
      (extf .f32 a bitsLt_bf16_f32)) transposes_S3072x1024_S1024x3072_1_0 : Vec Ideal S1024x3072 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Kernel and reference compute the same gradient. -/
theorem algebraic : Cert.algebraic_Kernel7Ideal_Reference7Ideal := by
  intro m ρ m' ρ' _ hag
  refine ⟨fun c => arr (tn (mat (m ((c.tc : Thread Cert.Kernel7Ideal.nD Cert.Kernel7Ideal.τ).loc Cert.Kernel7Ideal.main_arg0))) (mat (m ((c.tc : Thread Cert.Kernel7Ideal.nD Cert.Kernel7Ideal.τ).loc Cert.Kernel7Ideal.main_arg1)))), ?_, ?_⟩
  · exact (θ_run Cert.Kernel7Ideal.defs _ _).mono (fun _ h c => ⟨(h c).1.trans (array m c), (h c).2⟩) (Cert.Kernel7Ideal.Value.run_blocks (F := Ideal) m ρ)
  · refine (θ_run Cert.Reference7Ideal.defs _ _).mono (fun _ h c => ?_) (Cert.Reference7Ideal.Value.run (F := Ideal) m' ρ')
    obtain ⟨h0, h1⟩ := hag c
    refine ⟨(h c).1.trans ((ref_array _ _).trans ?_), (h c).2⟩
    beta_reduce
    rw [h0, h1]

end Cert.DwInG
-- ==== Proof.DwInB.lean ====
/- The gradient of the delta rule's piece of the input projection: the kernel's array and the reference's are the same product. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Products
public import Idealize.ShloMosaic.Lib.Quiescent

@[expose] public section

set_option maxRecDepth 16384

noncomputable section

namespace Cert.DwInB

open Cert.Products Idealize.ShloMosaic Idealize.ShloMosaic.TcCoe Idealize.SL.Sem Idealize.ShloMosaic.StableHlo

section Kernel
open Cert.Kernel8Ideal Cert.Kernel8Ideal.Gen

variable (m : (ℓ : Loc nD τ sig) → Buf (Elt Ideal) ℓ)

/-- Which block of each array grid point `t` holds. -/
theorem idx : ∀ t : Fin cfg0.N, (cfg0.win 0).index t = ![t.val % 8, 0] ∧ (cfg0.win 1).index t = ![t.val % 8, 0]
    ∧ (cfg0.win 2).index t = ![0, 0] := by decide +kernel

theorem pts (t : Fin cfg0.N) : t.val < 8 := lt_of_lt_of_eq t.isLt N_0

/-- What a grid point adds: the product of its two blocks. -/
def share (c : Dev nD) (t : Fin cfg0.N) (j : S1024x1664.Idx) : EReal :=
  tn (mat (iblk m c 0 t : Vec Ideal S2048x1024 .bf16)) (mat (iblk m c 1 t : Vec Ideal S2048x1664 .bf16)) (j 0) (j 1)

theorem first (c : Dev nD) (t : Fin cfg0.N) (h : t.val % 8 = 0) (j : S1024x1664.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S1024x1664.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference8Ideal Cert.Reference8Ideal.Gen

variable (m : (ℓ : Loc nD τ sig) → Buf (Elt Ideal) ℓ)

theorem ref_array (a : Vec Ideal S16384x1024 .bf16) (b : Vec Ideal S16384x1664 .bf16) :
    (transpose S1024x1664 [1, 0] (Host.dotGeneral (F := Ideal) dot_S16384x1664_S16384x1024_S1664x1024_0_0_1_1_n_n none (extf .f32 b bitsLt_bf16_f32)
      (extf .f32 a bitsLt_bf16_f32)) transposes_S1664x1024_S1024x1664_1_0 : Vec Ideal S1024x1664 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- Kernel and reference compute the same gradient. -/
theorem algebraic : Cert.algebraic_Kernel8Ideal_Reference8Ideal := by
  intro m ρ m' ρ' _ hag
  refine ⟨fun c => arr (tn (mat (m ((c.tc : Thread Cert.Kernel8Ideal.nD Cert.Kernel8Ideal.τ).loc Cert.Kernel8Ideal.main_arg0))) (mat (m ((c.tc : Thread Cert.Kernel8Ideal.nD Cert.Kernel8Ideal.τ).loc Cert.Kernel8Ideal.main_arg1)))), ?_, ?_⟩
  · exact (θ_run Cert.Kernel8Ideal.defs _ _).mono (fun _ h c => ⟨(h c).1.trans (array m c), (h c).2⟩) (Cert.Kernel8Ideal.Value.run_blocks (F := Ideal) m ρ)
  · refine (θ_run Cert.Reference8Ideal.defs _ _).mono (fun _ h c => ?_) (Cert.Reference8Ideal.Value.run (F := Ideal) m' ρ')
    obtain ⟨h0, h1⟩ := hag c
    refine ⟨(h c).1.trans ((ref_array _ _).trans ?_), (h c).2⟩
    beta_reduce
    rw [h0, h1]

end Cert.DwInB
-- ==== Proof.DwInZ.lean ====
/- The gradient of the output gate's piece of the input projection: the kernel's array and the reference's are the same product. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Products
public import Idealize.ShloMosaic.Lib.Quiescent

@[expose] public section

set_option maxRecDepth 16384

noncomputable section

namespace Cert.DwInZ

open Cert.Products Idealize.ShloMosaic Idealize.ShloMosaic.TcCoe Idealize.SL.Sem Idealize.ShloMosaic.StableHlo

section Kernel
open Cert.Kernel9Ideal Cert.Kernel9Ideal.Gen

variable (m : (ℓ : Loc nD τ sig) → Buf (Elt Ideal) ℓ)

/-- Which block of each array grid point `t` holds. -/
theorem idx : ∀ t : Fin cfg0.N, (cfg0.win 0).index t = ![t.val % 8, 0] ∧ (cfg0.win 1).index t = ![t.val % 8, 0]
    ∧ (cfg0.win 2).index t = ![0, 0] := by decide +kernel

theorem pts (t : Fin cfg0.N) : t.val < 8 := lt_of_lt_of_eq t.isLt N_0

/-- What a grid point adds: the product of its two blocks. -/
def share (c : Dev nD) (t : Fin cfg0.N) (j : S1024x512.Idx) : EReal :=
  tn (mat (iblk m c 0 t : Vec Ideal S2048x1024 .bf16)) (mat (iblk m c 1 t : Vec Ideal S2048x512 .bf16)) (j 0) (j 1)

theorem first (c : Dev nD) (t : Fin cfg0.N) (h : t.val % 8 = 0) (j : S1024x512.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S1024x512.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference9Ideal Cert.Reference9Ideal.Gen

variable (m : (ℓ : Loc nD τ sig) → Buf (Elt Ideal) ℓ)

theorem ref_array (a : Vec Ideal S16384x1024 .bf16) (b : Vec Ideal S16384x512 .bf16) :
    (transpose S1024x512 [1, 0] (Host.dotGeneral (F := Ideal) dot_S16384x512_S16384x1024_S512x1024_0_0_1_1_n_n none (extf .f32 b bitsLt_bf16_f32)
      (extf .f32 a bitsLt_bf16_f32)) transposes_S512x1024_S1024x512_1_0 : Vec Ideal S1024x512 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- Kernel and reference compute the same gradient. -/
theorem algebraic : Cert.algebraic_Kernel9Ideal_Reference9Ideal := by
  intro m ρ m' ρ' _ hag
  refine ⟨fun c => arr (tn (mat (m ((c.tc : Thread Cert.Kernel9Ideal.nD Cert.Kernel9Ideal.τ).loc Cert.Kernel9Ideal.main_arg0))) (mat (m ((c.tc : Thread Cert.Kernel9Ideal.nD Cert.Kernel9Ideal.τ).loc Cert.Kernel9Ideal.main_arg1)))), ?_, ?_⟩
  · exact (θ_run Cert.Kernel9Ideal.defs _ _).mono (fun _ h c => ⟨(h c).1.trans (array m c), (h c).2⟩) (Cert.Kernel9Ideal.Value.run_blocks (F := Ideal) m ρ)
  · refine (θ_run Cert.Reference9Ideal.defs _ _).mono (fun _ h c => ?_) (Cert.Reference9Ideal.Value.run (F := Ideal) m' ρ')
    obtain ⟨h0, h1⟩ := hag c
    refine ⟨(h c).1.trans ((ref_array _ _).trans ?_), (h c).2⟩
    beta_reduce
    rw [h0, h1]

end Cert.DwInZ
-- ==== Proof.DwPa.lean ====
/- The gradient of a branch's output projection: the kernel's array and the reference's are the same product. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Products
public import Idealize.ShloMosaic.Lib.Quiescent

@[expose] public section

set_option maxRecDepth 16384

noncomputable section

namespace Cert.DwPa

open Cert.Products Idealize.ShloMosaic Idealize.ShloMosaic.TcCoe Idealize.SL.Sem Idealize.ShloMosaic.StableHlo

section Kernel
open Cert.Kernel10Ideal Cert.Kernel10Ideal.Gen

variable (m : (ℓ : Loc nD τ sig) → Buf (Elt Ideal) ℓ)

/-- Which block of each array grid point `t` holds. -/
theorem idx : ∀ t : Fin cfg0.N, (cfg0.win 0).index t = ![t.val % 8, 0] ∧ (cfg0.win 1).index t = ![t.val % 8, 0]
    ∧ (cfg0.win 2).index t = ![0, 0] := by decide +kernel

theorem pts (t : Fin cfg0.N) : t.val < 8 := lt_of_lt_of_eq t.isLt N_0

/-- What a grid point adds: the product of its two blocks. -/
def share (c : Dev nD) (t : Fin cfg0.N) (j : S512x1024.Idx) : EReal :=
  tn (mat (iblk m c 0 t : Vec Ideal S2048x512 .bf16)) (mat (iblk m c 1 t : Vec Ideal S2048x1024 .bf16)) (j 0) (j 1)

theorem first (c : Dev nD) (t : Fin cfg0.N) (h : t.val % 8 = 0) (j : S512x1024.Idx) :
    outsAt0 m c t.val t.isLt j = 0 + share m c t j := by
  obtain ⟨p, q, rfl⟩ : ∃ p q, j = ix2 p q := ⟨_, _, eq_ix2 j⟩
  have hN := pts t
  rw [outsAt0_A m c t h (by omega), zero_add]
  frame_out
  pointwise [k0_pay1, share, tn]

theorem later (c : Dev nD) (t : Fin cfg0.N) (h : ¬t.val % 8 = 0) (j : S512x1024.Idx) :
    outsAt0 m c t.val t.isLt j = outsAt0 m c (t.val - 1) (Nat.lt_of_le_of_lt (Nat.sub_le _ _) t.isLt) j + share m c t j := by
  obtain ⟨p, q, rfl⟩ : ∃ p q, j = ix2 p q := ⟨_, _, eq_ix2 j⟩
  have hN := pts t
  rw [outsAt0_B m c t h (by omega)]
  frame_out
  pointwise [k0_pay1, k0_pay2, share, tn]

/-- The kernel's array is the product of the two arguments, summed over all rows. -/
theorem array (c : Dev nD) : (dats m 0 c).arrAt 2 cfg0.N
    = arr (tn (mat (m ((c : Thread nD τ).loc main_arg0))) (mat (m ((c : Thread nD τ).loc main_arg1)))) := by
  refine (dats m 0 c).arrAt_eq_of_covers 2 _ (by decide +kernel) fun t hf y => ?_
  have hN := pts t
  blk_simp
  rw [after0_2]
  refine (Pipeline.eq_sum_fin_of_reset_step_apply_of_flush (fun n h => outsAt0 m c n h) 8 (fun _ => 0) (share m c)
    (first m c) (later m c) t ((flush0_2 t).mp hf) y).trans ?_
  rw [zero_add]
  refine tn_blocks _ _ _ _ _ fun s => ?_
  unfold share tn
  refine Finset.sum_congr rfl fun k _ => ?_
  congr 1
  · dsimp only [mat]
    blk_ext [iblk, V, idx t, idx _]
  · dsimp only [mat]
    blk_ext [iblk, V, idx t, idx _]

end Kernel

section Reference
open Cert.Reference10Ideal Cert.Reference10Ideal.Gen

variable (m : (ℓ : Loc nD τ sig) → Buf (Elt Ideal) ℓ)

theorem ref_array (a : Vec Ideal S16384x512 .bf16) (b : Vec Ideal S16384x1024 .bf16) :
    (transpose S512x1024 [1, 0] (Host.dotGeneral (F := Ideal) dot_S16384x1024_S16384x512_S1024x512_0_0_1_1_n_n none (extf .f32 b bitsLt_bf16_f32)
      (extf .f32 a bitsLt_bf16_f32)) transposes_S1024x512_S512x1024_1_0 : Vec Ideal S512x1024 .f32) = arr (tn (mat a) (mat b)) := by
  funext j
  obtain ⟨p, q, rfl⟩ : ∃ p q, j = ix2 p q := ⟨_, _, eq_ix2 j⟩
  pointwise [tn]
  exact Finset.sum_congr rfl fun k _ => mul_comm _ _

end Reference

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- Kernel and reference compute the same gradient. -/
theorem algebraic : Cert.algebraic_Kernel10Ideal_Reference10Ideal := by
  intro m ρ m' ρ' _ hag
  refine ⟨fun c => arr (tn (mat (m ((c.tc : Thread Cert.Kernel10Ideal.nD Cert.Kernel10Ideal.τ).loc Cert.Kernel10Ideal.main_arg0))) (mat (m ((c.tc : Thread Cert.Kernel10Ideal.nD Cert.Kernel10Ideal.τ).loc Cert.Kernel10Ideal.main_arg1)))), ?_, ?_⟩
  · exact (θ_run Cert.Kernel10Ideal.defs _ _).mono (fun _ h c => ⟨(h c).1.trans (array m c), (h c).2⟩) (Cert.Kernel10Ideal.Value.run_blocks (F := Ideal) m ρ)
  · refine (θ_run Cert.Reference10Ideal.defs _ _).mono (fun _ h c => ?_) (Cert.Reference10Ideal.Value.run (F := Ideal) m' ρ')
    obtain ⟨h0, h1⟩ := hag c
    refine ⟨(h c).1.trans ((ref_array _ _).trans ?_), (h c).2⟩
    beta_reduce
    rw [h0, h1]

end Cert.DwPa
-- ==== Proof.Proj.lean ====
/- The input projection, forward and backward: the arrays that the two calls leave. -/
module

public import proofs.«01_k».proof.Proof.Gen.Kernel11Ideal.Frame
public import proofs.«01_k».proof.Proof.Products

@[expose] public section

set_option maxRecDepth 16384

noncomputable section

namespace Cert.Proj

open Cert.Products Idealize.ShloMosaic Idealize.ShloMosaic.TcCoe Idealize.SL.Sem Idealize.ShloMosaic.StableHlo

/-! ## The five pieces of the weight -/

/-- `N` columns from column `o` on. -/
abbrev cols {M L : ℕ} (N o : ℕ) (h : o + N ≤ L) (W : Fin M → Fin L → EReal) : Fin M → Fin N → EReal :=
  fun k j => W k ⟨o + j.val, by omega⟩

/-- The delta rule's columns: queries, keys and values, then the eight columns of rates and decays, then zeros. -/
def deltaCols {M : ℕ} (W : Fin M → Fin 7176 → EReal) : Fin M → Fin 1664 → EReal := fun k j =>
  if h : j.val < 1536 then W k ⟨1024 + j.val, by omega⟩
  else if h' : j.val - 1536 < 8 then W k ⟨3072 + (j.val - 1536), by omega⟩ else 0

open Cert.Kernel11Ideal Cert.Kernel11Ideal.Gen

section Regions

variable (V : (c : Dev nD) → (b : Ref sig .tc) → Buf (Elt Ideal) ((c : Thread nD τ).loc b))

theorem idx0 : ∀ t : Fin cfg0.N, (cfg0.win 0).index t = ![t.val, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0]
    ∧ (cfg0.win 6).index t = ![t.val, 0] ∧ (cfg0.win 7).index t = ![t.val, 0] ∧ (cfg0.win 8).index t = ![t.val, 0]
    ∧ (cfg0.win 9).index t = ![t.val, 0] ∧ (cfg0.win 10).index t = ![t.val, 0] := by decide +kernel

theorem idx1 : ∀ t : Fin cfg1.N, (cfg1.win 0).index t = ![t.val, 0] ∧ (cfg1.win 1).index t = ![0, 0] ∧ (cfg1.win 2).index t = ![t.val, 0]
    ∧ (cfg1.win 3).index t = ![0, 0] ∧ (cfg1.win 4).index t = ![t.val, 0] ∧ (cfg1.win 5).index t = ![0, 0]
    ∧ (cfg1.win 6).index t = ![t.val, 0] ∧ (cfg1.win 7).index t = ![0, 0] ∧ (cfg1.win 8).index t = ![t.val, 0]
    ∧ (cfg1.win 9).index t = ![0, 0] ∧ (cfg1.win 10).index t = ![t.val, 0] := by decide +kernel

theorem pts0 (t : Fin cfg0.N) : t.val < 32 := lt_of_lt_of_eq t.isLt N_0

theorem pts1 (t : Fin cfg1.N) : t.val < 32 := lt_of_lt_of_eq t.isLt N_1

theorem gates_tile (x0 x1 x2 x3 x4 x5) (p : Fin 512) (q : Fin 3072) :
    (out0_6 x0 x1 x2 x3 x4 x5 : Vec Ideal S512x3072 .bf16) (ix2 p q) = nn (mat x0) (mat x1) p q := by
  unfold out0_6
  frame_out
  pointwise [k0_pay1, nn]

/-- The gates' piece. -/
theorem gates_array (c : Dev nD) : (dat0 V c).arrAt 6 cfg0.N
    = arr (nn (mat (V c main_arg0 : Vec Ideal S16384x1024 .bf16)) (mat (V c main_v7 : Vec Ideal S1024x3072 .bf16))) := by
  refine (dat0 V c).arrAt_eq_of_covers 6 _ (by decide +kernel) fun t hf y => ?_
  have hN := pts0 t
  blk_simp
  rw [after0_6]
  refine (congrArg _ (eq_ix2 y)).trans ((gates_tile _ _ _ _ _ _ (y 0) (y 1)).trans (nn_congr (fun k => ?_) fun k => ?_)) <;>
  · dsimp only [mat]
    blk_ext [iblk0, idx0 t]

theorem conv_tile (x0 x1 x2 x3 x4 x5) (p : Fin 512) (q : Fin 1024) :
    (out0_7 x0 x1 x2 x3 x4 x5 : Vec Ideal S512x1024 .bf16) (ix2 p q) = nn (mat x0) (mat x2) p q := by
  unfold out0_7
  frame_out
  pointwise [k0_pay2, nn]

/-- The convolution branch's piece. -/
theorem conv_array (c : Dev nD) : (dat0 V c).arrAt 7 cfg0.N
    = arr (nn (mat (V c main_arg0 : Vec Ideal S16384x1024 .bf16)) (mat (V c main_v1 : Vec Ideal S1024x1024 .bf16))) := by
  refine (dat0 V c).arrAt_eq_of_covers 7 _ (by decide +kernel) fun t hf y => ?_
  have hN := pts0 t
  blk_simp
  rw [after0_7]
  refine (congrArg _ (eq_ix2 y)).trans ((conv_tile _ _ _ _ _ _ (y 0) (y 1)).trans (nn_congr (fun k => ?_) fun k => ?_)) <;>
  · dsimp only [mat]
    blk_ext [iblk0, idx0 t]

theorem gating_tile (x0 x1 x2 x3 x4 x5) (p : Fin 512) (q : Fin 1024) :
    (out0_8 x0 x1 x2 x3 x4 x5 : Vec Ideal S512x1024 .bf16) (ix2 p q) = nn (mat x0) (mat x3) p q := by
  unfold out0_8
  frame_out
  pointwise [k0_pay3, nn]

/-- The gating branch's piece. -/
theorem gating_array (c : Dev nD) : (dat0 V c).arrAt 8 cfg0.N
    = arr (nn (mat (V c main_arg0 : Vec Ideal S16384x1024 .bf16)) (mat (V c main_v6 : Vec Ideal S1024x1024 .bf16))) := by
  refine (dat0 V c).arrAt_eq_of_covers 8 _ (by decide +kernel) fun t hf y => ?_
  have hN := pts0 t
  blk_simp
  rw [after0_8]
  refine (congrArg _ (eq_ix2 y)).trans ((gating_tile _ _ _ _ _ _ (y 0) (y 1)).trans (nn_congr (fun k => ?_) fun k => ?_)) <;>
  · dsimp only [mat]
    blk_ext [iblk0, idx0 t]

theorem delta_tile (x0 x1 x2 x3 x4 x5) (p : Fin 512) (q : Fin 1664) :
    (out0_9 x0 x1 x2 x3 x4 x5 : Vec Ideal S512x1664 .bf16) (ix2 p q) = nn (mat x0) (mat x4) p q := by
  unfold out0_9
  frame_out
  pointwise [k0_pay4, nn]

/-- The delta rule's piece. -/
theorem delta_array (c : Dev nD) : (dat0 V c).arrAt 9 cfg0.N
    = arr (nn (mat (V c main_arg0 : Vec Ideal S16384x1024 .bf16)) (mat (V c main_v4 : Vec Ideal S1024x1664 .bf16))) := by
  refine (dat0 V c).arrAt_eq_of_covers 9 _ (by decide +kernel) fun t hf y => ?_
  have hN := pts0 t
  blk_simp
  rw [after0_9]
  refine (congrArg _ (eq_ix2 y)).trans ((delta_tile _ _ _ _ _ _ (y 0) (y 1)).trans (nn_congr (fun k => ?_) fun k => ?_)) <;>
  · dsimp only [mat]
    blk_ext [iblk0, idx0 t]

theorem z_tile (x0 x1 x2 x3 x4 x5) (p : Fin 512) (q : Fin 512) :
    (out0_10 x0 x1 x2 x3 x4 x5 : Vec Ideal S512x512 .bf16) (ix2 p q) = nn (mat x0) (mat x5) p q := by
  unfold out0_10
  frame_out
  pointwise [k0_pay5, nn]

/-- The output gate's piece. -/
theorem z_array (c : Dev nD) : (dat0 V c).arrAt 10 cfg0.N
    = arr (nn (mat (V c main_arg0 : Vec Ideal S16384x1024 .bf16)) (mat (V c main_v5 : Vec Ideal S1024x512 .bf16))) := by
  refine (dat0 V c).arrAt_eq_of_covers 10 _ (by decide +kernel) fun t hf y => ?_
  have hN := pts0 t
  blk_simp
  rw [after0_10]
  refine (congrArg _ (eq_ix2 y)).trans ((z_tile _ _ _ _ _ _ (y 0) (y 1)).trans (nn_congr (fun k => ?_) fun k => ?_)) <;>
  · dsimp only [mat]
    blk_ext [iblk0, idx0 t]

theorem dx_tile (x0 x1 x2 x3 x4 x5 x6 x7 x8 x9) (p : Fin 512) (q : Fin 1024) :
    (out1_10 x0 x1 x2 x3 x4 x5 x6 x7 x8 x9 : Vec Ideal S512x1024 .f32) (ix2 p q)
      = nt (mat x0) (mat x1) p q + nt (mat x2) (mat x3) p q + nt (mat x4) (mat x5) p q + nt (mat x6) (mat x7) p q
        + nt (mat x8) (mat x9) p q := by
  unfold out1_10
  frame_out
  pointwise [k1_pay1, nt]

set_option maxHeartbeats 1600000 in
/-- The input's gradient: the five pieces' gradients one after the other. -/
theorem dx_array (c : Dev nD) : (dat1 V c).arrAt 10 cfg1.N
    = arr (fun p q => nt (mat (V c main_arg2 : Vec Ideal S16384x3072 .bf16)) (mat (V c main_v7 : Vec Ideal S1024x3072 .bf16)) p q
      + nt (mat (V c main_arg3 : Vec Ideal S16384x1024 .bf16)) (mat (V c main_v1 : Vec Ideal S1024x1024 .bf16)) p q
      + nt (mat (V c main_arg4 : Vec Ideal S16384x1024 .bf16)) (mat (V c main_v6 : Vec Ideal S1024x1024 .bf16)) p q
      + nt (mat (V c main_arg5 : Vec Ideal S16384x1664 .bf16)) (mat (V c main_v4 : Vec Ideal S1024x1664 .bf16)) p q
      + nt (mat (V c main_arg6 : Vec Ideal S16384x512 .bf16)) (mat (V c main_v5 : Vec Ideal S1024x512 .bf16)) p q) := by
  refine (dat1 V c).arrAt_eq_of_covers 10 _ (by decide +kernel) fun t hf y => ?_
  have hN := pts1 t
  blk_simp
  rw [after1_10]
  refine (congrArg _ (eq_ix2 y)).trans ((dx_tile _ _ _ _ _ _ _ _ _ _ (y 0) (y 1)).trans ?_)
  refine congrArg₂ (· + ·) (congrArg₂ (· + ·) (congrArg₂ (· + ·) (congrArg₂ (· + ·) (nt_congr (fun k => ?_) fun k => ?_)
    (nt_congr (fun k => ?_) fun k => ?_)) (nt_congr (fun k => ?_) fun k => ?_)) (nt_congr (fun k => ?_) fun k => ?_))
    (nt_congr (fun k => ?_) fun k => ?_) <;>
  · dsimp only [mat]
    blk_ext [iblk1, idx1 t]

end Regions

/-! ## The pieces that the host cuts from the weight -/

section Entry

variable (m : (ℓ : Loc nD τ sig) → Buf (Elt Ideal) ℓ) (ρ : Dev nD → PrngReg)

abbrev weight (c : Dev nD) : Fin 1024 → Fin 7176 → EReal := mat (m ((c : Thread nD τ).loc main_arg1) : Vec Ideal S1024x7176 .bf16)

theorem gates_cols (c : Dev nD) : mat (V1 m ρ c main_v7 : Vec Ideal S1024x3072 .bf16) = cols 3072 4104 (by omega) (weight m c) := by
  funext k j
  dsimp only [mat, V1, W1]
  entry_read
  pointwise

theorem conv_cols (c : Dev nD) : mat (V1 m ρ c main_v1 : Vec Ideal S1024x1024 .bf16) = cols 1024 0 (by omega) (weight m c) := by
  funext k j
  dsimp only [mat, V1, W1]
  entry_read
  pointwise
  exact congrArg (m ((c : Thread nD τ).loc main_arg1) : Vec Ideal S1024x7176 .bf16) (congrArg (ix2 k) (Fin.ext (Nat.zero_add _).symm))

theorem gating_cols (c : Dev nD) : mat (V1 m ρ c main_v6 : Vec Ideal S1024x1024 .bf16) = cols 1024 3080 (by omega) (weight m c) := by
  funext k j
  dsimp only [mat, V1, W1]
  entry_read
  pointwise

theorem z_cols (c : Dev nD) : mat (V1 m ρ c main_v5 : Vec Ideal S1024x512 .bf16) = cols 512 2560 (by omega) (weight m c) := by
  funext k j
  dsimp only [mat, V1, W1]
  entry_read
  pointwise

theorem delta_entry (c : Dev nD) : (V1 m ρ c main_v4 : Vec Ideal S1024x1664 .bf16)
    = concatenate S1024x1664 1 [⟨S1024x1536, (extractStridedSlice S1024x1536 ![0, 1024] (m ((c : Thread nD τ).loc main_arg1)) slices_S1024x7176_S1024x1536_0_1024 : Vec Ideal S1024x1536 .bf16)⟩,
      ⟨S1024x8, (extractStridedSlice S1024x8 ![0, 3072] (m ((c : Thread nD τ).loc main_arg1)) slices_S1024x7176_S1024x8_0_3072 : Vec Ideal S1024x8 .bf16)⟩,
      ⟨S1024x120, (broadcastInDim S1024x120 ![] bcast_S_S1024x120 (constant (F := Ideal) S_ .bf16 0x0000#16) : Vec Ideal S1024x120 .bf16)⟩]
      concatenates_S1024x1536_S1024x8_S1024x120_S1024x1664_d1 := by
  show StableHlo.after hostOps0 (W0 m ρ c) (Proc.devRef .tc main_v4) = _
  after_results <;> rfl

theorem delta_cols (c : Dev nD) : mat (V1 m ρ c main_v4 : Vec Ideal S1024x1664 .bf16) = deltaCols (weight m c) := by
  funext k j
  refine (congrFun (delta_entry m ρ c) (ix2 k j)).trans ?_
  generalize hR : deltaCols (weight m c) k j = R
  pointwise
  subst hR
  rfl

/-! ## The six arrays at the end of the run -/

/-- The rows that are projected. -/
abbrev rows (c : Dev nD) : Fin 16384 → Fin 1024 → EReal := mat (m ((c : Thread nD τ).loc main_arg0) : Vec Ideal S16384x1024 .bf16)

theorem gates_final (c : Dev nD) : W3 m ρ c (Proc.devRef .tc main_v8_0)
    = arr (nn (rows m c) (cols 3072 4104 (by omega) (weight m c))) := by
  refine (W3_of m ρ c main_v8_0 (by decide)).trans ((W2_arr m ρ c 6).trans ((gates_array (V1 m ρ) c).trans ?_))
  rw [gates_cols m ρ c, show V1 m ρ c main_arg0 = m ((c : Thread nD τ).loc main_arg0) from W1_args m ρ c _ (by decide)]

theorem conv_final (c : Dev nD) : W3 m ρ c (Proc.devRef .tc main_v8_1)
    = arr (nn (rows m c) (cols 1024 0 (by omega) (weight m c))) := by
  refine (W3_of m ρ c main_v8_1 (by decide)).trans ((W2_arr m ρ c 7).trans ((conv_array (V1 m ρ) c).trans ?_))
  rw [conv_cols m ρ c, show V1 m ρ c main_arg0 = m ((c : Thread nD τ).loc main_arg0) from W1_args m ρ c _ (by decide)]

theorem gating_final (c : Dev nD) : W3 m ρ c (Proc.devRef .tc main_v8_2)
    = arr (nn (rows m c) (cols 1024 3080 (by omega) (weight m c))) := by
  refine (W3_of m ρ c main_v8_2 (by decide)).trans ((W2_arr m ρ c 8).trans ((gating_array (V1 m ρ) c).trans ?_))
  rw [gating_cols m ρ c, show V1 m ρ c main_arg0 = m ((c : Thread nD τ).loc main_arg0) from W1_args m ρ c _ (by decide)]

theorem delta_final (c : Dev nD) : W3 m ρ c (Proc.devRef .tc main_v8_3)
    = arr (nn (rows m c) (deltaCols (weight m c))) := by
  refine (W3_of m ρ c main_v8_3 (by decide)).trans ((W2_arr m ρ c 9).trans ((delta_array (V1 m ρ) c).trans ?_))
  rw [delta_cols m ρ c, show V1 m ρ c main_arg0 = m ((c : Thread nD τ).loc main_arg0) from W1_args m ρ c _ (by decide)]

theorem z_final (c : Dev nD) : W3 m ρ c (Proc.devRef .tc main_v8_4)
    = arr (nn (rows m c) (cols 512 2560 (by omega) (weight m c))) := by
  refine (W3_of m ρ c main_v8_4 (by decide)).trans ((W2_arr m ρ c 10).trans ((z_array (V1 m ρ) c).trans ?_))
  rw [z_cols m ρ c, show V1 m ρ c main_arg0 = m ((c : Thread nD τ).loc main_arg0) from W1_args m ρ c _ (by decide)]

theorem entry_kept (c : Dev nD) (r : Ref sig .tc) (h : ∀ w : Fin cfg0.W, Pipeline.arrRef spec0 w = r → (cfg0.win w).isOut = false) :
    V2 m ρ c r = V1 m ρ c r := W2_of m ρ c r h

theorem dx_final (c : Dev nD) : W3 m ρ c (Proc.devRef .tc main_v9)
    = arr (fun p q => nt (mat (m ((c : Thread nD τ).loc main_arg2) : Vec Ideal S16384x3072 .bf16)) (cols 3072 4104 (by omega) (weight m c)) p q
      + nt (mat (m ((c : Thread nD τ).loc main_arg3) : Vec Ideal S16384x1024 .bf16)) (cols 1024 0 (by omega) (weight m c)) p q
      + nt (mat (m ((c : Thread nD τ).loc main_arg4) : Vec Ideal S16384x1024 .bf16)) (cols 1024 3080 (by omega) (weight m c)) p q
      + nt (mat (m ((c : Thread nD τ).loc main_arg5) : Vec Ideal S16384x1664 .bf16)) (deltaCols (weight m c)) p q
      + nt (mat (m ((c : Thread nD τ).loc main_arg6) : Vec Ideal S16384x512 .bf16)) (cols 512 2560 (by omega) (weight m c)) p q) := by
  refine (W3_arr m ρ c 10).trans ((dx_array (V2 m ρ) c).trans ?_)
  rw [entry_kept m ρ c main_v7 (by decide), entry_kept m ρ c main_v1 (by decide), entry_kept m ρ c main_v6 (by decide),
    entry_kept m ρ c main_v4 (by decide), entry_kept m ρ c main_v5 (by decide), gates_cols, conv_cols, gating_cols, delta_cols, z_cols,
    show V2 m ρ c main_arg2 = m ((c : Thread nD τ).loc main_arg2) from W2_args m ρ c _ (by decide),
    show V2 m ρ c main_arg3 = m ((c : Thread nD τ).loc main_arg3) from W2_args m ρ c _ (by decide),
    show V2 m ρ c main_arg4 = m ((c : Thread nD τ).loc main_arg4) from W2_args m ρ c _ (by decide),
    show V2 m ρ c main_arg5 = m ((c : Thread nD τ).loc main_arg5) from W2_args m ρ c _ (by decide),
    show V2 m ρ c main_arg6 = m ((c : Thread nD τ).loc main_arg6) from W2_args m ρ c _ (by decide)]

end Entry

end Cert.Proj
-- ==== Proof.ProjRun.lean ====
/- The run of the input projection's two calls, forward and backward, with what every buffer holds at the end. -/
module

public import proofs.«01_k».proof.Proof.Gen.Kernel11Ideal.Frame

@[expose] public section

noncomputable section

namespace Cert.ProjRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each buffer of the device at the contents that the calls leave, one after the other. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.ProjRun
-- ==== Proof.ProjClaims.lean ====
/- The input projection, forward and backward: kernel and reference compute the same arrays. -/
module

public import proofs.«01_k».proof.Defs
public import proofs.«01_k».proof.Proof.Gen.Kernel11.Frame
public import proofs.«01_k».proof.Proof.Gen.Reference11Ideal.Run
public import proofs.«01_k».proof.Proof.Proj
public import proofs.«01_k».proof.Proof.ProjRun
public import Idealize.ShloMosaic.Lib.Quiescent

@[expose] public section

set_option maxRecDepth 16384

noncomputable section

namespace Cert.Proj

open Cert.Products Idealize.ShloMosaic Idealize.ShloMosaic.TcCoe Idealize.SL.Sem Idealize.ShloMosaic.StableHlo

/-- The delta rule's share of the input's gradient: the padding adds nothing. -/
theorem nt_deltaCols {T M : ℕ} (D : Fin T → Fin 1664 → EReal) (W : Fin M → Fin 7176 → EReal) (p : Fin T) (q : Fin M) :
    nt D (deltaCols W) p q = ∑ k : Fin 1536, D p ⟨k.val, by omega⟩ * W q ⟨1024 + k.val, by omega⟩
      + ∑ k : Fin 8, D p ⟨1536 + k.val, by omega⟩ * W q ⟨3072 + k.val, by omega⟩ := by
  unfold nt
  rw [Fin.sum_univ_two_halves 1536 128 rfl, Fin.sum_univ_two_halves 8 120 rfl]
  refine congrArg₂ (· + ·) (Finset.sum_congr rfl fun k _ => ?_)
    ((congrArg₂ (· + ·) (Finset.sum_congr rfl fun k _ => ?_) (Finset.sum_eq_zero fun k _ => ?_)).trans (add_zero _))
  · rw [deltaCols, dif_pos k.isLt]
  · rw [deltaCols, dif_neg (by dsimp only; omega), dif_pos (by dsimp only; omega)]
    refine congrArg _ (congrArg _ (Fin.ext (by dsimp only; omega)))
  · rw [deltaCols, dif_neg (by dsimp only; omega), dif_neg (by dsimp only; omega), mul_zero]

/-- The pieces' shares in the order of the weight's columns, and in the order in which the kernel adds them. -/
theorem sum_order (a b z b' e g : EReal) : a + (b + (z + (b' + (e + g)))) = g + a + e + (b + b') + z := by abel

/-- A sum over the weight's columns, its first factor put together from five pieces, is the sum of the pieces' sums. -/
theorem joined_sum {M : ℕ} (a : Fin 1024 → EReal) (b : Fin 1664 → EReal) (z : Fin 512 → EReal) (e : Fin 1024 → EReal) (g : Fin 3072 → EReal)
    (W : Fin M → Fin 7176 → EReal) (q : Fin M) :
    ∑ x : Fin 7176, (if h : x.val < 1024 then a ⟨x.val, by omega⟩
        else if h : x.val - 1024 < 1536 then b ⟨x.val - 1024, by omega⟩
        else if h : x.val - 1024 - 1536 < 512 then z ⟨x.val - 1024 - 1536, by omega⟩
        else if h : x.val - 1024 - 1536 - 512 < 8 then b ⟨1536 + (x.val - 1024 - 1536 - 512), by omega⟩
        else if h : x.val - 1024 - 1536 - 512 - 8 < 1024 then e ⟨x.val - 1024 - 1536 - 512 - 8, by omega⟩
        else g ⟨x.val - 1024 - 1536 - 512 - 8 - 1024, by omega⟩) * W q x
      = ∑ k, g k * cols 3072 4104 (by omega) W q k + ∑ k, a k * cols 1024 0 (by omega) W q k
        + ∑ k, e k * cols 1024 3080 (by omega) W q k + ∑ k, b k * deltaCols W q k + ∑ k, z k * cols 512 2560 (by omega) W q k := by
  rw [Fin.sum_univ_two_halves 1024 6152 rfl, Fin.sum_univ_two_halves 1536 4616 rfl, Fin.sum_univ_two_halves 512 4104 rfl,
    Fin.sum_univ_two_halves 8 4096 rfl, Fin.sum_univ_two_halves 1024 3072 rfl]
  refine Eq.trans (congrArg₂ (· + ·) (Finset.sum_congr rfl fun k _ => ?_) (congrArg₂ (· + ·) (Finset.sum_congr rfl fun k _ => ?_)
    (congrArg₂ (· + ·) (Finset.sum_congr rfl fun k _ => ?_) (congrArg₂ (· + ·) (Finset.sum_congr rfl fun k _ => ?_)
      (congrArg₂ (· + ·) (Finset.sum_congr rfl fun k _ => ?_) (Finset.sum_congr rfl fun k _ => ?_))))))
    ((sum_order (∑ k : Fin 1024, a k * cols 1024 0 (by omega) W q k)
      (∑ k : Fin 1536, b ⟨k.val, by omega⟩ * W q ⟨1024 + k.val, by omega⟩)
      (∑ k : Fin 512, z k * cols 512 2560 (by omega) W q k)
      (∑ k : Fin 8, b ⟨1536 + k.val, by omega⟩ * W q ⟨3072 + k.val, by omega⟩)
      (∑ k : Fin 1024, e k * cols 1024 3080 (by omega) W q k)
      (∑ k : Fin 3072, g k * cols 3072 4104 (by omega) W q k)).trans
      (congrArg (_ + · + _) (nt_deltaCols (fun _ : Fin 1 => b) W 0 q).symm))
  · rw [dif_pos (by dsimp only; omega)]
    exact congrArg (_ * ·) (congrArg (W q) (Fin.ext (by dsimp only; omega)))
  · rw [dif_neg (by dsimp only; omega), dif_pos (by dsimp only; omega)]
    exact congrArg₂ (· * ·) (congrArg b (Fin.ext (by dsimp only; omega))) rfl
  · rw [dif_neg (by dsimp only; omega), dif_neg (by dsimp only; omega), dif_pos (by dsimp only; omega)]
    exact congrArg₂ (· * ·) (congrArg z (Fin.ext (by dsimp only; omega))) (congrArg (W q) (Fin.ext (by dsimp only; omega)))
  · rw [dif_neg (by dsimp only; omega), dif_neg (by dsimp only; omega), dif_neg (by dsimp only; omega), dif_pos (by dsimp only; omega)]
    exact congrArg₂ (· * ·) (congrArg b (Fin.ext (by dsimp only; omega))) (congrArg (W q) (Fin.ext (by dsimp only; omega)))
  · rw [dif_neg (by dsimp only; omega), dif_neg (by dsimp only; omega), dif_neg (by dsimp only; omega), dif_neg (by dsimp only; omega),
      dif_pos (by dsimp only; omega)]
    exact congrArg₂ (· * ·) (congrArg e (Fin.ext (by dsimp only; omega))) (congrArg (W q) (Fin.ext (by dsimp only; omega)))
  · rw [dif_neg (by dsimp only; omega), dif_neg (by dsimp only; omega), dif_neg (by dsimp only; omega), dif_neg (by dsimp only; omega),
      dif_neg (by dsimp only; omega)]
    exact congrArg₂ (· * ·) (congrArg g (Fin.ext (by dsimp only; omega))) (congrArg (W q) (Fin.ext (by dsimp only; omega)))

section Reference
open Cert.Reference11Ideal Cert.Reference11Ideal.Gen

abbrev product (x : Vec Ideal S16384x1024 .bf16) (w : Vec Ideal S1024x7176 .bf16) : Vec Ideal S16384x7176 .f32 :=
  Host.dotGeneral (F := Ideal) dot_S16384x1024_S1024x7176_S16384x7176_1_0_0_1_n_n none (extf .f32 x bitsLt_bf16_f32) (extf .f32 w bitsLt_bf16_f32)

theorem product_at (x : Vec Ideal S16384x1024 .bf16) (w : Vec Ideal S1024x7176 .bf16) (p : Fin 16384) (q : Fin 7176) :
    product x w (ix2 p q) = nn (mat x) (mat w) p q := by
  pointwise [nn]

theorem ref_gates (x : Vec Ideal S16384x1024 .bf16) (w : Vec Ideal S1024x7176 .bf16) :
    (truncf (F := Ideal) .bf16 (extractStridedSlice S16384x3072 ![0, 4104] (product x w) slices_S16384x7176_S16384x3072_0_4104) bitsLt_bf16_f32
      : Vec Ideal S16384x3072 .bf16) = arr (nn (mat x) (cols 3072 4104 (by omega) (mat w))) := by
  funext j
  obtain ⟨p, q, rfl⟩ : ∃ p q, j = ix2 p q := ⟨_, _, eq_ix2 j⟩
  refine Eq.trans ?_ (product_at x w p ⟨4104 + q.val, by omega⟩)
  generalize product x w = P
  pointwise

theorem ref_conv (x : Vec Ideal S16384x1024 .bf16) (w : Vec Ideal S1024x7176 .bf16) :
    (truncf (F := Ideal) .bf16 (extractStridedSlice S16384x1024 ![0, 0] (product x w) slices_S16384x7176_S16384x1024_0_0) bitsLt_bf16_f32
      : Vec Ideal S16384x1024 .bf16) = arr (nn (mat x) (cols 1024 0 (by omega) (mat w))) := by
  funext j
  obtain ⟨p, q, rfl⟩ : ∃ p q, j = ix2 p q := ⟨_, _, eq_ix2 j⟩
  refine Eq.trans ?_ (product_at x w p ⟨0 + q.val, by omega⟩)
  generalize product x w = P
  pointwise

theorem ref_gating (x : Vec Ideal S16384x1024 .bf16) (w : Vec Ideal S1024x7176 .bf16) :
    (truncf (F := Ideal) .bf16 (extractStridedSlice S16384x1024 ![0, 3080] (product x w) slices_S16384x7176_S16384x1024_0_3080) bitsLt_bf16_f32
      : Vec Ideal S16384x1024 .bf16) = arr (nn (mat x) (cols 1024 3080 (by omega) (mat w))) := by
  funext j
  obtain ⟨p, q, rfl⟩ : ∃ p q, j = ix2 p q := ⟨_, _, eq_ix2 j⟩
  refine Eq.trans ?_ (product_at x w p ⟨3080 + q.val, by omega⟩)
  generalize product x w = P
  pointwise

theorem ref_z (x : Vec Ideal S16384x1024 .bf16) (w : Vec Ideal S1024x7176 .bf16) :
    (truncf (F := Ideal) .bf16 (extractStridedSlice S16384x512 ![0, 2560] (product x w) slices_S16384x7176_S16384x512_0_2560) bitsLt_bf16_f32
      : Vec Ideal S16384x512 .bf16) = arr (nn (mat x) (cols 512 2560 (by omega) (mat w))) := by
  funext j
  obtain ⟨p, q, rfl⟩ : ∃ p q, j = ix2 p q := ⟨_, _, eq_ix2 j⟩
  refine Eq.trans ?_ (product_at x w p ⟨2560 + q.val, by omega⟩)
  generalize product x w = P
  pointwise

theorem ref_delta (x : Vec Ideal S16384x1024 .bf16) (w : Vec Ideal S1024x7176 .bf16) :
    (truncf (F := Ideal) .bf16 (concatenate S16384x1664 1 [⟨S16384x512, (extractStridedSlice S16384x512 ![0, 1024] (product x w) slices_S16384x7176_S16384x512_0_1024 : Vec Ideal S16384x512 .f32)⟩,
        ⟨S16384x512, (extractStridedSlice S16384x512 ![0, 1536] (product x w) slices_S16384x7176_S16384x512_0_1536 : Vec Ideal S16384x512 .f32)⟩,
        ⟨S16384x512, (extractStridedSlice S16384x512 ![0, 2048] (product x w) slices_S16384x7176_S16384x512_0_2048 : Vec Ideal S16384x512 .f32)⟩,
        ⟨S16384x4, (extractStridedSlice S16384x4 ![0, 3072] (product x w) slices_S16384x7176_S16384x4_0_3072 : Vec Ideal S16384x4 .f32)⟩,
        ⟨S16384x4, (extractStridedSlice S16384x4 ![0, 3076] (product x w) slices_S16384x7176_S16384x4_0_3076 : Vec Ideal S16384x4 .f32)⟩,
        ⟨S16384x120, (broadcastInDim S16384x120 ![] bcast_S_S16384x120 (constant (F := Ideal) S_ .f32 0x00000000#32) : Vec Ideal S16384x120 .f32)⟩]
        concatenates_S16384x512_S16384x512_S16384x512_S16384x4_S16384x4_S16384x120_S16384x1664_d1 : Vec Ideal S16384x1664 .f32) bitsLt_bf16_f32
      : Vec Ideal S16384x1664 .bf16) = arr (nn (mat x) (deltaCols (mat w))) := by
  funext j
  obtain ⟨p, q, rfl⟩ : ∃ p q, j = ix2 p q := ⟨_, _, eq_ix2 j⟩
  show _ = nn (mat x) (deltaCols (mat w)) p q
  have hP := product_at x w p
  generalize product x w = P at hP ⊢
  generalize hR : nn (mat x) (deltaCols (mat w)) p q = R
  pointwise
  subst hR
  have hq := q.isLt
  have at_col (a : Fin 7176) (h : ∀ k, deltaCols (mat w) k q = mat w k a) : P (ix2 p a) = nn (mat x) (deltaCols (mat w)) p q :=
    (hP a).trans (nn_congr (fun _ => rfl) fun k => (h k).symm)
  by_cases h1 : q.val < 512
  · rw [dif_pos h1]
    exact at_col _ fun k => (dif_pos (by omega)).trans rfl
  by_cases h2 : q.val - 512 < 512
  · rw [dif_neg h1, dif_pos h2]
    exact at_col _ fun k => (dif_pos (by omega)).trans (congrArg _ (Fin.ext (by dsimp only; omega)))
  by_cases h3 : q.val - 512 - 512 < 512
  · rw [dif_neg h1, dif_neg h2, dif_pos h3]
    exact at_col _ fun k => (dif_pos (by omega)).trans (congrArg _ (Fin.ext (by dsimp only; omega)))
  by_cases h4 : q.val - 512 - 512 - 512 < 4
  · rw [dif_neg h1, dif_neg h2, dif_neg h3, dif_pos h4]
    exact at_col _ fun k => (dif_neg (by omega)).trans ((dif_pos (by omega)).trans (congrArg _ (Fin.ext (by dsimp only; omega))))
  by_cases h5 : q.val - 512 - 512 - 512 - 4 < 4
  · rw [dif_neg h1, dif_neg h2, dif_neg h3, dif_neg h4, dif_pos h5]
    exact at_col _ fun k => (dif_neg (by omega)).trans ((dif_pos (by omega)).trans (congrArg _ (Fin.ext (by dsimp only; omega))))
  rw [dif_neg h1, dif_neg h2, dif_neg h3, dif_neg h4, dif_neg h5]
  refine (Finset.sum_eq_zero fun k _ => ?_).symm
  rw [deltaCols, dif_neg (by omega), dif_neg (by omega), mul_zero]

theorem ref_dx (w : Vec Ideal S1024x7176 .bf16) (g : Vec Ideal S16384x3072 .bf16) (a : Vec Ideal S16384x1024 .bf16)
    (e : Vec Ideal S16384x1024 .bf16) (b : Vec Ideal S16384x1664 .bf16) (z : Vec Ideal S16384x512 .bf16) :
    (Host.dotGeneral (F := Ideal) dot_S16384x7176_S1024x7176_S16384x1024_1_1_0_0_n_n none
      (extf .f32 (concatenate S16384x7176 1 [⟨S16384x1024, a⟩,
        ⟨S16384x1536, (extractStridedSlice S16384x1536 ![0, 0] b slices_S16384x1664_S16384x1536_0_0 : Vec Ideal S16384x1536 .bf16)⟩,
        ⟨S16384x512, z⟩,
        ⟨S16384x8, (extractStridedSlice S16384x8 ![0, 1536] b slices_S16384x1664_S16384x8_0_1536 : Vec Ideal S16384x8 .bf16)⟩,
        ⟨S16384x1024, e⟩, ⟨S16384x3072, g⟩]
        concatenates_S16384x1024_S16384x1536_S16384x512_S16384x8_S16384x1024_S16384x3072_S16384x7176_d1 : Vec Ideal S16384x7176 .bf16) bitsLt_bf16_f32)
      (extf .f32 w bitsLt_bf16_f32) : Vec Ideal S16384x1024 .f32)
      = arr (fun p q => nt (mat g) (cols 3072 4104 (by omega) (mat w)) p q + nt (mat a) (cols 1024 0 (by omega) (mat w)) p q
        + nt (mat e) (cols 1024 3080 (by omega) (mat w)) p q + nt (mat b) (deltaCols (mat w)) p q
        + nt (mat z) (cols 512 2560 (by omega) (mat w)) p q) := by
  funext j
  obtain ⟨p, q, rfl⟩ : ∃ p q, j = ix2 p q := ⟨_, _, eq_ix2 j⟩
  refine Eq.trans ?_ (joined_sum (fun k => a (ix2 p k)) (fun k => b (ix2 p k)) (fun k => z (ix2 p k)) (fun k => e (ix2 p k))
    (fun k => g (ix2 p k)) (mat w) q)
  pointwise

end Reference

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono
    (fun r h => ⟨fun c => (h c).2.2.2.2.2.2, Idealize.ShloMosaic.sem_eq_zero_of_no_sems (by decide) r.2⟩)
    (Cert.Reference11Ideal.Value.run (F := Ideal) m ρ)

/-- Kernel and reference compute the same six arrays. -/
theorem algebraic : Cert.algebraic_Kernel11Ideal_Reference11Ideal := by
  intro m ρ m' ρ' _ hag
  have hmem := @Cert.Kernel11Ideal.Gen.mem_uc
  refine ⟨fun c => _, fun c => _, fun c => _, fun c => _, fun c => _, fun c => _,
    (θ_run Cert.Kernel11Ideal.defs _ _).mono (fun r h c => ⟨(h c _ (hmem _ (by decide))).trans (gates_final m ρ c),
      (h c _ (hmem _ (by decide))).trans (conv_final m ρ c), (h c _ (hmem _ (by decide))).trans (gating_final m ρ c),
      (h c _ (hmem _ (by decide))).trans (delta_final m ρ c), (h c _ (hmem _ (by decide))).trans (z_final m ρ c),
      (h c _ (hmem _ (by decide))).trans (dx_final m ρ c),
      (h c _ (hmem _ (by decide))).trans (Cert.Kernel11Ideal.Gen.W3_main_arg0 m ρ c),
      (h c _ (hmem _ (by decide))).trans (Cert.Kernel11Ideal.Gen.W3_main_arg1 m ρ c),
      (h c _ (hmem _ (by decide))).trans (Cert.Kernel11Ideal.Gen.W3_main_arg2 m ρ c),
      (h c _ (hmem _ (by decide))).trans (Cert.Kernel11Ideal.Gen.W3_main_arg3 m ρ c),
      (h c _ (hmem _ (by decide))).trans (Cert.Kernel11Ideal.Gen.W3_main_arg4 m ρ c),
      (h c _ (hmem _ (by decide))).trans (Cert.Kernel11Ideal.Gen.W3_main_arg5 m ρ c),
      (h c _ (hmem _ (by decide))).trans (Cert.Kernel11Ideal.Gen.W3_main_arg6 m ρ c)⟩) (Cert.ProjRun.run m ρ),
    (θ_run Cert.Reference11Ideal.defs _ _).mono (fun r h c => ?_) (Cert.Reference11Ideal.Value.run (F := Ideal) m' ρ')⟩
  obtain ⟨h0, h1, h2, h3, h4, h5, h6⟩ := hag c
  obtain ⟨r0, r1, r2, r3, r4, r5, hargs⟩ := h c
  refine ⟨r0.trans ((ref_gates _ _).trans ?_), r1.trans ((ref_conv _ _).trans ?_), r2.trans ((ref_gating _ _).trans ?_),
    r3.trans ((ref_delta _ _).trans ?_), r4.trans ((ref_z _ _).trans ?_), r5.trans ((ref_dx _ _ _ _ _ _).trans ?_), hargs⟩ <;>
  · beta_reduce
    simp only [h0, h1, h2, h3, h4, h5, h6, weight]

end Cert.Proj
-- ==== Proof.EntryRef.lean ====
/- What the reference computes: the norm at the entry and its derivative over whole arrays, read at an index. -/
module

public import proofs.«01_k».proof.Proof.Gen.Reference12Ideal.Run
public import proofs.«01_k».proof.Proof.FfnSpec
public import proofs.«01_k».proof.Proof.Ref
public import Idealize.ShloMosaic.Lib.Pipeline.ValueKit

@[expose] public section

set_option maxRecDepth 16384

noncomputable section

namespace Cert.EntryNorm

open Cert.Reference12Ideal Cert.Reference12Ideal.Gen Cert.Reference12Ideal.Value Cert.Products Cert.Ffn Idealize.ShloMosaic Idealize.ShloMosaic.StableHlo

section Terms
variable (G B : Vec Ideal S1024 .f32) (X C : Vec Ideal S16384x1024 .f32)

/-- Every row divided by 1024. -/
def meanTerm (s : Vec Ideal S16384x1 .f32) : FVec Ideal S16384x1 .f32 :=
  Host.divf s (broadcastInDim S16384x1 ![] bcast_S_S16384x1 (constant (F := Ideal) S_ .f32 0x44800000#32))

/-- The sum of each row. -/
def sumTerm (x : Vec Ideal S16384x1024 .f32) : FVec Ideal S16384 .f32 :=
  Host.reduceAdd x (constant (F := Ideal) S_ .f32 0x00000000#32) reducesTo_S16384x1024_S16384_d1 h_S_

def centredTerm : FVec Ideal S16384x1024 .f32 :=
  subf X (broadcastInDim S16384x1024 ![0, 1] bcast_S16384x1_S16384x1024_0_1 (meanTerm (broadcastInDim S16384x1 ![0] bcast_S16384_S16384x1_0 (sumTerm X))))

def spreadTerm : FVec Ideal S16384x1 .f32 :=
  addf (meanTerm (broadcastInDim S16384x1 ![0] bcast_S16384_S16384x1_0 (sumTerm (mulf (centredTerm X) (centredTerm X)))))
    (broadcastInDim S16384x1 ![] bcast_S_S16384x1 (constant (F := Ideal) S_ .f32 0x3727C5AC#32))

def normedTerm : FVec Ideal S16384x1024 .f32 :=
  mulf (centredTerm X) (broadcastInDim S16384x1024 ![0, 1] bcast_S16384x1_S16384x1024_0_1 (Host.rsqrt (spreadTerm X)))

/-- A row of numbers laid over all rows. -/
def overRows (b : Vec Ideal S1024 .f32) : FVec Ideal S16384x1024 .f32 :=
  broadcastInDim S16384x1024 ![0, 1] bcast_S1x1024_S16384x1024_0_1 (broadcastInDim S1x1024 ![1] bcast_S1024_S1x1024_1 b)

def resultTerm : FVec Ideal S16384x1024 .f32 := addf (mulf (normedTerm X) (overRows G)) (overRows B)

/-- The gradient of the normed rows. -/
def scaledTerm : FVec Ideal S16384x1024 .f32 := mulf (shapeCast _ C shapeCasts_S16384x1024_S16384x1024) (overRows G)

/-- The gradient of the centred rows. -/
def centredGradTerm : FVec Ideal S16384x1024 .f32 :=
  addf (mulf (scaledTerm G C) (broadcastInDim S16384x1024 ![0, 1] bcast_S16384x1_S16384x1024_0_1 (Host.rsqrt (spreadTerm X))))
    (mulf (broadcastInDim S16384x1024 ![0] bcast_S16384_S16384x1024_0 (Host.reduceAdd
        (meanTerm (mulf (shapeCast _ (sumTerm (mulf (centredTerm X) (scaledTerm G C))) shapeCasts_S16384_S16384x1)
          (mulf (broadcastInDim S16384x1 ![] bcast_S_S16384x1 (constant (F := Ideal) S_ .f32 0xBF000000#32)) (Host.divf (Host.rsqrt (spreadTerm X)) (spreadTerm X)))))
        (constant (F := Ideal) S_ .f32 0x00000000#32) reducesTo_S16384x1_S16384_d1 h_S_))
      (mulf (broadcastInDim S16384x1024 ![] bcast_S_S16384x1024 (constant (F := Ideal) S_ .f32 0x40000000#32)) (centredTerm X)))

def gradTerm : FVec Ideal S16384x1024 .f32 :=
  addf (centredGradTerm G X C) (broadcastInDim S16384x1024 ![0] bcast_S16384_S16384x1024_0 (Host.reduceAdd
    (meanTerm (shapeCast _ (sumTerm (Host.negf (centredGradTerm G X C))) shapeCasts_S16384_S16384x1))
    (constant (F := Ideal) S_ .f32 0x00000000#32) reducesTo_S16384x1_S16384_d1 h_S_))

/-- The sum of an array's rows, kept as one row. -/
def rowSumTerm (x : Vec Ideal S16384x1024 .f32) : FVec Ideal S1x1024 .f32 :=
  shapeCast _ (Host.reduceAdd (shapeCast _ (Host.reduceAdd x (constant (F := Ideal) S_ .f32 0x00000000#32) reducesTo_S16384x1024_S1024_d0 h_S_)
    shapeCasts_S1024_S1x1024) (constant (F := Ideal) S_ .f32 0x00000000#32) reducesTo_S1x1024_S1024_d0 h_S_) shapeCasts_S1024_S1x1024

theorem meanTerm_at (s : Vec Ideal S16384x1 .f32) (p : Fin 16384) (u : Fin 1) : meanTerm s (ix2 p u) = Ideal.div (s (ix2 p u)) lanesN := by
  pointwise [meanTerm]

theorem sumTerm_at (x : Vec Ideal S16384x1024 .f32) (p : Fin 16384) : sumTerm x (ix1 p) = ∑ k : Fin 1024, x (ix2 p k) := by
  pointwise [sumTerm]

theorem centredTerm_at (p : Fin 16384) (d : Fin 1024) : centredTerm X (ix2 p d) = centred (mat X p) d := by
  pointwise [centredTerm, meanTerm_at, sumTerm_at, centred]

theorem spreadTerm_at (p : Fin 16384) (u : Fin 1) : spreadTerm X (ix2 p u) = spread (mat X p) := by
  pointwise [spreadTerm, meanTerm_at, sumTerm_at, centredTerm_at, spread]

theorem normedTerm_at (p : Fin 16384) (d : Fin 1024) : normedTerm X (ix2 p d) = normed (mat X p) d := by
  pointwise [normedTerm, centredTerm_at, spreadTerm_at, normed, rstd]

theorem overRows_at (b : Vec Ideal S1024 .f32) (p : Fin 16384) (d : Fin 1024) : overRows b (ix2 p d) = b (ix1 d) := by
  pointwise [overRows]

theorem scaledTerm_at (p : Fin 16384) (d : Fin 1024) : scaledTerm G C (ix2 p d) = C (ix2 p d) * G (ix1 d) := by
  pointwise [scaledTerm, overRows_at]

theorem centredGradTerm_at (p : Fin 16384) (d : Fin 1024) :
    centredGradTerm G X C (ix2 p d) = centredGrad (mat X p) (fun d => C (ix2 p d) * G (ix1 d)) d := by
  pointwise [centredGradTerm, scaledTerm_at, spreadTerm_at, centredTerm_at, meanTerm_at, sumTerm_at, Cert.Sgu.mul_two_mul, centredGrad, spreadGrad,
    rstdSlope, rstd, Finset.univ_unique, Finset.sum_singleton]
  exact (add_assoc (G := EReal) _ _ _).symm

theorem result_term : resultTerm G B X = arr fun p => norm (mat X p) (fun d => G (ix1 d)) (fun d => B (ix1 d)) := by
  funext j
  obtain ⟨p, d, rfl⟩ : ∃ p d, j = ix2 p d := ⟨_, _, eq_ix2 j⟩
  pointwise [resultTerm, normedTerm_at, overRows_at]
  rfl

theorem grad_term : gradTerm G X C = arr (normGrads (mat X) (mat C) fun d => G (ix1 d)) := by
  funext j
  obtain ⟨p, d, rfl⟩ : ∃ p d, j = ix2 p d := ⟨_, _, eq_ix2 j⟩
  pointwise [gradTerm, centredGradTerm_at, meanTerm_at, sumTerm_at, Finset.univ_unique, Finset.sum_singleton]
  rfl

theorem rowSum_term (x : Vec Ideal S16384x1024 .f32) : rowSumTerm x = rowArr (colSum (mat x)) := by
  funext j
  obtain ⟨u, d, rfl⟩ : ∃ u d, j = ix2 u d := ⟨_, _, eq_ix2 j⟩
  pointwise [rowSumTerm, colSum, Finset.univ_unique, Finset.sum_singleton]

theorem scale_term : rowSumTerm (mulf (normedTerm X) (shapeCast _ C shapeCasts_S16384x1024_S16384x1024))
    = rowArr (scaleGrad (mat X) (mat C)) := by
  rw [rowSum_term]
  funext j
  obtain ⟨u, d, rfl⟩ : ∃ u d, j = ix2 u d := ⟨_, _, eq_ix2 j⟩
  refine Finset.sum_congr rfl fun p _ => ?_
  dsimp only [mat]
  pointwise [normedTerm_at]

end Terms

/-! ## The run -/

variable (m : (ℓ : Loc nD τ sig) → Buf (Elt Ideal) ℓ) (ρ : Dev nD → PrngReg)

abbrev refScale (c : Dev nD) : Row := fun d => (m ((c.tc : Thread nD τ).loc main_arg0) : Vec Ideal S1024 .f32) (ix1 d)
abbrev refShift (c : Dev nD) : Row := fun d => (m ((c.tc : Thread nD τ).loc main_arg1) : Vec Ideal S1024 .f32) (ix1 d)
abbrev refRows (c : Dev nD) : Rows := mat (m ((c.tc : Thread nD τ).loc main_arg2) : Vec Ideal S16384x1024 .f32)
abbrev refCot (c : Dev nD) : Rows := mat (m ((c.tc : Thread nD τ).loc main_arg3) : Vec Ideal S16384x1024 .f32)

/-- The reference's run, its results the normed rows (twice) and the three gradients. -/
theorem run_ref : θ_run defs (onTc (τ := τ) (main (F := Ideal))) ⟨m, fun _ => 0, ρ⟩ fun r => ∀ c : Dev nD,
      r.2.mem ((c.tc : Thread nD τ).loc main_v26) = (arr fun p => norm (refRows m c p) (refScale m c) (refShift m c))
      ∧ r.2.mem ((c.tc : Thread nD τ).loc main_v57) = (arr fun p => norm (refRows m c p) (refScale m c) (refShift m c))
      ∧ r.2.mem ((c.tc : Thread nD τ).loc main_v56) = arr (normGrads (refRows m c) (refCot m c) (refScale m c))
      ∧ r.2.mem ((c.tc : Thread nD τ).loc main_v58) = rowArr (scaleGrad (refRows m c) (refCot m c))
      ∧ r.2.mem ((c.tc : Thread nD τ).loc main_v59) = rowArr (colSum (refCot m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run m ρ)
  obtain ⟨h0, h1, h2, h3, h4, hargs⟩ := h c
  exact ⟨h0.trans (result_term _ _ _), h1.trans (result_term _ _ _), h2.trans (grad_term _ _ _), h3.trans (scale_term _ _),
    h4.trans (rowSum_term _), hargs⟩

end Cert.EntryNorm
-- ==== Proof.EntryNorm.lean ====
/- The norm at the entry: what its forward and its backward call leave in their arrays, and how the one follows the other. -/
module

public import proofs.«01_k».proof.Proof.FfnSpec
public import proofs.«01_k».proof.Proof.Gen.Kernel12Ideal.Frame
public import Idealize.ShloMosaic.Lib.Pipeline.ValueKit

@[expose] public section

set_option maxRecDepth 65536

noncomputable section

namespace Cert.EntryNorm

open Cert.Kernel12Ideal Cert.Kernel12Ideal.Gen Cert.Products Cert.Ffn Idealize.ShloMosaic Idealize.ShloMosaic.TcCoe

/-! ## One tile of 512 rows -/

section Tile
variable (x0 : Vec Ideal S512x1024 .f32) (x1 x2 : Vec Ideal S1x1024 .f32) (x3 : Vec Ideal S512x1024 .f32)

theorem norm_at (r : Fin 512) (d : Fin 1024) : k0_pay1 (F := Ideal) x0 x1 x2 (ix2 r d) = norm (mat x0 r) (vec x1) (vec x2) d := by
  pointwise [k0_pay1]
  rfl

theorem centred_at (r : Fin 512) (d : Fin 1024) : k1_pay6 (F := Ideal) x0 (ix2 r d) = centred (mat x0 r) d := by
  pointwise [k1_pay6]
  rfl

theorem spread_at (r : Fin 512) (z : Fin 1) : k1_pay7 (F := Ideal) x0 (ix2 r z) = spread (mat x0 r) := by
  pointwise [k1_pay7, centred_at]
  rfl

theorem rstd_at (r : Fin 512) (z : Fin 1) : k1_pay8 (F := Ideal) x0 (ix2 r z) = rstd (mat x0 r) := by
  pointwise [k1_pay8, spread_at]
  rfl

/-- The gradient of the norm's operand on a tile. -/
abbrev gradTile : FVec Ideal S512x1024 .f32 := k1_pay1 (k1_pay6 x0) (k1_pay13 x0 x1 x3) (k1_pay14 x0 x1 x3)

theorem grad_at (r : Fin 512) (d : Fin 1024) :
    gradTile x0 x1 x3 (ix2 r d) = normGrad (mat x0 r) (fun d => x3 (ix2 r d) * x1 (ix2 0 d)) d := by
  pointwise [k1_pay1, k1_pay14, k1_pay13, k1_pay12, k1_pay9, centred_at, rstd_at, spread_at]
  simp only [Finset.univ_unique, Finset.sum_singleton, zero_sub]
  rfl

theorem scale_at (z : Fin 1) (d : Fin 1024) :
    k1_pay11 (F := Ideal) x0 x3 (ix2 z d) = ∑ r : Fin 512, normed (mat x0 r) d * x3 (ix2 r d) := by
  pointwise [k1_pay11, centred_at, rstd_at, k1_pay9]
  rfl

theorem shift_at (z : Fin 1) (d : Fin 1024) : k1_pay10 (F := Ideal) x3 (ix2 z d) = ∑ r : Fin 512, x3 (ix2 r d) := by
  pointwise [k1_pay10, k1_pay9]

theorem out0_3_at (r : Fin 512) (d : Fin 1024) :
    (out0_3 x0 x1 x2 : Vec Ideal S512x1024 .f32) (ix2 r d) = norm (mat x0 r) (vec x1) (vec x2) d := by
  unfold out0_3
  frame_out
  exact norm_at _ _ _ r d

theorem out0_4_at (r : Fin 512) (d : Fin 1024) :
    (out0_4 x0 x1 x2 : Vec Ideal S512x1024 .bf16) (ix2 r d) = norm (mat x0 r) (vec x1) (vec x2) d := by
  unfold out0_4
  frame_out
  pointwise [k0_pay2, norm_at]

end Tile

/-! ## The arrays, for whatever a call finds -/

section Arrays
variable (V : (c : Dev nD) → (b : Ref sig .tc) → Buf (Elt Ideal) ((c : Thread nD τ).loc b))

abbrev operand (c : Dev nD) : Rows := mat (V c main_arg2 : Vec Ideal S16384x1024 .f32)
abbrev cotangent (c : Dev nD) : Rows := mat (V c main_arg3 : Vec Ideal S16384x1024 .f32)
abbrev scale (c : Dev nD) : Row := vec (V c main_v0 : Vec Ideal S1x1024 .f32)
abbrev shift (c : Dev nD) : Row := vec (V c main_v1 : Vec Ideal S1x1024 .f32)

theorem idx0 : ∀ t : Fin cfg0.N, (cfg0.win 0).index t = ![t.val, 0] ∧ (cfg0.win 1).index t = ![0, 0] ∧ (cfg0.win 2).index t = ![0, 0]
    ∧ (cfg0.win 3).index t = ![t.val, 0] ∧ (cfg0.win 4).index t = ![t.val, 0] := by decide +kernel

theorem pts0 (t : Fin cfg0.N) : t.val < 32 := lt_of_lt_of_eq t.isLt N_0

abbrev at0 (t : Fin cfg0.N) : Fin 32 := ⟨t.val, pts0 t⟩

/-- The norm's result over all rows. -/
abbrev result (c : Dev nD) : Rows := fun p => norm (operand V c p) (scale V c) (shift V c)

theorem result_blk (c : Dev nD) (t : Fin cfg0.N) (r : Fin 512) (d : Fin 1024) :
    norm (mat (iblk0 V c 0 t : Vec Ideal S512x1024 .f32) r) (vec (iblk0 V c 1 t : Vec Ideal S1x1024 .f32))
      (vec (iblk0 V c 2 t : Vec Ideal S1x1024 .f32)) d = result V c (tileRow (at0 t) r) d := by
  have hN := pts0 t
  rw [show mat (iblk0 V c 0 t : Vec Ideal S512x1024 .f32) r = operand V c (tileRow (at0 t) r) from funext fun k => by
      dsimp only [mat]; blk_ext [iblk0, idx0 t],
    show vec (iblk0 V c 1 t : Vec Ideal S1x1024 .f32) = scale V c from funext fun k => by dsimp only [vec]; blk_ext [iblk0, idx0 t],
    show vec (iblk0 V c 2 t : Vec Ideal S1x1024 .f32) = shift V c from funext fun k => by dsimp only [vec]; blk_ext [iblk0, idx0 t]]

theorem result_array (c : Dev nD) : (dat0 V c).arrAt 3 cfg0.N = arr (result V c) := by
  refine (dat0 V c).arrAt_eq_of_covers 3 _ (by decide +kernel) fun t hf y => ?_
  have hN := pts0 t
  blk_simp
  rw [after0_3]
  refine (congrArg _ (eq_ix2 y)).trans ((out0_3_at _ _ _ (y 0) (y 1)).trans ((result_blk V c t (y 0) (y 1)).trans ?_))
  show arr (result V c) (ix2 (tileRow (at0 t) (y 0)) (y 1)) = arr (result V c) _
  blk_ext [idx0 t]

theorem result_array_low (c : Dev nD) : (dat0 V c).arrAt 4 cfg0.N = arr (result V c) := by
  refine (dat0 V c).arrAt_eq_of_covers 4 _ (by decide +kernel) fun t hf y => ?_
  have hN := pts0 t
  blk_simp
  rw [after0_4]
  refine (congrArg _ (eq_ix2 y)).trans ((out0_4_at _ _ _ (y 0) (y 1)).trans ((result_blk V c t (y 0) (y 1)).trans ?_))
  show arr (result V c) (ix2 (tileRow (at0 t) (y 0)) (y 1)) = arr (result V c) _
  blk_ext [idx0 t]

/-! ### The backward call -/

theorem idx1 : ∀ t : Fin cfg1.N, (cfg1.win 0).index t = ![t.val, 0] ∧ (cfg1.win 1).index t = ![0, 0]
    ∧ (cfg1.win 3).index t = ![t.val, 0] ∧ (cfg1.win 4).index t = ![t.val, 0] := by decide +kernel

theorem pts1 (t : Fin cfg1.N) : t.val < 32 := lt_of_lt_of_eq t.isLt N_1

abbrev at1 (t : Fin cfg1.N) : Fin 32 := ⟨t.val, pts1 t⟩

/-- The gradient of the norm's operand over all rows. -/
abbrev grads (c : Dev nD) : Rows := normGrads (operand V c) (cotangent V c) (scale V c)

theorem operand_blk (c : Dev nD) (t : Fin cfg1.N) (r : Fin 512) :
    mat (iblk1 V c 0 t : Vec Ideal S512x1024 .f32) r = operand V c (tileRow (at1 t) r) := by
  have hN := pts1 t
  funext k
  dsimp only [mat]
  blk_ext [iblk1, idx1 t]

theorem scale_blk (c : Dev nD) (t : Fin cfg1.N) (d : Fin 1024) :
    (iblk1 V c 1 t : Vec Ideal S1x1024 .f32) (ix2 0 d) = scale V c d := by
  have hN := pts1 t
  dsimp only [vec]
  blk_ext [iblk1, idx1 t]

theorem cotangent_blk (c : Dev nD) (t : Fin cfg1.N) (r : Fin 512) (d : Fin 1024) :
    (iblk1 V c 3 t : Vec Ideal S512x1024 .f32) (ix2 r d) = cotangent V c (tileRow (at1 t) r) d := by
  have hN := pts1 t
  dsimp only [mat]
  blk_ext [iblk1, idx1 t]

theorem grads_blk (c : Dev nD) (t : Fin cfg1.N) (r : Fin 512) (d : Fin 1024) :
    gradTile (iblk1 V c 0 t) (iblk1 V c 1 t) (iblk1 V c 3 t) (ix2 r d) = grads V c (tileRow (at1 t) r) d := by
  rw [grad_at, operand_blk]
  simp only [scale_blk, cotangent_blk]
  rfl

theorem grads_at (c : Dev nD) (t : Fin cfg1.N) (r : Fin 512) (d : Fin 1024) :
    (outsAt1 V c t.val t.isLt).1 (ix2 r d) = grads V c (tileRow (at1 t) r) d := by
  rw [← grads_blk]
  by_cases h : t.val % 32 = 0
  · rw [outsAt1_A V c t h]
    frame_out
  · rw [outsAt1_B V c t h]
    frame_out

theorem scale_first (c : Dev nD) (t : Fin cfg1.N) (h : t.val % 32 = 0) (j : S1x1024.Idx) :
    (outsAt1 V c t.val t.isLt).2.1 j
      = 0 + ∑ r : Fin 512, normed (operand V c (tileRow (at1 t) r)) (j 1) * cotangent V c (tileRow (at1 t) r) (j 1) := by
  obtain ⟨u, d, rfl⟩ : ∃ u d, j = ix2 u d := ⟨_, _, eq_ix2 j⟩
  rw [outsAt1_A V c t h]
  frame_out
  pointwise [k1_pay4, k1_pay2, scale_at, operand_blk, cotangent_blk]

theorem scale_later (c : Dev nD) (t : Fin cfg1.N) (h : ¬t.val % 32 = 0) (j : S1x1024.Idx) :
    (outsAt1 V c t.val t.isLt).2.1 j = (outsAt1 V c (t.val - 1) (Nat.lt_of_le_of_lt (Nat.sub_le _ _) t.isLt)).2.1 j
      + ∑ r : Fin 512, normed (operand V c (tileRow (at1 t) r)) (j 1) * cotangent V c (tileRow (at1 t) r) (j 1) := by
  obtain ⟨u, d, rfl⟩ : ∃ u d, j = ix2 u d := ⟨_, _, eq_ix2 j⟩
  rw [outsAt1_B V c t h]
  frame_out
  pointwise [k1_pay4, scale_at, operand_blk, cotangent_blk]

theorem shift_first (c : Dev nD) (t : Fin cfg1.N) (h : t.val % 32 = 0) (j : S1x1024.Idx) :
    (outsAt1 V c t.val t.isLt).2.2 j = 0 + ∑ r : Fin 512, cotangent V c (tileRow (at1 t) r) (j 1) := by
  obtain ⟨u, d, rfl⟩ : ∃ u d, j = ix2 u d := ⟨_, _, eq_ix2 j⟩
  rw [outsAt1_A V c t h]
  frame_out
  pointwise [k1_pay5, k1_pay3, shift_at, cotangent_blk]

theorem shift_later (c : Dev nD) (t : Fin cfg1.N) (h : ¬t.val % 32 = 0) (j : S1x1024.Idx) :
    (outsAt1 V c t.val t.isLt).2.2 j = (outsAt1 V c (t.val - 1) (Nat.lt_of_le_of_lt (Nat.sub_le _ _) t.isLt)).2.2 j
      + ∑ r : Fin 512, cotangent V c (tileRow (at1 t) r) (j 1) := by
  obtain ⟨u, d, rfl⟩ : ∃ u d, j = ix2 u d := ⟨_, _, eq_ix2 j⟩
  rw [outsAt1_B V c t h]
  frame_out
  pointwise [k1_pay5, shift_at, cotangent_blk]

theorem grads_array (c : Dev nD) : (dat1 V c).arrAt 4 cfg1.N = arr (grads V c) := by
  refine (dat1 V c).arrAt_eq_of_covers 4 _ (by decide +kernel) fun t hf y => ?_
  have hN := pts1 t
  blk_simp
  rw [after1_4]
  refine (congrArg _ (eq_ix2 y)).trans ((grads_at V c t (y 0) (y 1)).trans ?_)
  show arr (grads V c) (ix2 (tileRow (at1 t) (y 0)) (y 1)) = arr (grads V c) _
  blk_ext [idx1 t]

abbrev last1 : Fin cfg1.N := ⟨31, by decide +kernel⟩

/-- A sum over the grid's points of sums over a tile's rows. -/
theorem sum_points (f : Fin 16384 → EReal) : ∑ t : Fin cfg1.N, ∑ r : Fin 512, f (tileRow (at1 t) r) = ∑ p, f p :=
  Fin.sum_mul_add_congr (fun _ _ _ => rfl) (by decide +kernel)

theorem scale_array (c : Dev nD) : (dat1 V c).arrAt 5 cfg1.N = rowArr (scaleGrad (operand V c) (cotangent V c)) := by
  refine (dat1 V c).arrAt_eq_of_after_last 5 last1 (by decide +kernel) _ fun j => ?_
  blk_simp
  rw [after1_5]
  refine (Pipeline.eq_sum_fin_of_reset_step_apply_last (fun n h => (outsAt1 V c n h).2.1) 32 (fun _ => 0)
    (fun t j => ∑ r : Fin 512, normed (operand V c (tileRow (at1 t) r)) (j 1) * cotangent V c (tileRow (at1 t) r) (j 1))
    (scale_first V c) (scale_later V c) (le_of_eq N_1) last1 (by decide +kernel) j).trans ?_
  rw [zero_add]
  exact sum_points fun p => normed (operand V c p) (j 1) * cotangent V c p (j 1)

theorem shift_array (c : Dev nD) : (dat1 V c).arrAt 6 cfg1.N = rowArr (colSum (cotangent V c)) := by
  refine (dat1 V c).arrAt_eq_of_after_last 6 last1 (by decide +kernel) _ fun j => ?_
  blk_simp
  rw [after1_6]
  refine (Pipeline.eq_sum_fin_of_reset_step_apply_last (fun n h => (outsAt1 V c n h).2.2) 32 (fun _ => 0)
    (fun t j => ∑ r : Fin 512, cotangent V c (tileRow (at1 t) r) (j 1)) (shift_first V c) (shift_later V c) (le_of_eq N_1) last1
    (by decide +kernel) j).trans ?_
  rw [zero_add]
  exact sum_points fun p => cotangent V c p (j 1)

end Arrays

/-! ## The five results at the end of the run -/

variable (m : (ℓ : Loc nD τ sig) → Buf (Elt Ideal) ℓ) (ρ : Dev nD → PrngReg)

/-- The norm's scale and shift, its operand and the cotangent, as the arguments hold them. -/
abbrev argScale (c : Dev nD) : Row := fun d => (m ((c : Thread nD τ).loc main_arg0) : Vec Ideal S1024 .f32) (ix1 d)
abbrev argShift (c : Dev nD) : Row := fun d => (m ((c : Thread nD τ).loc main_arg1) : Vec Ideal S1024 .f32) (ix1 d)
abbrev argRows (c : Dev nD) : Rows := mat (m ((c : Thread nD τ).loc main_arg2) : Vec Ideal S16384x1024 .f32)
abbrev argCot (c : Dev nD) : Rows := mat (m ((c : Thread nD τ).loc main_arg3) : Vec Ideal S16384x1024 .f32)

theorem entry_scale (c : Dev nD) : scale (V1 m ρ) c = argScale m c := by
  funext d
  dsimp only [scale, vec, V1, W1]
  entry_read
  pointwise

theorem entry_shift (c : Dev nD) : shift (V1 m ρ) c = argShift m c := by
  funext d
  dsimp only [shift, vec, V1, W1]
  entry_read
  pointwise

theorem result_eq (c : Dev nD) : result (V1 m ρ) c = fun p => norm (argRows m c p) (argScale m c) (argShift m c) := by
  unfold result
  rw [entry_scale, entry_shift, operand, show V1 m ρ c main_arg2 = m ((c : Thread nD τ).loc main_arg2) from W1_args m ρ c _ (by decide)]

theorem operand_eq (c : Dev nD) : operand (V2 m ρ) c = argRows m c := by
  rw [operand, show V2 m ρ c main_arg2 = m ((c : Thread nD τ).loc main_arg2) from W2_args m ρ c _ (by decide)]

theorem cotangent_eq (c : Dev nD) : cotangent (V2 m ρ) c = argCot m c := by
  rw [cotangent, show V2 m ρ c main_arg3 = m ((c : Thread nD τ).loc main_arg3) from W2_args m ρ c _ (by decide)]

theorem scale_eq (c : Dev nD) : scale (V2 m ρ) c = argScale m c := by
  rw [← entry_scale m ρ c, scale, scale, show V2 m ρ c main_v0 = V1 m ρ c main_v0 from W2_of m ρ c _ (by decide)]

theorem result_final (c : Dev nD) :
    W3 m ρ c (Proc.devRef .tc main_v2_0) = arr fun p => norm (argRows m c p) (argScale m c) (argShift m c) :=
  (W3_of m ρ c _ (by decide)).trans ((W2_arr m ρ c 3).trans ((result_array (V1 m ρ) c).trans (congrArg arr (result_eq m ρ c))))

theorem result_low_final (c : Dev nD) :
    W3 m ρ c (Proc.devRef .tc main_v2_1) = arr fun p => norm (argRows m c p) (argScale m c) (argShift m c) :=
  (W3_of m ρ c _ (by decide)).trans ((W2_arr m ρ c 4).trans ((result_array_low (V1 m ρ) c).trans (congrArg arr (result_eq m ρ c))))

theorem grads_final (c : Dev nD) :
    W3 m ρ c (Proc.devRef .tc main_v3_0) = arr (normGrads (argRows m c) (argCot m c) (argScale m c)) := by
  refine (W3_arr m ρ c 4).trans ((grads_array (V2 m ρ) c).trans ?_)
  rw [grads, operand_eq, cotangent_eq, scale_eq]

theorem scale_final (c : Dev nD) : W3 m ρ c (Proc.devRef .tc main_v3_1) = rowArr (scaleGrad (argRows m c) (argCot m c)) := by
  refine (W3_arr m ρ c 5).trans ((scale_array (V2 m ρ) c).trans ?_)
  rw [operand_eq, cotangent_eq]

theorem shift_final (c : Dev nD) : W3 m ρ c (Proc.devRef .tc main_v3_2) = rowArr (colSum (argCot m c)) := by
  refine (W3_arr m ρ c 6).trans ((shift_array (V2 m ρ) c).trans ?_)
  rw [cotangent_eq]

end Cert.EntryNorm
-- ==== Proof.EntryRun.lean ====
/- The run of the entry norm's two calls: what every buffer holds when it ends. -/
module

public import proofs.«01_k».proof.Proof.Gen.Kernel12Ideal.Frame

@[expose] public section

noncomputable section

namespace Cert.EntryRun

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each buffer of the device at the contents that the calls leave, one after the other. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.EntryRun
-- ==== Proof.EntryClaims.lean ====
/- The norm at the entry, forward and backward: kernel and reference compute the same arrays. -/
module

public import proofs.«01_k».proof.Defs
public import proofs.«01_k».proof.Proof.Gen.Kernel12.Frame
public import proofs.«01_k».proof.Proof.EntryRef
public import proofs.«01_k».proof.Proof.EntryNorm
public import proofs.«01_k».proof.Proof.EntryRun
public import Idealize.ShloMosaic.Lib.Quiescent

@[expose] public section

set_option maxRecDepth 16384

noncomputable section

namespace Cert.EntryNorm

open Cert.Products Cert.Ffn Idealize.ShloMosaic Idealize.ShloMosaic.TcCoe Idealize.SL.Sem Idealize.ShloMosaic.StableHlo

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono
    (fun r h => ⟨fun c => (h c).2.2.2.2.2, Idealize.ShloMosaic.sem_eq_zero_of_no_sems (by decide) r.2⟩)
    (Cert.Reference12Ideal.Value.run (F := Ideal) m ρ)

/-- Kernel and reference compute the same normed rows and the same three gradients. -/
theorem algebraic : Cert.algebraic_Kernel12Ideal_Reference12Ideal := by
  intro m ρ m' ρ' _ hag
  have hmem := @Cert.Kernel12Ideal.Gen.mem_uc
  refine ⟨fun c => _, fun c => _, fun c => _, fun c => _, fun c => _,
    (θ_run Cert.Kernel12Ideal.defs _ _).mono (fun r h c => ⟨(h c _ (hmem _ (by decide))).trans (result_final m ρ c),
      (h c _ (hmem _ (by decide))).trans (result_low_final m ρ c),
      (h c _ (hmem _ (by decide))).trans (grads_final m ρ c),
      (h c _ (hmem _ (by decide))).trans (scale_final m ρ c),
      (h c _ (hmem _ (by decide))).trans (shift_final m ρ c),
      (h c _ (hmem _ (by decide))).trans (Cert.Kernel12Ideal.Gen.W3_main_arg0 m ρ c),
      (h c _ (hmem _ (by decide))).trans (Cert.Kernel12Ideal.Gen.W3_main_arg1 m ρ c),
      (h c _ (hmem _ (by decide))).trans (Cert.Kernel12Ideal.Gen.W3_main_arg2 m ρ c),
      (h c _ (hmem _ (by decide))).trans (Cert.Kernel12Ideal.Gen.W3_main_arg3 m ρ c)⟩) (Cert.EntryRun.run m ρ),
    (θ_run Cert.Reference12Ideal.defs _ _).mono (fun r h c => ?_) (run_ref m' ρ')⟩
  obtain ⟨h0, h1, h2, h3⟩ := hag c
  have e0 : refScale m' c = argScale m c := by unfold refScale; rw [h0]
  have e1 : refShift m' c = argShift m c := by unfold refShift; rw [h1]
  have e2 : refRows m' c = argRows m c := by unfold refRows; rw [h2]
  have e3 : refCot m' c = argCot m c := by unfold refCot; rw [h3]
  obtain ⟨r0, r1, r2, r3, r4, hargs⟩ := h c
  rw [e0, e1, e2] at r0 r1
  rw [e0, e2, e3] at r2
  rw [e2, e3] at r3
  rw [e3] at r4
  exact ⟨r0, r1, r2, r3, r4, hargs⟩

end Cert.EntryNorm
-- ==== Proof.SguForwardTile.lean ====
/- The spatial gating unit's forward call: a tile of the kernel, and the array it leaves.

   The forward call's tile goes through the same steps as the backward call's first half, so `Tile` names its pieces. -/
module

public import proofs.«01_k».proof.Proof.TileChunks
public import proofs.«01_k».proof.Proof.Whole
public import proofs.«01_k».proof.Proof.Gen.Kernel13Ideal.Value
public import Idealize.ShloMosaic.Lib.Pipeline.ValueKit

@[expose] public section

set_option maxRecDepth 65536

noncomputable section

namespace Cert.SguForward

open Cert.Sgu Cert.Kernel13Ideal Cert.Kernel13Ideal.Gen Idealize.ShloMosaic Idealize.ShloMosaic.TcCoe

/-! ## The result over the whole array -/

/-- The forward call's arguments; there is no cotangent. -/
@[reducible] def dataOf (a0 a1 : FVec Ideal ⟨1, ![512]⟩ .f32) (a2 : FVec Ideal ⟨3, ![4, 128, 128]⟩ .f32) (a3 : FVec Ideal ⟨2, ![4, 128]⟩ .f32)
    (a4 : FVec Ideal ⟨2, ![16384, 1024]⟩ .bf16) : Data := Data.of a0 a1 a2 a3 a4 fun _ => 0

/-- The unit's result in row `p` of a chunk: the gating half times the mixed values. -/
def chunkResult (D : Data) (k p : Fin 128) (d : Fin 512) : EReal :=
  upper (chunkAt D.X k p) d * mixed D.W D.B (lnChunk D.G D.S (chunkAt D.X k)) p d

def resultArr (D : Data) : FVec Ideal ⟨2, ![16384, 512]⟩ .bf16 := fun j =>
  chunkResult D ⟨(j 0).val / 128, Nat.div_lt_of_lt_mul (j 0).isLt⟩ ⟨(j 0).val % 128, Nat.mod_lt _ (by decide)⟩ (j 1)

theorem resultArr_at (D : Data) (k p : Fin 128) (d : Fin 512) : resultArr D (ix2 (wholeRow k p) d) = chunkResult D k p d := by
  have hk : (⟨(wholeRow k p).val / 128, by omega⟩ : Fin 128) = k := Fin.ext (by dsimp only; omega)
  have hp : (⟨(wholeRow k p).val % 128, by omega⟩ : Fin 128) = p := Fin.ext (by dsimp only; omega)
  exact congrArg₂ (fun k' p' => chunkResult D k' p' d) hk hp

/-! ## One tile of 512 rows -/

section Tile
variable (x0 : Vec Ideal S512x1024 .bf16) (x1 x2 : Vec Ideal S1x512 .f32) (x3 : Vec Ideal S512x128 .f32) (x4 : Vec Ideal S128x4 .f32)

/-- What the body stores: the gating half times the mixed tile. -/
theorem out_eq : out0_5 x0 x1 x2 x3 x4
    = truncf .bf16 (mulf (Cert.KernelIdeal.Gen.k0_pay19 x0)
        (mixTile (Cert.KernelIdeal.Gen.k0_pay12 x3) (Cert.KernelIdeal.Gen.k0_pay13 x4) (lnTile x0 x1 x2))) bitsLt_bf16_f32 := by
  unfold_out out0_5
  frame_out
  rfl

theorem out_at (a : Fin 4) (p : Fin 128) (d : Fin 512) : out0_5 x0 x1 x2 x3 x4 (ix2 (tileRow a p) d)
    = upper (rowOf x0 (tileRow a p)) d
        * mixed (matsOf (Cert.KernelIdeal.Gen.k0_pay12 x3)) (offsOf (Cert.KernelIdeal.Gen.k0_pay13 x4)) (chunkOf (lnTile x0 x1 x2) a) p d := by
  rw [out_eq]
  pointwise [upper_at, mixTile_at]

end Tile

/-! ## The array -/

variable (m : (ℓ : Loc nD τ sig) → Buf (Elt Ideal) ℓ)

/-- The kernel's arguments as launched. -/
@[reducible] def dataK (c : Dev nD) : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4))

theorem idx : ∀ t : Fin cfg0.N, (cfg0.win 0).index t = ![t.val, 0] ∧ (cfg0.win 1).index t = ![0, 0] ∧ (cfg0.win 2).index t = ![0, 0]
    ∧ (cfg0.win 3).index t = ![0, 0] ∧ (cfg0.win 4).index t = ![0, 0] ∧ (cfg0.win 5).index t = ![t.val, 0] := by decide +kernel

theorem pts (t : Fin cfg0.N) : t.val < 32 := lt_of_lt_of_eq t.isLt N_0

/-- Row `r` of tile `t`. -/
abbrev ptRow (t : Fin cfg0.N) (r : Fin 512) : Fin 16384 := ⟨t.val * 512 + r.val, by have := pts t; omega⟩

/-- Chunk `a` of tile `t`, counted over the whole array. -/
abbrev ptChunk (t : Fin cfg0.N) (a : Fin 4) : Fin 128 := ⟨t.val * 4 + a.val, by have := pts t; omega⟩

theorem ptRow_tileRow (t : Fin cfg0.N) (a : Fin 4) (p : Fin 128) : ptRow t (tileRow a p) = wholeRow (ptChunk t a) p :=
  Fin.ext (by dsimp only; omega)

theorem blk0_at (c : Dev nD) (t : Fin cfg0.N) (r : Fin 512) (l : Fin 1024) :
    (iblk m c 0 t : Vec Ideal S512x1024 .bf16) (ix2 r l) = (dataK m c).X (ptRow t r) l := by
  blk_ext [iblk, V, idx t]

theorem rowOf_at (c : Dev nD) (t : Fin cfg0.N) (a : Fin 4) (p : Fin 128) :
    rowOf (iblk m c 0 t) (tileRow a p) = chunkAt (dataK m c).X (ptChunk t a) p :=
  funext fun l => by rw [rowOf, blk0_at, ptRow_tileRow]

theorem blk1_at (c : Dev nD) (t : Fin cfg0.N) (d : Fin 512) :
    (iblk m c 1 t : Vec Ideal S1x512 .f32) (ix2 0 d) = (dataK m c).G d := by
  refine Eq.trans (b := (V m c main_v0 : Vec Ideal S1x512 .f32) (ix2 0 d)) ?_ ?_
  · blk_ext [iblk, idx t]
  · entry_read
    pointwise

theorem blk2_at (c : Dev nD) (t : Fin cfg0.N) (d : Fin 512) :
    (iblk m c 2 t : Vec Ideal S1x512 .f32) (ix2 0 d) = (dataK m c).S d := by
  refine Eq.trans (b := (V m c main_v1 : Vec Ideal S1x512 .f32) (ix2 0 d)) ?_ ?_
  · blk_ext [iblk, idx t]
  · entry_read
    pointwise

theorem blk3_at (c : Dev nD) (t : Fin cfg0.N) (g : Fin 4) (p q : Fin 128) :
    (iblk m c 3 t : Vec Ideal S512x128 .f32) (ix2 (tileRow g p) q) = (dataK m c).W g p q := by
  refine Eq.trans (b := (V m c main_v2 : Vec Ideal S512x128 .f32) (ix2 (tileRow g p) q)) ?_ ?_
  · blk_ext [iblk, idx t]
  · entry_read
    pointwise
    congr 2
    · exact Fin.ext (by dsimp only; omega)
    · exact Fin.ext (by dsimp only; omega)

theorem blk4_at (c : Dev nD) (t : Fin cfg0.N) (g : Fin 4) (p : Fin 128) :
    (iblk m c 4 t : Vec Ideal S128x4 .f32) (ix2 p g) = (dataK m c).B g p := by
  refine Eq.trans (b := (V m c main_v3 : Vec Ideal S128x4 .f32) (ix2 p g)) ?_ ?_
  · blk_ext [iblk, idx t]
  · entry_read
    pointwise

theorem mats_at (c : Dev nD) (t : Fin cfg0.N) : matsOf (Cert.KernelIdeal.Gen.k0_pay12 (iblk m c 3 t)) = (dataK m c).W := by
  funext g p q
  refine Eq.trans ?_ (blk3_at m c t g p q)
  pointwise [Cert.KernelIdeal.Gen.k0_pay12]

theorem offs_block_at (c : Dev nD) (t : Fin cfg0.N) : offsOf (Cert.KernelIdeal.Gen.k0_pay13 (iblk m c 4 t)) = (dataK m c).B := by
  funext g p
  refine Eq.trans ?_ (blk4_at m c t g p)
  pointwise [Cert.KernelIdeal.Gen.k0_pay13]

theorem ln_chunk (c : Dev nD) (t : Fin cfg0.N) (a : Fin 4) :
    chunkOf (lnTile (iblk m c 0 t) (iblk m c 1 t) (iblk m c 2 t)) a
      = lnChunk (dataK m c).G (dataK m c).S (chunkAt (dataK m c).X (ptChunk t a)) := by
  funext p d
  rw [chunkOf, ln_at, rowOf_at, blk1_at, blk2_at, lnChunk]

theorem result_tile (c : Dev nD) (t : Fin cfg0.N) (r d : Fin 512) :
    out0_5 (iblk m c 0 t) (iblk m c 1 t) (iblk m c 2 t) (iblk m c 3 t) (iblk m c 4 t) (ix2 r d)
      = resultArr (dataK m c) (ix2 (ptRow t r) d) := by
  obtain ⟨a, p, rfl⟩ := row_cases r
  rw [out_at, ptRow_tileRow, resultArr_at, chunkResult, rowOf_at, mats_at, offs_block_at, ln_chunk]

/-- The kernel's array is the unit's result over all rows. -/
theorem array (c : Dev nD) : (dats m 0 c).arrAt 5 cfg0.N = resultArr (dataK m c) := by
  refine (dats m 0 c).arrAt_eq_of_covers 5 _ (by decide +kernel) fun t hf y => ?_
  blk_simp
  rw [after0_5]
  refine (congrArg _ (eq_ix2 _)).trans ((result_tile m c t (y 0) (y 1)).trans (congrArg _ ?_))
  blk_ext [idx t]

end Cert.SguForward
-- ==== Proof.SguForward.lean ====
/- The spatial gating unit's forward call: what the reference computes, and the claims. -/
module

public import proofs.«01_k».proof.Defs
public import proofs.«01_k».proof.Proof.Gen.Kernel13.Frame
public import proofs.«01_k».proof.Proof.Gen.Reference13Ideal.Run
public import proofs.«01_k».proof.Proof.Ref
public import proofs.«01_k».proof.Proof.SguForwardTile
public import Idealize.ShloMosaic.Lib.Quiescent

@[expose] public section

set_option maxRecDepth 16384

noncomputable section

namespace Cert.SguForward

open Cert.Sgu Idealize.ShloMosaic Idealize.ShloMosaic.TcCoe Idealize.SL.Sem Idealize.ShloMosaic.StableHlo

section Reference
open Cert.Reference13Ideal Cert.Reference13Ideal.Gen Cert.Reference13Ideal.Value

section Terms
variable (G S : Vec Ideal S512 .f32) (W : Vec Ideal S4x128x128 .f32) (B : Vec Ideal S4x128 .f32) (X : Vec Ideal S16384x1024 .bf16)

/-- One number at every place. -/
def overAll (b : BitVec 32) : FVec Ideal S16384x1024 .f32 := broadcastInDim S16384x1024 ![] bcast_S_S16384x1024 (constant (F := Ideal) S_ .f32 b)

/-- The rows in the wide type. -/
def wideTerm : FVec Ideal S16384x1024 .f32 := extf .f32 X bitsLt_bf16_f32

def actTerm : FVec Ideal S16384x1024 .f32 :=
  mulf (wideTerm X) (mulf (overAll 0x3F000000#32) (addf (overAll 0x3F800000#32) (Host.tanh (mulf (overAll 0x3F4C422A#32)
    (addf (wideTerm X) (mulf (overAll 0x3D372713#32) (mulf (mulf (wideTerm X) (wideTerm X)) (wideTerm X))))))))

/-- The mean of each row. -/
def meanTerm (x : FVec Ideal S16384x512 .f32) : FVec Ideal S16384x1 .f32 :=
  Host.divf (broadcastInDim S16384x1 ![0] bcast_S16384_S16384x1_0 (Host.reduceAdd x (constant (F := Ideal) S_ .f32 0x00000000#32) reducesTo_S16384x512_S16384_d1 h_S_))
    (broadcastInDim S16384x1 ![] bcast_S_S16384x1 (constant (F := Ideal) S_ .f32 0x44000000#32))

def lowerTerm : FVec Ideal S16384x512 .f32 := extractStridedSlice S16384x512 ![0, 512] (actTerm X) slices_S16384x1024_S16384x512_0_512

def centredTerm : FVec Ideal S16384x512 .f32 :=
  subf (lowerTerm X) (broadcastInDim S16384x512 ![0, 1] bcast_S16384x1_S16384x512_0_1 (meanTerm (lowerTerm X)))

def spreadTerm : FVec Ideal S16384x1 .f32 :=
  addf (meanTerm (mulf (centredTerm X) (centredTerm X))) (broadcastInDim S16384x1 ![] bcast_S_S16384x1 (constant (F := Ideal) S_ .f32 0x3727C5AC#32))

/-- A row of numbers laid over all rows. -/
def overRows (b : Vec Ideal S512 .f32) : FVec Ideal S16384x512 .f32 :=
  broadcastInDim S16384x512 ![0, 1] bcast_S1x512_S16384x512_0_1 (broadcastInDim S1x512 ![1] bcast_S512_S1x512_1 b)

def lnTerm : FVec Ideal S16384x512 .f32 :=
  addf (mulf (mulf (centredTerm X) (broadcastInDim S16384x512 ![0, 1] bcast_S16384x1_S16384x512_0_1 (Host.rsqrt (spreadTerm X)))) (overRows G)) (overRows S)

def triTerm : FVec Ideal S4x128x128 .f32 :=
  select (broadcastInDim S4x128x128 ![1, 2] bcast_S128x128_S4x128x128_1_2 (cmpi .sge (addi (iotaInDim S128x128 32 0)
    (broadcastInDim S128x128 ![] bcast_S_S128x128 (constantI S_ 32 0#32))) (iotaInDim S128x128 32 1))) W
    (broadcastInDim S4x128x128 ![] bcast_S_S4x128x128 (constant (F := Ideal) S_ .f32 0x00000000#32))

/-- The mixed values. -/
def mixedTerm : FVec Ideal S16384x512 .f32 :=
  shapeCast _ (addf (transpose S128x128x4x128 [1, 3, 0, 2] (Host.dotGeneral (F := Ideal) dot_S128x128x4x128_S4x128x128_S4x128x128x128_1_2_03_1_2_0 none
      (shapeCast _ (lnTerm G S X) shapeCasts_S16384x512_S128x128x4x128) (triTerm W)) transposes_S4x128x128x128_S128x128x4x128_1_3_0_2)
    (broadcastInDim S128x128x4x128 ![0, 1, 2, 3] bcast_S1x128x4x1_S128x128x4x128_0_1_2_3 (broadcastInDim S1x128x4x1 ![1, 2] bcast_S128x4_S1x128x4x1_1_2
      (transpose S128x4 [1, 0] B transposes_S4x128_S128x4_1_0)))) shapeCasts_S128x128x4x128_S16384x512

def resultTerm : FVec Ideal S16384x512 .bf16 :=
  truncf .bf16 (mulf (extractStridedSlice S16384x512 ![0, 0] (actTerm X) slices_S16384x1024_S16384x512_0_0) (mixedTerm G S W B X)) bitsLt_bf16_f32

theorem actTerm_at (r : Fin 16384) (l : Fin 1024) : actTerm X (ix2 r l) = act (X (ix2 r l)) := by
  pointwise [actTerm, wideTerm, overAll, act, gate, th]
  rw [mul_comm (_ * _) (X _)]

theorem meanTerm_at (x : FVec Ideal S16384x512 .f32) (r : Fin 16384) (u : Fin 1) :
    meanTerm x (ix2 r u) = Ideal.div (∑ k : Fin 512, x (ix2 r k)) lanesN := by
  pointwise [meanTerm]

theorem lowerTerm_at (r : Fin 16384) (d : Fin 512) : lowerTerm X (ix2 r d) = lowerHalf (fun l => X (ix2 r l)) d := by
  pointwise [lowerTerm, actTerm_at, lowerHalf]

theorem centredTerm_at (r : Fin 16384) (d : Fin 512) : centredTerm X (ix2 r d) = centred (fun l => X (ix2 r l)) d := by
  pointwise [centredTerm, lowerTerm_at, meanTerm_at, centred]

theorem spreadTerm_at (r : Fin 16384) (u : Fin 1) : spreadTerm X (ix2 r u) = spread (fun l => X (ix2 r l)) := by
  pointwise [spreadTerm, centredTerm_at, meanTerm_at, spread]

theorem overRows_at (b : Vec Ideal S512 .f32) (r : Fin 16384) (d : Fin 512) : overRows b (ix2 r d) = b (ix1 d) := by
  pointwise [overRows]

theorem lnTerm_at (r : Fin 16384) (d : Fin 512) :
    lnTerm G S X (ix2 r d) = normed (fun l => X (ix2 r l)) d * G (ix1 d) + S (ix1 d) := by
  pointwise [lnTerm, centredTerm_at, spreadTerm_at, overRows_at, normed, rstd]

theorem triTerm_at (g : Fin 4) (p q : Fin 128) : triTerm W (ix3 g p q) = tri (fun g p q => W (ix3 g p q)) g p q := by
  pointwise [triTerm, tri]
  exact select_row_ge_zero p q _ _

theorem mixedTerm_at (k p : Fin 128) (d : Fin 512) :
    mixedTerm G S W B X (ix2 (wholeRow k p) d)
      = mixed (dataOf G S W B X).W (dataOf G S W B X).B (lnChunk (dataOf G S W B X).G (dataOf G S W B X).S (chunkAt (dataOf G S W B X).X k)) p d := by
  pointwise [mixedTerm, lnTerm_at, triTerm_at, row_div, row_mod, lane_grp]
  rw [mixed]
  congr 1
  exact Finset.sum_congr rfl fun q _ => mul_comm _ _

theorem result_term : resultTerm G S W B X = resultArr (dataOf G S W B X) := by
  funext j
  obtain ⟨r, d, rfl⟩ : ∃ r d, j = ix2 r d := ⟨_, _, eq_ix2 j⟩
  obtain ⟨k, p, rfl⟩ := row_split r
  rw [resultArr_at, chunkResult]
  pointwise [resultTerm, actTerm_at, mixedTerm_at, upper]

end Terms

variable (m : (ℓ : Loc nD τ sig) → Buf (Elt Ideal) ℓ)

/-- The reference's arguments as launched. -/
@[reducible] def dataR (c : Dev nD) : Data :=
  dataOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem ref_array (c : Dev nD) : res_out0 m c = resultArr (dataR m c) := by
  refine Eq.trans ?_ (result_term _ _ _ _ _)
  unfold res_out0 res_main_v48
  rfl

end Reference

/-! ## The claims -/

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- Kernel and reference compute the same result of the gating unit. -/
theorem algebraic : Cert.algebraic_Kernel13Ideal_Reference13Ideal := by
  intro m ρ m' ρ' _ hag
  refine ⟨fun c => resultArr (dataK m c), ?_, ?_⟩
  · exact (θ_run Cert.Kernel13Ideal.defs _ _).mono (fun _ h c => ⟨(h c).1.trans (array m c), (h c).2⟩) (Cert.Kernel13Ideal.Value.run_blocks (F := Ideal) m ρ)
  · refine (θ_run Cert.Reference13Ideal.defs _ _).mono (fun _ h c => ?_) (Cert.Reference13Ideal.Value.run (F := Ideal) m' ρ')
    obtain ⟨h0, h1, h2, h3, h4⟩ := hag c
    refine ⟨(h c).1.trans ((ref_array m' c).trans ?_), (h c).2⟩
    have e : dataR m' c = dataK m c := by unfold dataR; rw [h0, h1, h2, h3, h4]
    beta_reduce
    rw [e]

end Cert.SguForward
-- ==== Proof.Loss.lean ====
/- The loss: what its call leaves in its two arrays, the share of the loss that every lane gathers and the gradient of the last layer's output. -/
module

public import proofs.«01_k».proof.Proof.FfnSpec
public import proofs.«01_k».proof.Proof.Gen.Kernel14Ideal.Run
public import Idealize.ShloMosaic.Lib.Pipeline.ValueKit

@[expose] public section

set_option maxRecDepth 65536

noncomputable section

namespace Cert.Loss

open Cert.Products Cert.Ffn Idealize.ShloMosaic Idealize.ShloMosaic.TcCoe

/-! ## The mathematics -/

/-- Half of one over the 1024 columns, the weight of a square in the loss. -/
abbrev weight : EReal := Ideal.ofBits FTy.f32 0x3A000000#32

/-- One over the 1024 columns, the weight of a difference in the gradient. -/
abbrev slope : EReal := Ideal.ofBits FTy.f32 0x3A800000#32

theorem weight_eq : weight = ((1 / 2048 : ℝ) : EReal) := by
  simp [weight, Ideal.ofBits, Ideal.ieee, -EReal.coe_mul]; norm_num

theorem slope_eq : slope = ((1 / 1024 : ℝ) : EReal) := by
  simp [slope, Ideal.ofBits, Ideal.ieee, -EReal.coe_mul]; norm_num

/-- A positive number may be taken out of a sum, whatever the terms are. -/
theorem sum_mul_coe {ι : Type*} (s : Finset ι) (f : ι → EReal) {w : ℝ} (hw : 0 ≤ w) :
    ∑ i ∈ s, f i * (w : EReal) = (∑ i ∈ s, f i) * (w : EReal) := by
  classical
  induction s using Finset.induction_on with
  | empty => simp
  | insert a s ha ih =>
    rw [Finset.sum_insert ha, Finset.sum_insert ha, ih,
      EReal.right_distrib_of_nonneg_of_ne_top (EReal.coe_nonneg.mpr hw) (EReal.coe_ne_top w)]

/-- The difference between the last layer's output and the target. -/
abbrev diff (y t : Rows) : Rows := fun p d => y p d - t p d

/-- Its square. -/
abbrev sq (y t : Rows) : Rows := fun p d => diff y t p d * diff y t p d

/-- The loss: the squares of all entries, weighted. -/
def total (y t : Rows) : EReal := (∑ p, ∑ d, sq y t p d) * weight

/-- The gradient of the loss. -/
abbrev grads (y t : Rows) : Rows := fun p d => diff y t p d * slope

/-- Row `s` of the `j`-th group of eight rows of a tile, and lane `l` of the `k`-th group of 128 columns. -/
abbrev row (j : Fin 64) (s : Fin 8) : Fin 512 := ⟨j.val * 8 + s.val, by omega⟩
abbrev lane (k : Fin 8) (l : Fin 128) : Fin 1024 := ⟨k.val * 128 + l.val, by omega⟩

/-- What tile `t` adds at sublane `s` and lane `l`. -/
abbrev share (y t : Rows) (i : Fin 32) (s : Fin 8) (l : Fin 128) : EReal :=
  (∑ j : Fin 64, ∑ k : Fin 8, sq y t (tileRow i (row j s)) (lane k l)) * weight

/-- The shares of all tiles, sublanes and lanes make up the loss. -/
theorem sum_shares (y t : Rows) : ∑ s : Fin 8, ∑ l : Fin 128, ∑ i : Fin 32, share y t i s l = total y t := by
  unfold share total
  rw [weight_eq]
  simp only [sum_mul_coe _ _ (show (0 : ℝ) ≤ 1 / 2048 by norm_num)]
  refine congrArg (· * _) ?_
  calc ∑ s : Fin 8, ∑ l : Fin 128, ∑ i : Fin 32, ∑ j : Fin 64, ∑ k : Fin 8, sq y t (tileRow i (row j s)) (lane k l)
      = ∑ s : Fin 8, ∑ i : Fin 32, ∑ l : Fin 128, ∑ j : Fin 64, ∑ k : Fin 8, sq y t (tileRow i (row j s)) (lane k l) :=
        Finset.sum_congr rfl fun _ _ => Finset.sum_comm
    _ = ∑ i : Fin 32, ∑ s : Fin 8, ∑ l : Fin 128, ∑ j : Fin 64, ∑ k : Fin 8, sq y t (tileRow i (row j s)) (lane k l) := Finset.sum_comm
    _ = ∑ i : Fin 32, ∑ s : Fin 8, ∑ j : Fin 64, ∑ l : Fin 128, ∑ k : Fin 8, sq y t (tileRow i (row j s)) (lane k l) :=
        Finset.sum_congr rfl fun _ _ => Finset.sum_congr rfl fun _ _ => Finset.sum_comm
    _ = ∑ i : Fin 32, ∑ j : Fin 64, ∑ s : Fin 8, ∑ l : Fin 128, ∑ k : Fin 8, sq y t (tileRow i (row j s)) (lane k l) :=
        Finset.sum_congr rfl fun _ _ => Finset.sum_comm
    _ = ∑ i : Fin 32, ∑ j : Fin 64, ∑ s : Fin 8, ∑ k : Fin 8, ∑ l : Fin 128, sq y t (tileRow i (row j s)) (lane k l) :=
        Finset.sum_congr rfl fun _ _ => Finset.sum_congr rfl fun _ _ => Finset.sum_congr rfl fun _ _ => Finset.sum_comm
    _ = ∑ i : Fin 32, ∑ j : Fin 64, ∑ s : Fin 8, ∑ d : Fin 1024, sq y t (tileRow i (row j s)) d :=
        Finset.sum_congr rfl fun i _ => Finset.sum_congr rfl fun j _ => Finset.sum_congr rfl fun s _ =>
          Fin.sum_mul_add_congr (f := fun d : Fin 1024 => sq y t (tileRow i (row j s)) d) (fun _ _ _ => rfl) rfl
    _ = ∑ i : Fin 32, ∑ r : Fin 512, ∑ d : Fin 1024, sq y t (tileRow i r) d :=
        Finset.sum_congr rfl fun i _ =>
          Fin.sum_mul_add_congr (f := fun r : Fin 512 => ∑ d : Fin 1024, sq y t (tileRow i r) d) (fun _ _ _ => rfl) rfl
    _ = ∑ p, ∑ d, sq y t p d := sum_tiles fun p => ∑ d, sq y t p d

/-! ## One tile of 512 rows -/

open Cert.Kernel14Ideal Cert.Kernel14Ideal.Gen

section Tile
variable (x0 x1 : Vec Ideal S512x1024 .f32) (old : Vec Ideal S8x128 .f32)

/-- The squares of a tile. -/
abbrev tileSq (r : Fin 512) (d : Fin 1024) : EReal := (x0 (ix2 r d) - x1 (ix2 r d)) * (x0 (ix2 r d) - x1 (ix2 r d))

theorem lanes_at (r : Fin 512) (l : Fin 128) : k0_pay5 (F := Ideal) x0 x1 (ix2 r l) = ∑ k : Fin 8, tileSq x0 x1 r (lane k l) := by
  simp only [Fin.sum_univ_castSucc, Finset.univ_eq_empty, Finset.sum_empty, lane, Fin.val_castSucc, Fin.val_last, Nat.reduceMul, zero_mul, zero_add]
  pointwise [k0_pay5, k0_pay3]

/-- The sum of the first twelve groups of eight rows, as the kernel adds them. -/
theorem twelve_at (s : Fin 8) (l : Fin 128) :
    k0_pay6 (F := Ideal) x0 x1 (ix2 s l) = ∑ j : Fin 12, k0_pay5 (F := Ideal) x0 x1 (ix2 (⟨j.val * 8 + s.val, by omega⟩ : Fin 512) l) := by
  simp only [Fin.sum_univ_castSucc, Finset.univ_eq_empty, Finset.sum_empty, Fin.val_castSucc, Fin.val_last, Nat.reduceMul, zero_mul, zero_add]
  pointwise [k0_pay6]

/-- The sum of all 64 groups. -/
theorem groups_at (v : FVec Ideal S512x128 .f32) (w : FVec Ideal S8x128 .f32) (s : Fin 8) (l : Fin 128)
    (hw : w (ix2 s l) = ∑ j : Fin 12, v (ix2 (⟨j.val * 8 + s.val, by omega⟩ : Fin 512) l)) :
    k0_pay1 (F := Ideal) v (k0_pay7 v w) old (ix2 s l) = old (ix2 s l) + (∑ j : Fin 64, v (ix2 (row j s) l)) * weight := by
  simp only [Fin.sum_univ_castSucc, Finset.univ_eq_empty, Finset.sum_empty, row, Fin.val_castSucc, Fin.val_last, Nat.reduceMul, zero_mul, zero_add]
    at hw ⊢
  pointwise [k0_pay1, k0_pay7, hw]

theorem sums_at (s : Fin 8) (l : Fin 128) :
    k0_pay1 (F := Ideal) (k0_pay5 x0 x1) (k0_pay7 (k0_pay5 x0 x1) (k0_pay6 x0 x1)) old (ix2 s l)
      = old (ix2 s l) + (∑ j : Fin 64, ∑ k : Fin 8, tileSq x0 x1 (row j s) (lane k l)) * weight := by
  rw [groups_at old _ _ s l (twelve_at x0 x1 s l)]
  simp only [lanes_at]

theorem slope_at (r : Fin 512) (d : Fin 1024) :
    k0_pay4 (F := Ideal) x0 x1 (ix2 r d) = (x0 (ix2 r d) - x1 (ix2 r d)) * slope := by
  pointwise [k0_pay4, k0_pay3]

end Tile

/-! ## The arrays -/

variable (m : (ℓ : Loc nD τ sig) → Buf (Elt Ideal) ℓ)

/-- The last layer's output and the target, as the arguments hold them. -/
abbrev argOut (c : Dev nD) : Rows := mat (m ((c : Thread nD τ).loc main_arg0) : Vec Ideal S16384x1024 .f32)
abbrev argTarget (c : Dev nD) : Rows := mat (m ((c : Thread nD τ).loc main_arg1) : Vec Ideal S16384x1024 .f32)

theorem idx : ∀ t : Fin cfg0.N, (cfg0.win 0).index t = ![t.val, 0] ∧ (cfg0.win 1).index t = ![t.val, 0]
    ∧ (cfg0.win 3).index t = ![t.val, 0] := by decide +kernel

theorem pts (t : Fin cfg0.N) : t.val < 32 := lt_of_lt_of_eq t.isLt N_0

abbrev tile (t : Fin cfg0.N) : Fin 32 := ⟨t.val, pts t⟩

theorem out_blk (c : Dev nD) (t : Fin cfg0.N) (r : Fin 512) (d : Fin 1024) :
    (iblk m c 0 t : Vec Ideal S512x1024 .f32) (ix2 r d) = argOut m c (tileRow (tile t) r) d := by
  have hN := pts t
  dsimp only [mat]
  blk_ext [iblk, V, idx t]

theorem target_blk (c : Dev nD) (t : Fin cfg0.N) (r : Fin 512) (d : Fin 1024) :
    (iblk m c 1 t : Vec Ideal S512x1024 .f32) (ix2 r d) = argTarget m c (tileRow (tile t) r) d := by
  have hN := pts t
  dsimp only [mat]
  blk_ext [iblk, V, idx t]

theorem sums_blk (c : Dev nD) (t : Fin cfg0.N) (old : Vec Ideal S8x128 .f32) (s : Fin 8) (l : Fin 128) :
    k0_pay1 (F := Ideal) (k0_pay5 (iblk m c 0 t) (iblk m c 1 t)) (k0_pay7 (k0_pay5 (iblk m c 0 t) (iblk m c 1 t))
        (k0_pay6 (iblk m c 0 t) (iblk m c 1 t))) old (ix2 s l)
      = old (ix2 s l) + share (argOut m c) (argTarget m c) (tile t) s l := by
  rw [sums_at]
  simp only [tileSq, out_blk, target_blk]

theorem first (c : Dev nD) (t : Fin cfg0.N) (h : t.val % 32 = 0) (j : S8x128.Idx) :
    (outsAt0 m c t.val t.isLt).1 j = 0 + share (argOut m c) (argTarget m c) (tile t) (j 0) (j 1) := by
  obtain ⟨s, l, rfl⟩ : ∃ s l, j = ix2 s l := ⟨_, _, eq_ix2 j⟩
  rw [outsAt0_A m c t h]
  frame_out
  refine (sums_blk m c t _ s l).trans (congrArg (· + _) ?_)
  pointwise [k0_pay2]

theorem later (c : Dev nD) (t : Fin cfg0.N) (h : ¬t.val % 32 = 0) (j : S8x128.Idx) :
    (outsAt0 m c t.val t.isLt).1 j = (outsAt0 m c (t.val - 1) (Nat.lt_of_le_of_lt (Nat.sub_le _ _) t.isLt)).1 j
      + share (argOut m c) (argTarget m c) (tile t) (j 0) (j 1) := by
  obtain ⟨s, l, rfl⟩ : ∃ s l, j = ix2 s l := ⟨_, _, eq_ix2 j⟩
  rw [outsAt0_B m c t h]
  frame_out
  exact sums_blk m c t _ s l

theorem grads_at (c : Dev nD) (t : Fin cfg0.N) (r : Fin 512) (d : Fin 1024) :
    (outsAt0 m c t.val t.isLt).2 (ix2 r d) = grads (argOut m c) (argTarget m c) (tileRow (tile t) r) d := by
  have e : k0_pay4 (F := Ideal) (iblk m c 0 t) (iblk m c 1 t) (ix2 r d) = grads (argOut m c) (argTarget m c) (tileRow (tile t) r) d := by
    rw [slope_at]
    simp only [out_blk, target_blk]
  rw [← e]
  by_cases h : t.val % 32 = 0
  · rw [outsAt0_A m c t h]
    frame_out
  · rw [outsAt0_B m c t h]
    frame_out

abbrev last : Fin cfg0.N := ⟨31, by decide +kernel⟩

theorem shares_array (c : Dev nD) : (dats m 0 c).arrAt 2 cfg0.N
    = arr fun (s : Fin 8) (l : Fin 128) => ∑ i : Fin 32, share (argOut m c) (argTarget m c) i s l := by
  refine (dats m 0 c).arrAt_eq_of_after_last 2 last (by decide +kernel) _ fun j => ?_
  blk_simp
  rw [after0_2]
  refine (Pipeline.eq_sum_fin_of_reset_step_apply_last (fun n h => (outsAt0 m c n h).1) 32 (fun _ => 0)
    (fun t j => share (argOut m c) (argTarget m c) (tile t) (j 0) (j 1)) (first m c) (later m c) (le_of_eq N_0) last (by decide +kernel) j).trans ?_
  rw [zero_add]
  exact Fin.sum_congr' (fun i : Fin 32 => share (argOut m c) (argTarget m c) i (j 0) (j 1)) N_0

theorem grads_array (c : Dev nD) : (dats m 0 c).arrAt 3 cfg0.N = arr (grads (argOut m c) (argTarget m c)) := by
  refine (dats m 0 c).arrAt_eq_of_covers 3 _ (by decide +kernel) fun t hf y => ?_
  have hN := pts t
  blk_simp
  rw [after0_3]
  refine (congrArg _ (eq_ix2 y)).trans ((grads_at m c t (y 0) (y 1)).trans ?_)
  show arr (grads (argOut m c) (argTarget m c)) (ix2 (tileRow (tile t) (y 0)) (y 1)) = arr (grads (argOut m c) (argTarget m c)) _
  blk_ext [idx t]

end Cert.Loss
-- ==== Proof.LossClaims.lean ====
/- The loss and the gradient of the last layer's output: kernel and reference compute the same. -/
module

public import proofs.«01_k».proof.Defs
public import proofs.«01_k».proof.Proof.Gen.Kernel14.Frame
public import proofs.«01_k».proof.Proof.Gen.Reference14Ideal.Run
public import proofs.«01_k».proof.Proof.Loss
public import Idealize.ShloMosaic.Lib.Quiescent

@[expose] public section

set_option maxRecDepth 16384

noncomputable section

namespace Cert.Loss

open Cert.Products Cert.Ffn Idealize.ShloMosaic Idealize.ShloMosaic.TcCoe Idealize.SL.Sem Idealize.ShloMosaic.StableHlo

/-! ## The numbers of the reference -/

theorem half_eq : Ideal.ofBits FTy.f32 0x3F000000#32 = ((1 / 2 : ℝ) : EReal) := by
  simp [Ideal.ofBits, Ideal.ieee, -EReal.coe_mul]; norm_num

theorem one_eq : Ideal.ofBits FTy.f32 0x3F800000#32 = ((1 : ℝ) : EReal) := by
  simp [Ideal.ofBits, Ideal.ieee, -EReal.coe_mul]; try norm_num

theorem two_eq : Ideal.ofBits FTy.f32 0x40000000#32 = ((2 : ℝ) : EReal) := by
  simp [Ideal.ofBits, Ideal.ieee, -EReal.coe_mul]; norm_num

theorem columns_eq : Ideal.ofBits FTy.f32 0x44800000#32 = ((1024 : ℝ) : EReal) := by
  simp [Ideal.ofBits, Ideal.ieee, -EReal.coe_mul]; norm_num

theorem div_columns (x : EReal) : Ideal.div x (Ideal.ofBits FTy.f32 0x44800000#32) = x * ((1 / 1024 : ℝ) : EReal) := by
  rw [columns_eq, Ideal.div_coe (by norm_num)]

/-- Half of the sum of the rows' means is the loss. -/
theorem half_means (y t : Rows) :
    Ideal.ofBits FTy.f32 0x3F000000#32 * ∑ p : Fin 16384, Ideal.div (∑ d : Fin 1024, sq y t p d) (Ideal.ofBits FTy.f32 0x44800000#32)
      = total y t := by
  simp only [div_columns]
  rw [sum_mul_coe _ _ (by norm_num), half_eq, mul_comm, mul_assoc, ← EReal.coe_mul, total, weight_eq]
  norm_num

/-- The derivative of the mean of the squares. -/
theorem slope_two (e : EReal) :
    Ideal.div (Ideal.ofBits FTy.f32 0x3F000000#32 * Ideal.ofBits FTy.f32 0x3F800000#32) (Ideal.ofBits FTy.f32 0x44800000#32)
      * (Ideal.ofBits FTy.f32 0x40000000#32 * e) = e * slope := by
  rw [div_columns, half_eq, one_eq, two_eq, ← mul_assoc, ← EReal.coe_mul, ← EReal.coe_mul, ← EReal.coe_mul, mul_comm, slope_eq]
  norm_num

/-! ## The reference's terms -/

section Reference
open Cert.Reference14Ideal Cert.Reference14Ideal.Gen

variable (Y T : Vec Ideal S16384x1024 .f32)

def diffTerm : FVec Ideal S16384x1024 .f32 := subf Y T

def meanTerm : FVec Ideal S16384 .f32 :=
  Host.divf (Host.reduceAdd (mulf (diffTerm Y T) (diffTerm Y T)) (constant (F := Ideal) S_ .f32 0x00000000#32) reducesTo_S16384x1024_S16384_d1 h_S_)
    (broadcastInDim S16384 ![] bcast_S_S16384 (constant (F := Ideal) S_ .f32 0x44800000#32))

def lossTerm : FVec Ideal S_ .f32 :=
  mulf (constant (F := Ideal) S_ .f32 0x3F000000#32)
    (Host.reduceAdd (meanTerm Y T) (constant (F := Ideal) S_ .f32 0x00000000#32) reducesTo_S16384_S_d0 h_S_)

def gradTerm : FVec Ideal S16384x1024 .f32 :=
  mulf (broadcastInDim S16384x1024 ![0] bcast_S16384_S16384x1024_0 (Host.divf
      (broadcastInDim S16384 ![] bcast_S_S16384 (mulf (constant (F := Ideal) S_ .f32 0x3F000000#32) (constant (F := Ideal) S_ .f32 0x3F800000#32)))
      (broadcastInDim S16384 ![] bcast_S_S16384 (constant (F := Ideal) S_ .f32 0x44800000#32))))
    (mulf (broadcastInDim S16384x1024 ![] bcast_S_S16384x1024 (constant (F := Ideal) S_ .f32 0x40000000#32)) (diffTerm Y T))

theorem meanTerm_at (p : Fin 16384) :
    meanTerm Y T (ix1 p) = Ideal.div (∑ d : Fin 1024, sq (mat Y) (mat T) p d) (Ideal.ofBits FTy.f32 0x44800000#32) := by
  pointwise [meanTerm, diffTerm]

theorem lossTerm_eq : lossTerm Y T = fun _ => total (mat Y) (mat T) := by
  funext j
  rw [← half_means]
  pointwise [lossTerm, meanTerm_at]

theorem gradTerm_eq : gradTerm Y T = arr (grads (mat Y) (mat T)) := by
  funext j
  obtain ⟨p, d, rfl⟩ : ∃ p d, j = ix2 p d := ⟨_, _, eq_ix2 j⟩
  refine Eq.trans ?_ (slope_two (diff (mat Y) (mat T) p d))
  pointwise [gradTerm, diffTerm]

end Reference

/-! ## The claims -/

/-- The shares of the lanes, added up. -/
theorem loss_eq (m : (ℓ : Loc Cert.Kernel14Ideal.nD Cert.Kernel14Ideal.τ Cert.Kernel14Ideal.sig) → Buf (Elt Ideal) ℓ) (c : Dev Cert.Kernel14Ideal.nD) :
    Host.reduceAdd (F := Ideal) (Cert.Kernel14Ideal.Value.reg_main_v0_0 m c) (constant (F := Ideal) Cert.Kernel14Ideal.S_ .f32 0x00000000#32)
        Cert.Kernel14Ideal.Gen.reducesTo_S8x128_S_d0_1 Cert.Kernel14Ideal.Gen.h_S_ = fun _ => total (argOut m c) (argTarget m c) := by
  rw [show Cert.Kernel14Ideal.Value.reg_main_v0_0 m c = _ from shares_array m c]
  funext j
  rw [← sum_shares]
  pointwise
  rfl

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono
    (fun r h => ⟨fun c => (h c).2.2, Idealize.ShloMosaic.sem_eq_zero_of_no_sems (by decide) r.2⟩)
    (Cert.Reference14Ideal.Value.run (F := Ideal) m ρ)

/-- Kernel and reference compute the same loss and the same gradient. -/
theorem algebraic : Cert.algebraic_Kernel14Ideal_Reference14Ideal := by
  intro m ρ m' ρ' _ hag
  refine ⟨fun c => (fun _ => total (argOut m c) (argTarget m c) : Vec Ideal Cert.Kernel14Ideal.S_ .f32), fun c => _,
    (θ_run Cert.Kernel14Ideal.defs _ _).mono (fun r h c => ⟨(h c).1.trans (loss_eq m c), (h c).2.1.trans (grads_array m c), (h c).2.2⟩)
      (Cert.Kernel14Ideal.Value.run (F := Ideal) m ρ),
    (θ_run Cert.Reference14Ideal.defs _ _).mono (fun r h c => ?_) (Cert.Reference14Ideal.Value.run (F := Ideal) m' ρ')⟩
  obtain ⟨h0, h1⟩ := hag c
  obtain ⟨r0, r1, hargs⟩ := h c
  rw [h0, h1] at r0 r1
  exact ⟨r0.trans (lossTerm_eq _ _), r1.trans (gradTerm_eq _ _), hargs⟩

end Cert.Loss
-- ==== Proof.AdamStep.lean ====
/- The optimiser's step at one weight, and the whole-array expressions of the reference read at one place. -/
module

public import proofs.«01_k».proof.Proof.Gen.Reference15Ideal
public import Idealize.ShloMosaic.Lib.Pipeline.ValueKit

@[expose] public section

noncomputable section

namespace Cert.AdamW

open Idealize.ShloMosaic Idealize.ShloMosaic.StableHlo

/-! ## One weight -/

/-- A number of the step, given by its bits. -/
abbrev num (b : BitVec 32) : EReal := Ideal.ofBits FTy.f32 b

/-- The new first moment: nine tenths of the old one and a tenth of the gradient. -/
def first (g m : EReal) : EReal := num 0x3F666666#32 * m + num 0x3DCCCCCD#32 * g

/-- The new second moment, with the square of the gradient. -/
def second (g v : EReal) : EReal := num 0x3F7FBE77#32 * v + num 0x3A83126F#32 * (g * g)

/-- The first moment over the root of the second, each freed of its bias at the tenth step. -/
def direction (g m v : EReal) : EReal :=
  Ideal.div (Ideal.div (first g m) (num 0x3F26BD02#32))
    (Ideal.sqrt (Ideal.div (second g v) (num 0x3C231ACC#32)) + num 0x322BCC77#32)

/-- The change of the weight: against the direction and the decay, times the learning rate. -/
def change (w g m v : EReal) : EReal := num 0xBA83126F#32 * (direction g m v + num 0x3C23D70A#32 * w)

/-! ## The reference's arrays, of any shape -/

section Terms
open Cert.Reference15Ideal
variable {S : Shape} (h : S_.BroadcastsInDim S ![]) (w g m v : FVec Ideal S .f32)

/-- One number at every place. -/
abbrev every (b : BitVec 32) : FVec Ideal S .f32 := broadcastInDim S ![] h (constant (F := Ideal) S_ .f32 b)

abbrev firstTerm : FVec Ideal S .f32 := addf (mulf (every h 0x3F666666#32) m) (mulf (every h 0x3DCCCCCD#32) g)

abbrev secondTerm : FVec Ideal S .f32 := addf (mulf (every h 0x3F7FBE77#32) v) (mulf (every h 0x3A83126F#32) (mulf g g))

abbrev changeTerm : FVec Ideal S .f32 :=
  mulf (every h 0xBA83126F#32) (addf (Host.divf (Host.divf (firstTerm h g m) (every h 0x3F26BD02#32))
    (addf (Host.sqrt (Host.divf (secondTerm h g v) (every h 0x3C231ACC#32))) (every h 0x322BCC77#32))) (mulf (every h 0x3C23D70A#32) w))

/-- The step at every place of arrays. -/
def firsts : FVec Ideal S .f32 := fun j => first (g j) (m j)

def seconds : FVec Ideal S .f32 := fun j => second (g j) (v j)

def changes : FVec Ideal S .f32 := fun j => change (w j) (g j) (m j) (v j)

/-- The reference's three arrays are the step at every place, from arguments that agree. -/
theorem step_eq {w' g' m' v' : FVec Ideal S .f32} (hg : g' = g) (hw : w' = w) (hm : m' = m) (hv : v' = v) :
    changeTerm h w' g' m' v' = changes w g m v ∧ firstTerm h g' m' = firsts g m ∧ secondTerm h g' v' = seconds g v := by
  subst hg hw hm hv
  exact ⟨rfl, rfl, rfl⟩

/-- The sum of two partial gradients, from parts that agree. -/
theorem sum_eq {a b a' b' : FVec Ideal S .f32} (ha : a' = a) (hb : b' = b) : addf a' b' = addf a b := by rw [ha, hb]

end Terms

end Cert.AdamW
-- ==== Proof.AdamWClaims.lean ====
/- The optimiser's step: the claims of its calls, for each shape of a weight's shard and for the small weights packed into one array. -/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.AdamStep
public import Idealize.ShloMosaic.Lib.Quiescent

@[expose] public section

noncomputable section

open Idealize.ShloMosaic Idealize.ShloMosaic.TcCoe Idealize.SL.Sem Idealize.ShloMosaic.StableHlo

/-! ## The weights of the feed-forward block, a shard of 2048 rows and 1024 columns, from two partial gradients -/

namespace Cert.AdamW

open Cert.AdamW

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

open Cert.Kernel15Ideal in
/-- The gradient. -/
abbrev grad (m : (ℓ : Loc nD τ sig) → Buf (Elt Ideal) ℓ) (c : Dev nD) : FVec Ideal S2048x1024 .f32 := addf (m ((c : Thread nD τ).loc main_arg0)) (m ((c : Thread nD τ).loc main_arg1))

open Cert.Kernel15Ideal in
theorem algebraic : Cert.algebraic_Kernel15Ideal_Reference15Ideal := by
  intro m ρ m' ρ' _ hag
  refine ⟨grad m, fun c => changes (m ((c : Thread nD τ).loc main_arg2)) (grad m c) (m ((c : Thread nD τ).loc main_arg3)) (m ((c : Thread nD τ).loc main_arg4)),
    fun c => firsts (grad m c) (m ((c : Thread nD τ).loc main_arg3)), fun c => seconds (grad m c) (m ((c : Thread nD τ).loc main_arg4)),
    Value.run (F := Ideal) m ρ, (θ_run Cert.Reference15Ideal.defs _ _).mono (fun r h c => ?_) (Cert.Reference15Ideal.Value.run (F := Ideal) m' ρ')⟩
  obtain ⟨h0, h1, h2, h3, h4⟩ := hag c
  obtain ⟨r0, r1, r2, r3, hargs⟩ := h c
  have hg := sum_eq (S := S2048x1024) h0 h1
  obtain ⟨e1, e2, e3⟩ := step_eq Cert.Reference15Ideal.Gen.bcast_S_S2048x1024 _ _ _ _ hg h2 h3 h4
  exact ⟨r0.trans hg, r1.trans e1, r2.trans e2, r3.trans e3, hargs⟩

end Cert.AdamW

/-! ## The weights of the three branches' outputs, a shard of 1024 rows and 256 columns, from two partial gradients -/

namespace Cert.AdamWPa

open Cert.AdamW

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono
    (fun r h => ⟨fun c => (h c).2.2.2.2, Idealize.ShloMosaic.sem_eq_zero_of_no_sems (by decide) r.2⟩)
    (Cert.Reference17Ideal.Value.run (F := Ideal) m ρ)

open Cert.Kernel17Ideal in
/-- The gradient. -/
abbrev grad (m : (ℓ : Loc nD τ sig) → Buf (Elt Ideal) ℓ) (c : Dev nD) : FVec Ideal S1024x256 .f32 := addf (m ((c : Thread nD τ).loc main_arg0)) (m ((c : Thread nD τ).loc main_arg1))

open Cert.Kernel17Ideal in
theorem algebraic : Cert.algebraic_Kernel17Ideal_Reference17Ideal := by
  intro m ρ m' ρ' _ hag
  refine ⟨grad m, fun c => changes (m ((c : Thread nD τ).loc main_arg2)) (grad m c) (m ((c : Thread nD τ).loc main_arg3)) (m ((c : Thread nD τ).loc main_arg4)),
    fun c => firsts (grad m c) (m ((c : Thread nD τ).loc main_arg3)), fun c => seconds (grad m c) (m ((c : Thread nD τ).loc main_arg4)),
    Value.run (F := Ideal) m ρ, (θ_run Cert.Reference17Ideal.defs _ _).mono (fun r h c => ?_) (Cert.Reference17Ideal.Value.run (F := Ideal) m' ρ')⟩
  obtain ⟨h0, h1, h2, h3, h4⟩ := hag c
  obtain ⟨r0, r1, r2, r3, hargs⟩ := h c
  have hg := sum_eq (S := S1024x256) h0 h1
  obtain ⟨e1, e2, e3⟩ := step_eq Cert.Reference17Ideal.Gen.bcast_S_S1024x256 _ _ _ _ hg h2 h3 h4
  exact ⟨r0.trans hg, r1.trans e1, r2.trans e2, r3.trans e3, hargs⟩

end Cert.AdamWPa

/-! ## The weights of the merged output, a shard of 512 rows and 1024 columns, from two partial gradients -/

namespace Cert.AdamWO

open Cert.AdamW

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

open Cert.Kernel18Ideal in
/-- The gradient. -/
abbrev grad (m : (ℓ : Loc nD τ sig) → Buf (Elt Ideal) ℓ) (c : Dev nD) : FVec Ideal S512x1024 .f32 := addf (m ((c : Thread nD τ).loc main_arg0)) (m ((c : Thread nD τ).loc main_arg1))

open Cert.Kernel18Ideal in
theorem algebraic : Cert.algebraic_Kernel18Ideal_Reference18Ideal := by
  intro m ρ m' ρ' _ hag
  refine ⟨grad m, fun c => changes (m ((c : Thread nD τ).loc main_arg2)) (grad m c) (m ((c : Thread nD τ).loc main_arg3)) (m ((c : Thread nD τ).loc main_arg4)),
    fun c => firsts (grad m c) (m ((c : Thread nD τ).loc main_arg3)), fun c => seconds (grad m c) (m ((c : Thread nD τ).loc main_arg4)),
    Value.run (F := Ideal) m ρ, (θ_run Cert.Reference18Ideal.defs _ _).mono (fun r h c => ?_) (Cert.Reference18Ideal.Value.run (F := Ideal) m' ρ')⟩
  obtain ⟨h0, h1, h2, h3, h4⟩ := hag c
  obtain ⟨r0, r1, r2, r3, hargs⟩ := h c
  have hg := sum_eq (S := S512x1024) h0 h1
  obtain ⟨e1, e2, e3⟩ := step_eq Cert.Reference18Ideal.Gen.bcast_S_S512x1024 _ _ _ _ hg h2 h3 h4
  exact ⟨r0.trans hg, r1.trans e1, r2.trans e2, r3.trans e3, hargs⟩

end Cert.AdamWO

/-! ## The weights of the input projection, a shard of 2048 rows and 1794 columns, from two partial gradients -/

namespace Cert.AdamWIn

open Cert.AdamW

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono
    (fun r h => ⟨fun c => (h c).2.2.2.2, Idealize.ShloMosaic.sem_eq_zero_of_no_sems (by decide) r.2⟩)
    (Cert.Reference19Ideal.Value.run (F := Ideal) m ρ)

open Cert.Kernel19Ideal in
/-- The gradient. -/
abbrev grad (m : (ℓ : Loc nD τ sig) → Buf (Elt Ideal) ℓ) (c : Dev nD) : FVec Ideal S2048x1794 .f32 := addf (m ((c : Thread nD τ).loc main_arg0)) (m ((c : Thread nD τ).loc main_arg1))

open Cert.Kernel19Ideal in
theorem algebraic : Cert.algebraic_Kernel19Ideal_Reference19Ideal := by
  intro m ρ m' ρ' _ hag
  refine ⟨grad m, fun c => changes (m ((c : Thread nD τ).loc main_arg2)) (grad m c) (m ((c : Thread nD τ).loc main_arg3)) (m ((c : Thread nD τ).loc main_arg4)),
    fun c => firsts (grad m c) (m ((c : Thread nD τ).loc main_arg3)), fun c => seconds (grad m c) (m ((c : Thread nD τ).loc main_arg4)),
    Value.run (F := Ideal) m ρ, (θ_run Cert.Reference19Ideal.defs _ _).mono (fun r h c => ?_) (Cert.Reference19Ideal.Value.run (F := Ideal) m' ρ')⟩
  obtain ⟨h0, h1, h2, h3, h4⟩ := hag c
  obtain ⟨r0, r1, r2, r3, hargs⟩ := h c
  have hg := sum_eq (S := S2048x1794) h0 h1
  obtain ⟨e1, e2, e3⟩ := step_eq Cert.Reference19Ideal.Gen.bcast_S_S2048x1794 _ _ _ _ hg h2 h3 h4
  exact ⟨r0.trans hg, r1.trans e1, r2.trans e2, r3.trans e3, hargs⟩

end Cert.AdamWIn

/-! ## The small weights, packed into 1376 rows of 128, from their packed gradient -/

namespace Cert.AdamWPacked

open Cert.AdamW

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono
    (fun r h => ⟨fun c => (h c).2.2.2.2, Idealize.ShloMosaic.sem_eq_zero_of_no_sems (by decide) r.2⟩)
    (Cert.Reference16Ideal.Value.run (F := Ideal) m ρ)

open Cert.Kernel16Ideal in
/-- The gradient. -/
abbrev grad (m : (ℓ : Loc nD τ sig) → Buf (Elt Ideal) ℓ) (c : Dev nD) : FVec Ideal S1376x128 .f32 := m ((c : Thread nD τ).loc main_arg0)

open Cert.Kernel16Ideal in
theorem algebraic : Cert.algebraic_Kernel16Ideal_Reference16Ideal := by
  intro m ρ m' ρ' _ hag
  refine ⟨grad m, fun c => changes (m ((c : Thread nD τ).loc main_arg1)) (grad m c) (m ((c : Thread nD τ).loc main_arg2)) (m ((c : Thread nD τ).loc main_arg3)),
    fun c => firsts (grad m c) (m ((c : Thread nD τ).loc main_arg2)), fun c => seconds (grad m c) (m ((c : Thread nD τ).loc main_arg3)),
    Value.run (F := Ideal) m ρ, (θ_run Cert.Reference16Ideal.defs _ _).mono (fun r h c => ?_) (Cert.Reference16Ideal.Value.run (F := Ideal) m' ρ')⟩
  obtain ⟨h0, h1, h2, h3⟩ := hag c
  obtain ⟨r0, r1, r2, r3, hargs⟩ := h c
  obtain ⟨e1, e2, e3⟩ := step_eq Cert.Reference16Ideal.Gen.bcast_S_S1376x128 _ _ _ _ h0 h1 h2 h3
  exact ⟨r0.trans h0, r1.trans e1, r2.trans e2, r3.trans e3, hargs⟩

end Cert.AdamWPacked
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.SguClaims
public import proofs.«01_k».proof.Proof.FfnClaims
public import proofs.«01_k».proof.Proof.DwFf2
public import proofs.«01_k».proof.Proof.DwFf1
public import proofs.«01_k».proof.Proof.MergeClaims
public import proofs.«01_k».proof.Proof.DwO
public import proofs.«01_k».proof.Proof.DwInG
public import proofs.«01_k».proof.Proof.DwInB
public import proofs.«01_k».proof.Proof.DwInZ
public import proofs.«01_k».proof.Proof.DwPa
public import proofs.«01_k».proof.Proof.ProjClaims
public import proofs.«01_k».proof.Proof.EntryClaims
public import proofs.«01_k».proof.Proof.SguForward
public import proofs.«01_k».proof.Proof.LossClaims
public import proofs.«01_k».proof.Proof.AdamWClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Sgu.frame_kernel, Cert.Sgu.frame_ideal, Cert.Sgu.frame_reference,
  Cert.Ffn.frame_kernel, Cert.Ffn.frame_ideal, Cert.Ffn.frame_reference,
  Cert.DwFf2.frame_kernel, Cert.DwFf2.frame_ideal, Cert.DwFf2.frame_reference,
  Cert.DwFf1.frame_kernel, Cert.DwFf1.frame_ideal, Cert.DwFf1.frame_reference,
  Cert.Merge.frame_kernel, Cert.Merge.frame_ideal, Cert.Merge.frame_reference,
  Cert.DwO.frame_kernel, Cert.DwO.frame_ideal, Cert.DwO.frame_reference,
  Cert.DwInG.frame_kernel, Cert.DwInG.frame_ideal, Cert.DwInG.frame_reference,
  Cert.DwInB.frame_kernel, Cert.DwInB.frame_ideal, Cert.DwInB.frame_reference,
  Cert.DwInZ.frame_kernel, Cert.DwInZ.frame_ideal, Cert.DwInZ.frame_reference,
  Cert.DwPa.frame_kernel, Cert.DwPa.frame_ideal, Cert.DwPa.frame_reference,
  Cert.Proj.frame_kernel, Cert.Proj.frame_ideal, Cert.Proj.frame_reference,
  Cert.EntryNorm.frame_kernel, Cert.EntryNorm.frame_ideal, Cert.EntryNorm.frame_reference,
  Cert.SguForward.frame_kernel, Cert.SguForward.frame_ideal, Cert.SguForward.frame_reference,
  Cert.Loss.frame_kernel, Cert.Loss.frame_ideal, Cert.Loss.frame_reference,
  Cert.AdamW.frame_kernel, Cert.AdamW.frame_ideal, Cert.AdamW.frame_reference,
  Cert.AdamWPacked.frame_kernel, Cert.AdamWPacked.frame_ideal, Cert.AdamWPacked.frame_reference,
  Cert.AdamWPa.frame_kernel, Cert.AdamWPa.frame_ideal, Cert.AdamWPa.frame_reference,
  Cert.AdamWO.frame_kernel, Cert.AdamWO.frame_ideal, Cert.AdamWO.frame_reference,
  Cert.AdamWIn.frame_kernel, Cert.AdamWIn.frame_ideal, Cert.AdamWIn.frame_reference,
  trivial, Cert.Sgu.algebraic,
  trivial, Cert.Ffn.algebraic,
  trivial, Cert.DwFf2.algebraic,
  trivial, Cert.DwFf1.algebraic,
  trivial, Cert.Merge.algebraic,
  trivial, Cert.DwO.algebraic,
  trivial, Cert.DwInG.algebraic,
  trivial, Cert.DwInB.algebraic,
  trivial, Cert.DwInZ.algebraic,
  trivial, Cert.DwPa.algebraic,
  trivial, Cert.Proj.algebraic,
  trivial, Cert.EntryNorm.algebraic,
  trivial, Cert.SguForward.algebraic,
  trivial, Cert.Loss.algebraic,
  trivial, Cert.AdamW.algebraic,
  trivial, Cert.AdamWPacked.algebraic,
  trivial, Cert.AdamWPa.algebraic,
  trivial, Cert.AdamWO.algebraic,
  trivial, Cert.AdamWIn.algebraic⟩

end Cert.Proof

end
